-- ==== Defs.lean ====
def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_HQuant (m : (ℓ : Loc Cert.HQuant.nD Cert.HQuant.τ Cert.HQuant.sig) → Buf (Elt Bits) ℓ) : Prop :=
  True

def Pre_HQuantIdeal (m : (ℓ : Loc Cert.HQuantIdeal.nD Cert.HQuantIdeal.τ Cert.HQuantIdeal.sig) → Buf (Elt Ideal) ℓ) : Prop :=
  True

def Pre_HQuantRefIdeal (m : (ℓ : Loc Cert.HQuantRefIdeal.nD Cert.HQuantRefIdeal.τ Cert.HQuantRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_HQuant [hHQuant : Cert.HQuant.Facts] : Prop :=
  ∀ (m : (ℓ : Loc Cert.HQuant.nD Cert.HQuant.τ Cert.HQuant.sig) → Buf (Elt Bits) ℓ) (g : Dev Cert.HQuant.nD → PrngReg), Pre_HQuant m →
    θ_run (Cert.HQuant.defs (F := Bits)) (onTc (τ := Cert.HQuant.τ) (Cert.HQuant.main (F := Bits))) ⟨m, fun _ => 0, g⟩ (fun r => (∀ c : Dev Cert.HQuant.nD,
      r.2.mem ((c.tc : Thread Cert.HQuant.nD Cert.HQuant.τ).loc Cert.HQuant.main_arg0) = m ((c.tc : Thread Cert.HQuant.nD Cert.HQuant.τ).loc Cert.HQuant.main_arg0)
      ∧ r.2.mem ((c.tc : Thread Cert.HQuant.nD Cert.HQuant.τ).loc Cert.HQuant.main_arg1) = m ((c.tc : Thread Cert.HQuant.nD Cert.HQuant.τ).loc Cert.HQuant.main_arg1))
      ∧ r.2.sem = fun _ => 0)

def quiescent_HQuantIdeal [hHQuantIdeal : Cert.HQuantIdeal.Facts] : Prop :=
  ∀ (m : (ℓ : Loc Cert.HQuantIdeal.nD Cert.HQuantIdeal.τ Cert.HQuantIdeal.sig) → Buf (Elt Ideal) ℓ) (g : Dev Cert.HQuantIdeal.nD → PrngReg), Pre_HQuantIdeal m →
    θ_run (Cert.HQuantIdeal.defs (F := Ideal)) (onTc (τ := Cert.HQuantIdeal.τ) (Cert.HQuantIdeal.main (F := Ideal))) ⟨m, fun _ => 0, g⟩ (fun r => (∀ c : Dev Cert.HQuantIdeal.nD,
      r.2.mem ((c.tc : Thread Cert.HQuantIdeal.nD Cert.HQuantIdeal.τ).loc Cert.HQuantIdeal.main_arg0) = m ((c.tc : Thread Cert.HQuantIdeal.nD Cert.HQuantIdeal.τ).loc Cert.HQuantIdeal.main_arg0)
      ∧ r.2.mem ((c.tc : Thread Cert.HQuantIdeal.nD Cert.HQuantIdeal.τ).loc Cert.HQuantIdeal.main_arg1) = m ((c.tc : Thread Cert.HQuantIdeal.nD Cert.HQuantIdeal.τ).loc Cert.HQuantIdeal.main_arg1))
      ∧ r.2.sem = fun _ => 0)

def quiescent_HQuantRefIdeal [hHQuantRefIdeal : Cert.HQuantRefIdeal.Facts] : Prop :=
  ∀ (m : (ℓ : Loc Cert.HQuantRefIdeal.nD Cert.HQuantRefIdeal.τ Cert.HQuantRefIdeal.sig) → Buf (Elt Ideal) ℓ) (g : Dev Cert.HQuantRefIdeal.nD → PrngReg), Pre_HQuantRefIdeal m →
    θ_run (Cert.HQuantRefIdeal.defs (F := Ideal)) (onTc (τ := Cert.HQuantRefIdeal.τ) (Cert.HQuantRefIdeal.main (F := Ideal))) ⟨m, fun _ => 0, g⟩ (fun r => (∀ c : Dev Cert.HQuantRefIdeal.nD,
      r.2.mem ((c.tc : Thread Cert.HQuantRefIdeal.nD Cert.HQuantRefIdeal.τ).loc Cert.HQuantRefIdeal.main_arg0) = m ((c.tc : Thread Cert.HQuantRefIdeal.nD Cert.HQuantRefIdeal.τ).loc Cert.HQuantRefIdeal.main_arg0)
      ∧ r.2.mem ((c.tc : Thread Cert.HQuantRefIdeal.nD Cert.HQuantRefIdeal.τ).loc Cert.HQuantRefIdeal.main_arg1) = m ((c.tc : Thread Cert.HQuantRefIdeal.nD Cert.HQuantRefIdeal.τ).loc Cert.HQuantRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v1_0)) (v1 : (c : Dev Cert.GateUpIdeal.nD) → Buf (Elt Ideal) ((c.tc : Thread Cert.GateUpIdeal.nD Cert.GateUpIdeal.τ).loc Cert.GateUpIdeal.main_v1_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1_0) = v0 c
          ∧ r.2.mem ((c.tc : Thread Cert.GateUpIdeal.nD Cert.GateUpIdeal.τ).loc Cert.GateUpIdeal.main_v1_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_HQuant_HQuantIdeal : Prop :=
  True

def algebraic_HQuantIdeal_HQuantRefIdeal [hHQuantIdeal : Cert.HQuantIdeal.Facts] [hHQuantRefIdeal : Cert.HQuantRefIdeal.Facts] : Prop :=
  ∀ (m : (ℓ : Loc Cert.HQuantIdeal.nD Cert.HQuantIdeal.τ Cert.HQuantIdeal.sig) → Buf (Elt Ideal) ℓ) (g : Dev Cert.HQuantIdeal.nD → PrngReg)
    (m' : (ℓ : Loc Cert.HQuantRefIdeal.nD Cert.HQuantRefIdeal.τ Cert.HQuantRefIdeal.sig) → Buf (Elt Ideal) ℓ) (g' : Dev Cert.HQuantRefIdeal.nD → PrngReg), Pre_HQuantIdeal m →
    (∀ c : Dev Cert.HQuantIdeal.nD,
      m' ((c.tc : Thread Cert.HQuantRefIdeal.nD Cert.HQuantRefIdeal.τ).loc Cert.HQuantRefIdeal.main_arg0) = m ((c.tc : Thread Cert.HQuantIdeal.nD Cert.HQuantIdeal.τ).loc Cert.HQuantIdeal.main_arg0)
      ∧ m' ((c.tc : Thread Cert.HQuantRefIdeal.nD Cert.HQuantRefIdeal.τ).loc Cert.HQuantRefIdeal.main_arg1) = m ((c.tc : Thread Cert.HQuantIdeal.nD Cert.HQuantIdeal.τ).loc Cert.HQuantIdeal.main_arg1)) →
    ∃ (v0 : (c : Dev Cert.HQuantIdeal.nD) → Buf (Elt Ideal) ((c.tc : Thread Cert.HQuantIdeal.nD Cert.HQuantIdeal.τ).loc Cert.HQuantIdeal.main_v0)),
      θ_run (Cert.HQuantIdeal.defs (F := Ideal)) (onTc (τ := Cert.HQuantIdeal.τ) (Cert.HQuantIdeal.main (F := Ideal))) ⟨m, fun _ => 0, g⟩ (fun r => ∀ c : Dev Cert.HQuantIdeal.nD,
          r.2.mem ((c.tc : Thread Cert.HQuantIdeal.nD Cert.HQuantIdeal.τ).loc Cert.HQuantIdeal.main_v0) = v0 c
          ∧ r.2.mem ((c.tc : Thread Cert.HQuantIdeal.nD Cert.HQuantIdeal.τ).loc Cert.HQuantIdeal.main_arg0) = m ((c.tc : Thread Cert.HQuantIdeal.nD Cert.HQuantIdeal.τ).loc Cert.HQuantIdeal.main_arg0)
          ∧ r.2.mem ((c.tc : Thread Cert.HQuantIdeal.nD Cert.HQuantIdeal.τ).loc Cert.HQuantIdeal.main_arg1) = m ((c.tc : Thread Cert.HQuantIdeal.nD Cert.HQuantIdeal.τ).loc Cert.HQuantIdeal.main_arg1))
      ∧ θ_run (Cert.HQuantRefIdeal.defs (F := Ideal)) (onTc (τ := Cert.HQuantRefIdeal.τ) (Cert.HQuantRefIdeal.main (F := Ideal))) ⟨m', fun _ => 0, g'⟩ (fun r => ∀ c : Dev Cert.HQuantRefIdeal.nD,
          r.2.mem ((c.tc : Thread Cert.HQuantRefIdeal.nD Cert.HQuantRefIdeal.τ).loc Cert.HQuantRefIdeal.main_v0) = v0 c
          ∧ r.2.mem ((c.tc : Thread Cert.HQuantRefIdeal.nD Cert.HQuantRefIdeal.τ).loc Cert.HQuantRefIdeal.main_arg0) = m' ((c.tc : Thread Cert.HQuantRefIdeal.nD Cert.HQuantRefIdeal.τ).loc Cert.HQuantRefIdeal.main_arg0)
          ∧ r.2.mem ((c.tc : Thread Cert.HQuantRefIdeal.nD Cert.HQuantRefIdeal.τ).loc Cert.HQuantRefIdeal.main_arg1) = m' ((c.tc : Thread Cert.HQuantRefIdeal.nD Cert.HQuantRefIdeal.τ).loc Cert.HQuantRefIdeal.main_arg1))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v3_0)) (v1 : (c : Dev Cert.AttnIdeal.nD) → Buf (Elt Ideal) ((c.tc : Thread Cert.AttnIdeal.nD Cert.AttnIdeal.τ).loc Cert.AttnIdeal.main_v3_1)) (v2 : (c : Dev Cert.AttnIdeal.nD) → Buf (Elt Ideal) ((c.tc : Thread Cert.AttnIdeal.nD Cert.AttnIdeal.τ).loc Cert.AttnIdeal.main_v3_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3_0) = v0 c
          ∧ r.2.mem ((c.tc : Thread Cert.AttnIdeal.nD Cert.AttnIdeal.τ).loc Cert.AttnIdeal.main_v3_1) = v1 c
          ∧ r.2.mem ((c.tc : Thread Cert.AttnIdeal.nD Cert.AttnIdeal.τ).loc Cert.AttnIdeal.main_v3_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v0_0) = v0 c
          ∧ r.2.mem ((c.tc : Thread Cert.AttnRefIdeal.nD Cert.AttnRefIdeal.τ).loc Cert.AttnRefIdeal.main_v0_1) = v1 c
          ∧ r.2.mem ((c.tc : Thread Cert.AttnRefIdeal.nD Cert.AttnRefIdeal.τ).loc Cert.AttnRefIdeal.main_v0_2) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)) →
    ∃ (v0 : (c : Dev Cert.QkvIdeal.nD) → Buf (Elt Ideal) ((c.tc : Thread Cert.QkvIdeal.nD Cert.QkvIdeal.τ).loc Cert.QkvIdeal.main_v6_0)) (v1 : (c : Dev Cert.QkvIdeal.nD) → Buf (Elt Ideal) ((c.tc : Thread Cert.QkvIdeal.nD Cert.QkvIdeal.τ).loc Cert.QkvIdeal.main_v6_1)) (v2 : (c : Dev Cert.QkvIdeal.nD) → Buf (Elt Ideal) ((c.tc : Thread Cert.QkvIdeal.nD Cert.QkvIdeal.τ).loc Cert.QkvIdeal.main_v6_2)) (v3 : (c : Dev Cert.QkvIdeal.nD) → Buf (Elt Ideal) ((c.tc : Thread Cert.QkvIdeal.nD Cert.QkvIdeal.τ).loc Cert.QkvIdeal.main_v6_3)) (v4 : (c : Dev Cert.QkvIdeal.nD) → Buf (Elt Ideal) ((c.tc : Thread Cert.QkvIdeal.nD Cert.QkvIdeal.τ).loc Cert.QkvIdeal.main_v6_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v6_0) = v0 c
          ∧ r.2.mem ((c.tc : Thread Cert.QkvIdeal.nD Cert.QkvIdeal.τ).loc Cert.QkvIdeal.main_v6_1) = v1 c
          ∧ r.2.mem ((c.tc : Thread Cert.QkvIdeal.nD Cert.QkvIdeal.τ).loc Cert.QkvIdeal.main_v6_2) = v2 c
          ∧ r.2.mem ((c.tc : Thread Cert.QkvIdeal.nD Cert.QkvIdeal.τ).loc Cert.QkvIdeal.main_v6_3) = v3 c
          ∧ r.2.mem ((c.tc : Thread Cert.QkvIdeal.nD Cert.QkvIdeal.τ).loc Cert.QkvIdeal.main_v6_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9))

def Claim : Prop :=
  ∃ (hOut : Cert.Out.Facts) (hOutIdeal : Cert.OutIdeal.Facts) (hOutRefIdeal : Cert.OutRefIdeal.Facts) (hGateUp : Cert.GateUp.Facts) (hGateUpIdeal : Cert.GateUpIdeal.Facts) (hGateUpRefIdeal : Cert.GateUpRefIdeal.Facts) (hHQuant : Cert.HQuant.Facts) (hHQuantIdeal : Cert.HQuantIdeal.Facts) (hHQuantRefIdeal : Cert.HQuantRefIdeal.Facts) (hAttn : Cert.Attn.Facts) (hAttnIdeal : Cert.AttnIdeal.Facts) (hAttnRefIdeal : Cert.AttnRefIdeal.Facts) (hQkv : Cert.Qkv.Facts) (hQkvIdeal : Cert.QkvIdeal.Facts) (hQkvRefIdeal : Cert.QkvRefIdeal.Facts),
    quiescent_Out (hOut := hOut)
    ∧ quiescent_OutIdeal (hOutIdeal := hOutIdeal)
    ∧ quiescent_OutRefIdeal (hOutRefIdeal := hOutRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_HQuant (hHQuant := hHQuant)
    ∧ quiescent_HQuantIdeal (hHQuantIdeal := hHQuantIdeal)
    ∧ quiescent_HQuantRefIdeal (hHQuantRefIdeal := hHQuantRefIdeal)
    ∧ quiescent_Attn (hAttn := hAttn)
    ∧ quiescent_AttnIdeal (hAttnIdeal := hAttnIdeal)
    ∧ quiescent_AttnRefIdeal (hAttnRefIdeal := hAttnRefIdeal)
    ∧ quiescent_Qkv (hQkv := hQkv)
    ∧ quiescent_QkvIdeal (hQkvIdeal := hQkvIdeal)
    ∧ quiescent_QkvRefIdeal (hQkvRefIdeal := hQkvRefIdeal)
    ∧ preserves_Out_OutIdeal
    ∧ algebraic_OutIdeal_OutRefIdeal (hOutIdeal := hOutIdeal) (hOutRefIdeal := hOutRefIdeal)
    ∧ preserves_GateUp_GateUpIdeal
    ∧ algebraic_GateUpIdeal_GateUpRefIdeal (hGateUpIdeal := hGateUpIdeal) (hGateUpRefIdeal := hGateUpRefIdeal)
    ∧ preserves_HQuant_HQuantIdeal
    ∧ algebraic_HQuantIdeal_HQuantRefIdeal (hHQuantIdeal := hHQuantIdeal) (hHQuantRefIdeal := hHQuantRefIdeal)
    ∧ preserves_Attn_AttnIdeal
    ∧ algebraic_AttnIdeal_AttnRefIdeal (hAttnIdeal := hAttnIdeal) (hAttnRefIdeal := hAttnRefIdeal)
    ∧ preserves_Qkv_QkvIdeal
    ∧ algebraic_QkvIdeal_QkvRefIdeal (hQkvIdeal := hQkvIdeal) (hQkvRefIdeal := hQkvRefIdeal)
-- ==== Out.lean ====
abbrev S1280x2048 : Shape := ⟨2, ![1280, 2048]⟩
abbrev S1280x1 : Shape := ⟨2, ![1280, 1]⟩
abbrev S1280x7168 : Shape := ⟨2, ![1280, 7168]⟩
abbrev S16x128x4096 : Shape := ⟨3, ![16, 128, 4096]⟩
abbrev S7168x4096 : Shape := ⟨2, ![7168, 4096]⟩
abbrev S4096 : Shape := ⟨1, ![4096]⟩
abbrev S1280x4096 : Shape := ⟨2, ![1280, 4096]⟩
abbrev S2048x4096 : Shape := ⟨2, ![2048, 4096]⟩
abbrev S1x4096 : Shape := ⟨2, ![1, 4096]⟩
abbrev S2048x512 : Shape := ⟨2, ![2048, 512]⟩
abbrev S7168x512 : Shape := ⟨2, ![7168, 512]⟩
abbrev S1x512 : Shape := ⟨2, ![1, 512]⟩
abbrev S1280x512 : Shape := ⟨2, ![1280, 512]⟩
abbrev S256x2048 : Shape := ⟨2, ![256, 2048]⟩
abbrev S256x512 : Shape := ⟨2, ![256, 512]⟩
abbrev S256x1 : Shape := ⟨2, ![256, 1]⟩
abbrev S256x7168 : Shape := ⟨2, ![256, 7168]⟩

abbrev nBuf : Space → Nat
  | .hbm => 13
  | .vmem => 16
  | .smem => 0
  | _ => 0

abbrev bufTy : (tb : Table) → Fin (tcTables nBuf tb) → BufTy
  | .hbm, ⟨0, _⟩ => ⟨S1280x2048, .fp8e4m3⟩
  | .hbm, ⟨1, _⟩ => ⟨S1280x1, .f32⟩
  | .hbm, ⟨2, _⟩ => ⟨S1280x7168, .fp8e4m3⟩
  | .hbm, ⟨3, _⟩ => ⟨S1280x1, .f32⟩
  | .hbm, ⟨4, _⟩ => ⟨S16x128x4096, .fp8e4m3⟩
  | .hbm, ⟨5, _⟩ => ⟨S7168x4096, .fp8e4m3⟩
  | .hbm, ⟨6, _⟩ => ⟨S4096, .f32⟩
  | .hbm, ⟨7, _⟩ => ⟨S4096, .f32⟩
  | .hbm, ⟨8, _⟩ => ⟨S1280x4096, .bf16⟩
  | .hbm, ⟨9, _⟩ => ⟨S2048x4096, .fp8e4m3⟩
  | .hbm, ⟨10, _⟩ => ⟨S1x4096, .f32⟩
  | .hbm, ⟨11, _⟩ => ⟨S1x4096, .f32⟩
  | .hbm, ⟨12, _⟩ => ⟨S1280x4096, .bf16⟩
  | .local _ .vmem, ⟨0, _⟩ => ⟨S1280x2048, .fp8e4m3⟩
  | .local _ .vmem, ⟨1, _⟩ => ⟨S1280x1, .f32⟩
  | .local _ .vmem, ⟨2, _⟩ => ⟨S1280x7168, .fp8e4m3⟩
  | .local _ .vmem, ⟨3, _⟩ => ⟨S1280x1, .f32⟩
  | .local _ .vmem, ⟨4, _⟩ => ⟨S2048x512, .fp8e4m3⟩
  | .local _ .vmem, ⟨5, _⟩ => ⟨S2048x512, .fp8e4m3⟩
  | .local _ .vmem, ⟨6, _⟩ => ⟨S7168x512, .fp8e4m3⟩
  | .local _ .vmem, ⟨7, _⟩ => ⟨S7168x512, .fp8e4m3⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1280x512, .bf16⟩
  | .local _ .vmem, ⟨13, _⟩ => ⟨S1280x512, .bf16⟩
  | .local _ .vmem, ⟨14, _⟩ => ⟨S1280x512, .bf16⟩
  | .local _ .vmem, ⟨15, _⟩ => ⟨S1280x512, .bf16⟩
  | _, _ => ⟨S1280x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1280x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1280x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S7168x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1280x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1280x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S1280x2048 : Shape := ⟨2, ![1280, 2048]⟩
abbrev S1280x1 : Shape := ⟨2, ![1280, 1]⟩
abbrev S1280x7168 : Shape := ⟨2, ![1280, 7168]⟩
abbrev S16x128x4096 : Shape := ⟨3, ![16, 128, 4096]⟩
abbrev S7168x4096 : Shape := ⟨2, ![7168, 4096]⟩
abbrev S4096 : Shape := ⟨1, ![4096]⟩
abbrev S1280x4096 : Shape := ⟨2, ![1280, 4096]⟩
abbrev S2048x4096 : Shape := ⟨2, ![2048, 4096]⟩
abbrev S1x4096 : Shape := ⟨2, ![1, 4096]⟩

abbrev nBuf : Space → Nat
  | .hbm => 11
  | .vmem => 10
  | .smem => 0
  | _ => 0

abbrev bufTy : (tb : Table) → Fin (tcTables nBuf tb) → BufTy
  | .hbm, ⟨0, _⟩ => ⟨S1280x2048, .fp8e4m3⟩
  | .hbm, ⟨1, _⟩ => ⟨S1280x1, .f32⟩
  | .hbm, ⟨2, _⟩ => ⟨S1280x7168, .fp8e4m3⟩
  | .hbm, ⟨3, _⟩ => ⟨S1280x1, .f32⟩
  | .hbm, ⟨4, _⟩ => ⟨S16x128x4096, .fp8e4m3⟩
  | .hbm, ⟨5, _⟩ => ⟨S7168x4096, .fp8e4m3⟩
  | .hbm, ⟨6, _⟩ => ⟨S4096, .f32⟩
  | .hbm, ⟨7, _⟩ => ⟨S4096, .f32⟩
  | .hbm, ⟨8, _⟩ => ⟨S1280x4096, .bf16⟩
  | .hbm, ⟨9, _⟩ => ⟨S2048x4096, .fp8e4m3⟩
  | .hbm, ⟨10, _⟩ => ⟨S1280x4096, .bf16⟩
  | .local _ .vmem, ⟨0, _⟩ => ⟨S1280x2048, .fp8e4m3⟩
  | .local _ .vmem, ⟨1, _⟩ => ⟨S1280x1, .f32⟩
  | .local _ .vmem, ⟨2, _⟩ => ⟨S1280x7168, .fp8e4m3⟩
  | .local _ .vmem, ⟨3, _⟩ => ⟨S1280x1, .f32⟩
  | .local _ .vmem, ⟨4, _⟩ => ⟨S2048x4096, .fp8e4m3⟩
  | .local _ .vmem, ⟨5, _⟩ => ⟨S7168x4096, .fp8e4m3⟩
  | .local _ .vmem, ⟨6, _⟩ => ⟨S4096, .f32⟩
  | .local _ .vmem, ⟨7, _⟩ => ⟨S4096, .f32⟩
  | .local _ .vmem, ⟨8, _⟩ => ⟨S1280x4096, .bf16⟩
  | .local _ .vmem, ⟨9, _⟩ => ⟨S1280x4096, .bf16⟩
  | _, _ => ⟨S1280x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1280x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1280x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1280x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== GateUp.lean ====
abbrev S1280x4096 : Shape := ⟨2, ![1280, 4096]⟩
abbrev S1280x1 : Shape := ⟨2, ![1280, 1]⟩
abbrev S4096x17408 : Shape := ⟨2, ![4096, 17408]⟩
abbrev S17408 : Shape := ⟨1, ![17408]⟩
abbrev S1x17408 : Shape := ⟨2, ![1, 17408]⟩
abbrev S1280x7168 : Shape := ⟨2, ![1280, 7168]⟩
abbrev S4096x256 : Shape := ⟨2, ![4096, 256]⟩
abbrev S1x256 : Shape := ⟨2, ![1, 256]⟩
abbrev S1280x256 : Shape := ⟨2, ![1280, 256]⟩
abbrev S1280x128 : Shape := ⟨2, ![1280, 128]⟩
abbrev S256x4096 : Shape := ⟨2, ![256, 4096]⟩
abbrev S256x1 : Shape := ⟨2, ![256, 1]⟩
abbrev S256x256 : Shape := ⟨2, ![256, 256]⟩
abbrev S256x128 : Shape := ⟨2, ![256, 128]⟩
abbrev S1280 : Shape := ⟨1, ![1280]⟩

abbrev nBuf : Space → Nat
  | .hbm => 7
  | .vmem => 14
  | .smem => 0
  | _ => 0

abbrev bufTy : (tb : Table) → Fin (tcTables nBuf tb) → BufTy
  | .hbm, ⟨0, _⟩ => ⟨S1280x4096, .fp8e4m3⟩
  | .hbm, ⟨1, _⟩ => ⟨S1280x1, .f32⟩
  | .hbm, ⟨2, _⟩ => ⟨S4096x17408, .fp8e4m3⟩
  | .hbm, ⟨3, _⟩ => ⟨S17408, .f32⟩
  | .hbm, ⟨4, _⟩ => ⟨S1x17408, .f32⟩
  | .hbm, ⟨5, _⟩ => ⟨S1280x7168, .f32⟩
  | .hbm, ⟨6, _⟩ => ⟨S1280x1, .f32⟩
  | .local _ .vmem, ⟨0, _⟩ => ⟨S1280x4096, .fp8e4m3⟩
  | .local _ .vmem, ⟨1, _⟩ => ⟨S1280x1, .f32⟩
  | .local _ .vmem, ⟨2, _⟩ => ⟨S4096x256, .fp8e4m3⟩
  | .local _ .vmem, ⟨3, _⟩ => ⟨S4096x256, .fp8e4m3⟩
  | .local _ .vmem, ⟨4, _⟩ => ⟨S4096x256, .fp8e4m3⟩
  | .local _ .vmem, ⟨5, _⟩ => ⟨S4096x256, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1280x256, .f32⟩
  | .local _ .vmem, ⟨11, _⟩ => ⟨S1280x256, .f32⟩
  | .local _ .vmem, ⟨12, _⟩ => ⟨S1280x1, .f32⟩
  | .local _ .vmem, ⟨13, _⟩ => ⟨S1280x128, .f32⟩
  | _, _ => ⟨S1280x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![28], ![false]⟩

def k0_cond2 (i : grid0.Coords) : BitVec 1 :=
  let arg0 : BitVec 32 := BitVec.ofNat 32 (i 0).val
  let c27_i32 : BitVec 32 := 27#32
  let v158 : BitVec 1 := Scalar.cmpi .eq arg0 c27_i32
  let v159 : BitVec 32 := Scalar.extui v158
  let c0_i32_95 : BitVec 32 := 0#32
  let v160 : BitVec 1 := Scalar.cmpi .ne v159 c0_i32_95
  v160

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1280x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1280x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1280x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1280x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateUpRefIdeal.lean ====
abbrev S1280x4096 : Shape := ⟨2, ![1280, 4096]⟩
abbrev S1280x1 : Shape := ⟨2, ![1280, 1]⟩
abbrev S4096x17408 : Shape := ⟨2, ![4096, 17408]⟩
abbrev S17408 : Shape := ⟨1, ![17408]⟩
abbrev S1280x7168 : Shape := ⟨2, ![1280, 7168]⟩
abbrev S1280x17408 : Shape := ⟨2, ![1280, 17408]⟩
abbrev S1x17408 : Shape := ⟨2, ![1, 17408]⟩
abbrev S1280 : Shape := ⟨1, ![1280]⟩

abbrev nBuf : Space → Nat
  | .hbm => 6
  | .vmem => 6
  | .smem => 0
  | _ => 0

abbrev bufTy : (tb : Table) → Fin (tcTables nBuf tb) → BufTy
  | .hbm, ⟨0, _⟩ => ⟨S1280x4096, .fp8e4m3⟩
  | .hbm, ⟨1, _⟩ => ⟨S1280x1, .f32⟩
  | .hbm, ⟨2, _⟩ => ⟨S4096x17408, .fp8e4m3⟩
  | .hbm, ⟨3, _⟩ => ⟨S17408, .f32⟩
  | .hbm, ⟨4, _⟩ => ⟨S1280x7168, .f32⟩
  | .hbm, ⟨5, _⟩ => ⟨S1280x1, .f32⟩
  | .local _ .vmem, ⟨0, _⟩ => ⟨S1280x4096, .fp8e4m3⟩
  | .local _ .vmem, ⟨1, _⟩ => ⟨S1280x1, .f32⟩
  | .local _ .vmem, ⟨2, _⟩ => ⟨S4096x17408, .fp8e4m3⟩
  | .local _ .vmem, ⟨3, _⟩ => ⟨S17408, .f32⟩
  | .local _ .vmem, ⟨4, _⟩ => ⟨S1280x7168, .f32⟩
  | .local _ .vmem, ⟨5, _⟩ => ⟨S1280x1, .f32⟩
  | _, _ => ⟨S1280x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1280x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x17408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S17408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== HQuant.lean ====
abbrev S1280x7168 : Shape := ⟨2, ![1280, 7168]⟩
abbrev S1280x1 : Shape := ⟨2, ![1280, 1]⟩
abbrev S128x7168 : Shape := ⟨2, ![128, 7168]⟩
abbrev S128x1 : Shape := ⟨2, ![128, 1]⟩

abbrev nBuf : Space → Nat
  | .hbm => 3
  | .vmem => 6
  | .smem => 0
  | _ => 0

abbrev bufTy : (tb : Table) → Fin (tcTables nBuf tb) → BufTy
  | .hbm, ⟨0, _⟩ => ⟨S1280x7168, .f32⟩
  | .hbm, ⟨1, _⟩ => ⟨S1280x1, .f32⟩
  | .hbm, ⟨2, _⟩ => ⟨S1280x7168, .fp8e4m3⟩
  | .local _ .vmem, ⟨0, _⟩ => ⟨S128x7168, .f32⟩
  | .local _ .vmem, ⟨1, _⟩ => ⟨S128x7168, .f32⟩
  | .local _ .vmem, ⟨2, _⟩ => ⟨S128x1, .f32⟩
  | .local _ .vmem, ⟨3, _⟩ => ⟨S128x1, .f32⟩
  | .local _ .vmem, ⟨4, _⟩ => ⟨S128x7168, .fp8e4m3⟩
  | .local _ .vmem, ⟨5, _⟩ => ⟨S128x7168, .fp8e4m3⟩
  | _, _ => ⟨S1280x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HQuantRefIdeal.lean ====
abbrev S1280x7168 : Shape := ⟨2, ![1280, 7168]⟩
abbrev S1280x1 : Shape := ⟨2, ![1280, 1]⟩

abbrev nBuf : Space → Nat
  | .hbm => 3
  | .vmem => 3
  | .smem => 0
  | _ => 0

abbrev bufTy : (tb : Table) → Fin (tcTables nBuf tb) → BufTy
  | .hbm, ⟨0, _⟩ => ⟨S1280x7168, .f32⟩
  | .hbm, ⟨1, _⟩ => ⟨S1280x1, .f32⟩
  | .hbm, ⟨2, _⟩ => ⟨S1280x7168, .fp8e4m3⟩
  | .local _ .vmem, ⟨0, _⟩ => ⟨S1280x7168, .f32⟩
  | .local _ .vmem, ⟨1, _⟩ => ⟨S1280x1, .f32⟩
  | .local _ .vmem, ⟨2, _⟩ => ⟨S1280x7168, .fp8e4m3⟩
  | _, _ => ⟨S1280x7168, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1280x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Attn.lean ====
abbrev S6 : Shape := ⟨1, ![6]⟩
abbrev S4 : Shape := ⟨1, ![4]⟩
abbrev S1280x2048 : Shape := ⟨2, ![1280, 2048]⟩
abbrev S1280x512 : Shape := ⟨2, ![1280, 512]⟩
abbrev S1x4 : Shape := ⟨2, ![1, 4]⟩
abbrev S1x6 : Shape := ⟨2, ![1, 6]⟩
abbrev S1280x1 : Shape := ⟨2, ![1280, 1]⟩
abbrev S64x2048 : Shape := ⟨2, ![64, 2048]⟩
abbrev S64x1 : Shape := ⟨2, ![64, 1]⟩
abbrev S1x1 : Shape := ⟨2, ![1, 1]⟩
abbrev S64x256 : Shape := ⟨2, ![64, 256]⟩
abbrev S64x128 : Shape := ⟨2, ![64, 128]⟩
abbrev S256x128 : Shape := ⟨2, ![256, 128]⟩
abbrev S64 : Shape := ⟨1, ![64]⟩

abbrev nBuf : Space → Nat
  | .hbm => 12
  | .vmem => 10
  | .smem => 3
  | _ => 0

abbrev bufTy : (tb : Table) → Fin (tcTables nBuf tb) → BufTy
  | .hbm, ⟨0, _⟩ => ⟨S6, .i32⟩
  | .hbm, ⟨1, _⟩ => ⟨S4, .f32⟩
  | .hbm, ⟨2, _⟩ => ⟨S4, .f32⟩
  | .hbm, ⟨3, _⟩ => ⟨S1280x2048, .bf16⟩
  | .hbm, ⟨4, _⟩ => ⟨S1280x512, .fp8e4m3⟩
  | .hbm, ⟨5, _⟩ => ⟨S1280x512, .fp8e4m3⟩
  | .hbm, ⟨6, _⟩ => ⟨S1x4, .f32⟩
  | .hbm, ⟨7, _⟩ => ⟨S1x4, .f32⟩
  | .hbm, ⟨8, _⟩ => ⟨S1x6, .i32⟩
  | .hbm, ⟨9, _⟩ => ⟨S1280x2048, .f32⟩
  | .hbm, ⟨10, _⟩ => ⟨S1280x2048, .fp8e4m3⟩
  | .hbm, ⟨11, _⟩ => ⟨S1280x1, .f32⟩
  | .local _ .vmem, ⟨0, _⟩ => ⟨S64x2048, .bf16⟩
  | .local _ .vmem, ⟨1, _⟩ => ⟨S64x2048, .bf16⟩
  | .local _ .vmem, ⟨2, _⟩ => ⟨S1280x512, .fp8e4m3⟩
  | .local _ .vmem, ⟨3, _⟩ => ⟨S1280x512, .fp8e4m3⟩
  | .local _ .vmem, ⟨4, _⟩ => ⟨S64x2048, .f32⟩
  | .local _ .vmem, ⟨5, _⟩ => ⟨S64x2048, .f32⟩
  | .local _ .vmem, ⟨6, _⟩ => ⟨S64x2048, .fp8e4m3⟩
  | .local _ .vmem, ⟨7, _⟩ => ⟨S64x2048, .fp8e4m3⟩
  | .local _ .vmem, ⟨8, _⟩ => ⟨S64x1, .f32⟩
  | .local _ .vmem, ⟨9, _⟩ => ⟨S64x1, .f32⟩
  | .local _ .smem, ⟨0, _⟩ => ⟨S1x6, .i32⟩
  | .local _ .smem, ⟨1, _⟩ => ⟨S1x4, .f32⟩
  | .local _ .smem, ⟨2, _⟩ => ⟨S1x4, .f32⟩
  | _, _ => ⟨S6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![20], ![false]⟩

def k0_mult1 (i : grid0.Coords) : BitVec 32 :=
  let arg0 : BitVec 32 := BitVec.ofNat 32 (i 0).val
  let c64_i32 : BitVec 32 := 64#32
  let v0 : BitVec 32 := Scalar.muli arg0 c64_i32
  let c192_i32 : BitVec 32 := 192#32
  let v1 : BitVec 32 := Scalar.subi v0 c192_i32
  let c0_i32 : BitVec 32 := 0#32
  let v2 : BitVec 32 := Scalar.maxsi v1 c0_i32
  v2
def k0_off1 (i : grid0.Coords) : Fin 2 → Nat :=
  let arg0 : BitVec 32 := BitVec.ofNat 32 (i 0).val
  let c64_i32 : BitVec 32 := 64#32
  let v0 : BitVec 32 := Scalar.muli arg0 c64_i32
  let c192_i32 : BitVec 32 := 192#32
  let v1 : BitVec 32 := Scalar.subi v0 c192_i32
  let c0_i32 : BitVec 32 := 0#32
  let v2 : BitVec 32 := Scalar.maxsi v1 c0_i32
  let v3 : BitVec 32 := v2
  let v50 : Index := Scalar.indexCast v3
  let c0_5 : Index := 0#32
  ![v50.toNat, 0]
def k0_off2 (i : grid0.Coords) : Fin 2 → Nat :=
  let arg0 : BitVec 32 := BitVec.ofNat 32 (i 0).val
  let c64_i32 : BitVec 32 := 64#32
  let v0 : BitVec 32 := Scalar.muli arg0 c64_i32
  let c192_i32 : BitVec 32 := 192#32
  let v1 : BitVec 32 := Scalar.subi v0 c192_i32
  let c0_i32 : BitVec 32 := 0#32
  let v2 : BitVec 32 := Scalar.maxsi v1 c0_i32
  let v3 : BitVec 32 := v2
  let v162 : Index := Scalar.indexCast v3
  let c128_55 : Index := 128#32
  ![v162.toNat, 128]
def k0_off3 (i : grid0.Coords) : Fin 2 → Nat :=
  let arg0 : BitVec 32 := BitVec.ofNat 32 (i 0).val
  let c64_i32 : BitVec 32 := 64#32
  let v0 : BitVec 32 := Scalar.muli arg0 c64_i32
  let c192_i32 : BitVec 32 := 192#32
  let v1 : BitVec 32 := Scalar.subi v0 c192_i32
  let c0_i32 : BitVec 32 := 0#32
  let v2 : BitVec 32 := Scalar.maxsi v1 c0_i32
  let v3 : BitVec 32 := v2
  let v274 : Index := Scalar.indexCast v3
  let c256_104 : Index := 256#32
  ![v274.toNat, 256]
def k0_off4 (i : grid0.Coords) : Fin 2 → Nat :=
  let arg0 : BitVec 32 := BitVec.ofNat 32 (i 0).val
  let c64_i32 : BitVec 32 := 64#32
  let v0 : BitVec 32 := Scalar.muli arg0 c64_i32
  let c192_i32 : BitVec 32 := 192#32
  let v1 : BitVec 32 := Scalar.subi v0 c192_i32
  let c0_i32 : BitVec 32 := 0#32
  let v2 : BitVec 32 := Scalar.maxsi v1 c0_i32
  let v3 : BitVec 32 := v2
  let v386 : Index := Scalar.indexCast v3
  let c384_153 : Index := 384#32
  ![v386.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1280x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnRefIdeal.lean ====
abbrev S6 : Shape := ⟨1, ![6]⟩
abbrev S4 : Shape := ⟨1, ![4]⟩
abbrev S1280x2048 : Shape := ⟨2, ![1280, 2048]⟩
abbrev S1280x512 : Shape := ⟨2, ![1280, 512]⟩
abbrev S1280x1 : Shape := ⟨2, ![1280, 1]⟩
abbrev S1280x5 : Shape := ⟨2, ![1280, 5]⟩
abbrev S5 : Shape := ⟨1, ![5]⟩
abbrev S1x5 : Shape := ⟨2, ![1, 5]⟩
abbrev S1280 : Shape := ⟨1, ![1280]⟩
abbrev S1x1280 : Shape := ⟨2, ![1, 1280]⟩
abbrev S1280x1280 : Shape := ⟨2, ![1280, 1280]⟩
abbrev S1x4 : Shape := ⟨2, ![1, 4]⟩
abbrev S1280x128 : Shape := ⟨2, ![1280, 128]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S6, .i32⟩
  | .hbm, ⟨1, _⟩ => ⟨S4, .f32⟩
  | .hbm, ⟨2, _⟩ => ⟨S4, .f32⟩
  | .hbm, ⟨3, _⟩ => ⟨S1280x2048, .bf16⟩
  | .hbm, ⟨4, _⟩ => ⟨S1280x512, .fp8e4m3⟩
  | .hbm, ⟨5, _⟩ => ⟨S1280x512, .fp8e4m3⟩
  | .hbm, ⟨6, _⟩ => ⟨S1280x2048, .f32⟩
  | .hbm, ⟨7, _⟩ => ⟨S1280x2048, .fp8e4m3⟩
  | .hbm, ⟨8, _⟩ => ⟨S1280x1, .f32⟩
  | .local _ .vmem, ⟨0, _⟩ => ⟨S6, .i32⟩
  | .local _ .vmem, ⟨1, _⟩ => ⟨S4, .f32⟩
  | .local _ .vmem, ⟨2, _⟩ => ⟨S4, .f32⟩
  | .local _ .vmem, ⟨3, _⟩ => ⟨S1280x2048, .bf16⟩
  | .local _ .vmem, ⟨4, _⟩ => ⟨S1280x512, .fp8e4m3⟩
  | .local _ .vmem, ⟨5, _⟩ => ⟨S1280x512, .fp8e4m3⟩
  | .local _ .vmem, ⟨6, _⟩ => ⟨S1280x2048, .f32⟩
  | .local _ .vmem, ⟨7, _⟩ => ⟨S1280x2048, .fp8e4m3⟩
  | .local _ .vmem, ⟨8, _⟩ => ⟨S1280x1, .f32⟩
  | _, _ => ⟨S6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1280x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Qkv.lean ====
abbrev S1280x4096 : Shape := ⟨2, ![1280, 4096]⟩
abbrev S4096 : Shape := ⟨1, ![4096]⟩
abbrev S4096x17408 : Shape := ⟨2, ![4096, 17408]⟩
abbrev S17408 : Shape := ⟨1, ![17408]⟩
abbrev S16x128 : Shape := ⟨2, ![16, 128]⟩
abbrev S4x128 : Shape := ⟨2, ![4, 128]⟩
abbrev S1280x64 : Shape := ⟨2, ![1280, 64]⟩
abbrev S4 : Shape := ⟨1, ![4]⟩
abbrev S1x17408 : Shape := ⟨2, ![1, 17408]⟩
abbrev S1x4 : Shape := ⟨2, ![1, 4]⟩
abbrev S1x4096 : Shape := ⟨2, ![1, 4096]⟩
abbrev S1x2048 : Shape := ⟨2, ![1, 2048]⟩
abbrev S1x512 : Shape := ⟨2, ![1, 512]⟩
abbrev S1280x1 : Shape := ⟨2, ![1280, 1]⟩
abbrev S1280x2048 : Shape := ⟨2, ![1280, 2048]⟩
abbrev S1280x512 : Shape := ⟨2, ![1280, 512]⟩
abbrev S256x4096 : Shape := ⟨2, ![256, 4096]⟩
abbrev S4096x3072 : Shape := ⟨2, ![4096, 3072]⟩
abbrev S1x3072 : Shape := ⟨2, ![1, 3072]⟩
abbrev S256x64 : Shape := ⟨2, ![256, 64]⟩
abbrev S256x1 : Shape := ⟨2, ![256, 1]⟩
abbrev S256x2048 : Shape := ⟨2, ![256, 2048]⟩
abbrev S256x512 : Shape := ⟨2, ![256, 512]⟩
abbrev S128x128 : Shape := ⟨2, ![128, 128]⟩
abbrev S128 : Shape := ⟨1, ![128]⟩
abbrev S1x128 : Shape := ⟨2, ![1, 128]⟩
abbrev S128x1 : Shape := ⟨2, ![128, 1]⟩
abbrev S256x128 : Shape := ⟨2, ![256, 128]⟩
abbrev S256x128x1 : Shape := ⟨3, ![256, 128, 1]⟩
abbrev S4096x512 : Shape := ⟨2, ![4096, 512]⟩
abbrev S256 : Shape := ⟨1, ![256]⟩
abbrev S1x1 : Shape := ⟨2, ![1, 1]⟩

abbrev nBuf : Space → Nat
  | .hbm => 21
  | .vmem => 21
  | .smem => 2
  | _ => 0

abbrev bufTy : (tb : Table) → Fin (tcTables nBuf tb) → BufTy
  | .hbm, ⟨0, _⟩ => ⟨S1280x4096, .bf16⟩
  | .hbm, ⟨1, _⟩ => ⟨S4096, .f32⟩
  | .hbm, ⟨2, _⟩ => ⟨S4096x17408, .fp8e4m3⟩
  | .hbm, ⟨3, _⟩ => ⟨S17408, .f32⟩
  | .hbm, ⟨4, _⟩ => ⟨S16x128, .f32⟩
  | .hbm, ⟨5, _⟩ => ⟨S4x128, .f32⟩
  | .hbm, ⟨6, _⟩ => ⟨S1280x64, .f32⟩
  | .hbm, ⟨7, _⟩ => ⟨S1280x64, .f32⟩
  | .hbm, ⟨8, _⟩ => ⟨S4, .f32⟩
  | .hbm, ⟨9, _⟩ => ⟨S4, .f32⟩
  | .hbm, ⟨10, _⟩ => ⟨S1x17408, .f32⟩
  | .hbm, ⟨11, _⟩ => ⟨S1x4, .f32⟩
  | .hbm, ⟨12, _⟩ => ⟨S1x4, .f32⟩
  | .hbm, ⟨13, _⟩ => ⟨S1x4096, .f32⟩
  | .hbm, ⟨14, _⟩ => ⟨S1x2048, .f32⟩
  | .hbm, ⟨15, _⟩ => ⟨S1x512, .f32⟩
  | .hbm, ⟨16, _⟩ => ⟨S1280x4096, .fp8e4m3⟩
  | .hbm, ⟨17, _⟩ => ⟨S1280x1, .f32⟩
  | .hbm, ⟨18, _⟩ => ⟨S1280x2048, .bf16⟩
  | .hbm, ⟨19, _⟩ => ⟨S1280x512, .fp8e4m3⟩
  | .hbm, ⟨20, _⟩ => ⟨S1280x512, .fp8e4m3⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S4096x3072, .fp8e4m3⟩
  | .local _ .vmem, ⟨4, _⟩ => ⟨S1x3072, .f32⟩
  | .local _ .vmem, ⟨5, _⟩ => ⟨S1x2048, .f32⟩
  | .local _ .vmem, ⟨6, _⟩ => ⟨S1x512, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x4096, .fp8e4m3⟩
  | .local _ .vmem, ⟨12, _⟩ => ⟨S256x4096, .fp8e4m3⟩
  | .local _ .vmem, ⟨13, _⟩ => ⟨S256x1, .f32⟩
  | .local _ .vmem, ⟨14, _⟩ => ⟨S256x1, .f32⟩
  | .local _ .vmem, ⟨15, _⟩ => ⟨S256x2048, .bf16⟩
  | .local _ .vmem, ⟨16, _⟩ => ⟨S256x2048, .bf16⟩
  | .local _ .vmem, ⟨17, _⟩ => ⟨S256x512, .fp8e4m3⟩
  | .local _ .vmem, ⟨18, _⟩ => ⟨S256x512, .fp8e4m3⟩
  | .local _ .vmem, ⟨19, _⟩ => ⟨S256x512, .fp8e4m3⟩
  | .local _ .vmem, ⟨20, _⟩ => ⟨S256x512, .fp8e4m3⟩
  | .local _ .smem, ⟨0, _⟩ => ⟨S1x4, .f32⟩
  | .local _ .smem, ⟨1, _⟩ => ⟨S1x4, .f32⟩
  | _, _ => ⟨S1280x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg8_1 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v833 : Index := Scalar.indexCast v832
  let c0_325 : Index := 0#32
  ![v833.toNat, 0]
def k0_off2 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v836 : Index := Scalar.indexCast v832
  let c128_326 : Index := 128#32
  ![v836.toNat, 128]
def k0_off3 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v840 : Index := Scalar.indexCast v832
  let c256_327 : Index := 256#32
  ![v840.toNat, 256]
def k0_off4 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v844 : Index := Scalar.indexCast v832
  let c384_328 : Index := 384#32
  ![v844.toNat, 384]
def k0_off5 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v848 : Index := Scalar.indexCast v832
  let c512_329 : Index := 512#32
  ![v848.toNat, 512]
def k0_off6 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v852 : Index := Scalar.indexCast v832
  let c640_330 : Index := 640#32
  ![v852.toNat, 640]
def k0_off7 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v856 : Index := Scalar.indexCast v832
  let c768_331 : Index := 768#32
  ![v856.toNat, 768]
def k0_off8 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v860 : Index := Scalar.indexCast v832
  let c896_332 : Index := 896#32
  ![v860.toNat, 896]
def k0_off9 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v864 : Index := Scalar.indexCast v832
  let c1024_333 : Index := 1024#32
  ![v864.toNat, 1024]
def k0_off10 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v868 : Index := Scalar.indexCast v832
  let c1152_334 : Index := 1152#32
  ![v868.toNat, 1152]
def k0_off11 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v872 : Index := Scalar.indexCast v832
  let c1280_335 : Index := 1280#32
  ![v872.toNat, 1280]
def k0_off12 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v876 : Index := Scalar.indexCast v832
  let c1408_336 : Index := 1408#32
  ![v876.toNat, 1408]
def k0_off13 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v880 : Index := Scalar.indexCast v832
  let c1536_337 : Index := 1536#32
  ![v880.toNat, 1536]
def k0_off14 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v884 : Index := Scalar.indexCast v832
  let c1664_338 : Index := 1664#32
  ![v884.toNat, 1664]
def k0_off15 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v888 : Index := Scalar.indexCast v832
  let c1792_339 : Index := 1792#32
  ![v888.toNat, 1792]
def k0_off16 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v892 : Index := Scalar.indexCast v832
  let c1920_340 : Index := 1920#32
  ![v892.toNat, 1920]
def k0_off17 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v896 : Index := Scalar.indexCast v832
  let c2048_341 : Index := 2048#32
  ![v896.toNat, 2048]
def k0_off18 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v900 : Index := Scalar.indexCast v832
  let c2176 : Index := 2176#32
  ![v900.toNat, 2176]
def k0_off19 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v904 : Index := Scalar.indexCast v832
  let c2304 : Index := 2304#32
  ![v904.toNat, 2304]
def k0_off20 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v908 : Index := Scalar.indexCast v832
  let c2432 : Index := 2432#32
  ![v908.toNat, 2432]
def k0_off21 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v912 : Index := Scalar.indexCast v832
  let c2560_342 : Index := 2560#32
  ![v912.toNat, 2560]
def k0_off22 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v916 : Index := Scalar.indexCast v832
  let c2688 : Index := 2688#32
  ![v916.toNat, 2688]
def k0_off23 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v920 : Index := Scalar.indexCast v832
  let c2816 : Index := 2816#32
  ![v920.toNat, 2816]
def k0_off24 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v924 : Index := Scalar.indexCast v832
  let c2944 : Index := 2944#32
  ![v924.toNat, 2944]
def k0_off25 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v928 : Index := Scalar.indexCast v832
  let c3072 : Index := 3072#32
  ![v928.toNat, 3072]
def k0_off26 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v932 : Index := Scalar.indexCast v832
  let c3200 : Index := 3200#32
  ![v932.toNat, 3200]
def k0_off27 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v936 : Index := Scalar.indexCast v832
  let c3328 : Index := 3328#32
  ![v936.toNat, 3328]
def k0_off28 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v940 : Index := Scalar.indexCast v832
  let c3456 : Index := 3456#32
  ![v940.toNat, 3456]
def k0_off29 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v944 : Index := Scalar.indexCast v832
  let c3584 : Index := 3584#32
  ![v944.toNat, 3584]
def k0_off30 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v948 : Index := Scalar.indexCast v832
  let c3712 : Index := 3712#32
  ![v948.toNat, 3712]
def k0_off31 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v952 : Index := Scalar.indexCast v832
  let c3840 : Index := 3840#32
  ![v952.toNat, 3840]
def k0_off32 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v956 : Index := Scalar.indexCast v832
  let c3968 : Index := 3968#32
  ![v956.toNat, 3968]
def k0_off33 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_324 : BitVec 32 := 128#32
  let v832 : BitVec 32 := Scalar.muli arg16 c128_i32_324
  let v1657 : Index := Scalar.indexCast v832
  let c0_512 : Index := 0#32
  ![v1657.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== QkvRefIdeal.lean ====
abbrev S1280x4096 : Shape := ⟨2, ![1280, 4096]⟩
abbrev S4096 : Shape := ⟨1, ![4096]⟩
abbrev S4096x17408 : Shape := ⟨2, ![4096, 17408]⟩
abbrev S17408 : Shape := ⟨1, ![17408]⟩
abbrev S16x128 : Shape := ⟨2, ![16, 128]⟩
abbrev S4x128 : Shape := ⟨2, ![4, 128]⟩
abbrev S1280x64 : Shape := ⟨2, ![1280, 64]⟩
abbrev S4 : Shape := ⟨1, ![4]⟩
abbrev S1280x1 : Shape := ⟨2, ![1280, 1]⟩
abbrev S1280x2048 : Shape := ⟨2, ![1280, 2048]⟩
abbrev S1280x512 : Shape := ⟨2, ![1280, 512]⟩
abbrev S1x4096 : Shape := ⟨2, ![1, 4096]⟩
abbrev S1280 : Shape := ⟨1, ![1280]⟩
abbrev S1280x17408 : Shape := ⟨2, ![1280, 17408]⟩
abbrev S1x17408 : Shape := ⟨2, ![1, 17408]⟩
abbrev S1x4 : Shape := ⟨2, ![1, 4]⟩
abbrev S1280x128 : Shape := ⟨2, ![1280, 128]⟩
abbrev S1x128 : Shape := ⟨2, ![1, 128]⟩
abbrev S1280x64x2 : Shape := ⟨3, ![1280, 64, 2]⟩
abbrev S1280x64x1 : Shape := ⟨3, ![1280, 64, 1]⟩
abbrev S1x1 : Shape := ⟨2, ![1, 1]⟩

abbrev nBuf : Space → Nat
  | .hbm => 15
  | .vmem => 15
  | .smem => 0
  | _ => 0

abbrev bufTy : (tb : Table) → Fin (tcTables nBuf tb) → BufTy
  | .hbm, ⟨0, _⟩ => ⟨S1280x4096, .bf16⟩
  | .hbm, ⟨1, _⟩ => ⟨S4096, .f32⟩
  | .hbm, ⟨2, _⟩ => ⟨S4096x17408, .fp8e4m3⟩
  | .hbm, ⟨3, _⟩ => ⟨S17408, .f32⟩
  | .hbm, ⟨4, _⟩ => ⟨S16x128, .f32⟩
  | .hbm, ⟨5, _⟩ => ⟨S4x128, .f32⟩
  | .hbm, ⟨6, _⟩ => ⟨S1280x64, .f32⟩
  | .hbm, ⟨7, _⟩ => ⟨S1280x64, .f32⟩
  | .hbm, ⟨8, _⟩ => ⟨S4, .f32⟩
  | .hbm, ⟨9, _⟩ => ⟨S4, .f32⟩
  | .hbm, ⟨10, _⟩ => ⟨S1280x4096, .fp8e4m3⟩
  | .hbm, ⟨11, _⟩ => ⟨S1280x1, .f32⟩
  | .hbm, ⟨12, _⟩ => ⟨S1280x2048, .bf16⟩
  | .hbm, ⟨13, _⟩ => ⟨S1280x512, .fp8e4m3⟩
  | .hbm, ⟨14, _⟩ => ⟨S1280x512, .fp8e4m3⟩
  | .local _ .vmem, ⟨0, _⟩ => ⟨S1280x4096, .bf16⟩
  | .local _ .vmem, ⟨1, _⟩ => ⟨S4096, .f32⟩
  | .local _ .vmem, ⟨2, _⟩ => ⟨S4096x17408, .fp8e4m3⟩
  | .local _ .vmem, ⟨3, _⟩ => ⟨S17408, .f32⟩
  | .local _ .vmem, ⟨4, _⟩ => ⟨S16x128, .f32⟩
  | .local _ .vmem, ⟨5, _⟩ => ⟨S4x128, .f32⟩
  | .local _ .vmem, ⟨6, _⟩ => ⟨S1280x64, .f32⟩
  | .local _ .vmem, ⟨7, _⟩ => ⟨S1280x64, .f32⟩
  | .local _ .vmem, ⟨8, _⟩ => ⟨S4, .f32⟩
  | .local _ .vmem, ⟨9, _⟩ => ⟨S4, .f32⟩
  | .local _ .vmem, ⟨10, _⟩ => ⟨S1280x4096, .fp8e4m3⟩
  | .local _ .vmem, ⟨11, _⟩ => ⟨S1280x1, .f32⟩
  | .local _ .vmem, ⟨12, _⟩ => ⟨S1280x2048, .bf16⟩
  | .local _ .vmem, ⟨13, _⟩ => ⟨S1280x512, .fp8e4m3⟩
  | .local _ .vmem, ⟨14, _⟩ => ⟨S1280x512, .fp8e4m3⟩
  | _, _ => ⟨S1280x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1280x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x17408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S17408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1280x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1280x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1280x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1280x512 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1280x512 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.OutKernel.lean ====
module

public import proofs.«01_k».proof.Proof.Gen.OutIdeal.Value
public import Idealize.ShloMosaic.Lib.Pipeline.ValueKit
public import Idealize.ShloMosaic.Lib.MatmulPlain

@[expose] public section

set_option maxRecDepth 16384

noncomputable section

namespace Cert.OutIdeal.Blocks

open Cert.OutIdeal Cert.OutIdeal.Gen Idealize.ShloMosaic Idealize.ShloMosaic.TcCoe Idealize.SL.Sem
open Idealize.ShloMosaic.Pipeline (Dat)

/-- The mathematics of the output projection: at row `i 0` and column `i 1`, the attention product with its two scales,
    plus the second product of the MLP with its two scales, plus the residual. The attention weight comes as
    `[16, 128, 4096]`; its first two axes are one contracted axis of 2048. -/
def outG (oc : FVec Ideal S1280x2048 .fp8e4m3) (os : FVec Ideal S1280x1 .f32) (hc : FVec Ideal S1280x7168 .fp8e4m3)
    (hs : FVec Ideal S1280x1 .f32) (wo : FVec Ideal S2048x4096 .fp8e4m3) (wd : FVec Ideal S7168x4096 .fp8e4m3)
    (wos : FVec Ideal S4096 .f32) (wds : FVec Ideal S4096 .f32) (x : FVec Ideal S1280x4096 .bf16) :
    FVec Ideal S1280x4096 .bf16 := fun i =>
  ((∑ k : Fin 2048, oc (ix2 (i 0) k) * wo (ix2 k (i 1))) * os (ix2 (i 0) 0) * wos (ix1 (i 1))
    + (∑ k : Fin 7168, hc (ix2 (i 0) k) * wd (ix2 k (i 1))) * hs (ix2 (i 0) 0) * wds (ix1 (i 1))
    + x i : EReal)

/-- The second row block's payload, taken in two steps, is the first row block's payload of its own loads. -/
theorem pay_rows1 (v27 v28 v31 v34 v38 v39 v41 v44 v49) :
    k0_pay4 (F := Ideal) (k0_pay3 v27 v28) v31 v34 v38 v39 v41 v44 v49 = k0_pay2 v27 v28 v31 v34 v38 v39 v41 v44 v49 := rfl

/-- The third row block's payload likewise. -/
theorem pay_rows2 (v27 v28 v31 v34 v38 v39 v41 v44 v49) :
    k0_pay7 (F := Ideal) (k0_pay5 v27 v28 v31) (k0_pay6 v34) v38 v39 v41 v44 v49 = k0_pay2 v27 v28 v31 v34 v38 v39 v41 v44 v49 := rfl

/-- The fourth row block's payload likewise. -/
theorem pay_rows3 (v27 v28 v31 v34 v38 v39 v41 v44 v49) :
    k0_pay10 (F := Ideal) (k0_pay8 v27 v28 v31 v34) (k0_pay9 v38 v39) v41 v44 v49 = k0_pay2 v27 v28 v31 v34 v38 v39 v41 v44 v49 := rfl

/-- The fifth row block's payload likewise. -/
theorem pay_rows4 (v27 v28 v31 v34 v38 v39 v41 v44 v49) :
    k0_pay1 (F := Ideal) (k0_pay11 v27 v28 v31 v34) (k0_pay12 v38 v39 v41 v44) v49 = k0_pay2 v27 v28 v31 v34 v38 v39 v41 v44 v49 := rfl

/-- What one row block computes, element by element: the two products with their scales and the residual. -/
theorem pay_at (v0 v1 v4 v7 v11 v12 v14 v17 v22) (p : Fin 256) (q : Fin 512) :
    k0_pay2 (F := Ideal) v0 v1 v4 v7 v11 v12 v14 v17 v22 (ix2 p q)
      = ((∑ k, v0 (ix2 p k) * v1 (ix2 k q)) * v4 (ix2 p 0) * v7 (ix2 0 q)
        + (∑ k, v11 (ix2 p k) * v12 (ix2 k q)) * v14 (ix2 p 0) * v17 (ix2 0 q) + v22 (ix2 p q) : EReal) := by
  unfold_payloads
  pointwise

/-- The block one grid point leaves, as one function of the blocks it reads. -/
def blkG (x0 : Vec Ideal S1280x2048 .fp8e4m3) (x1 : Vec Ideal S1280x1 .f32) (x2 : Vec Ideal S1280x7168 .fp8e4m3)
    (x3 : Vec Ideal S1280x1 .f32) (x4 : Vec Ideal S2048x512 .fp8e4m3) (x5 : Vec Ideal S7168x512 .fp8e4m3)
    (x6 : Vec Ideal S1x512 .f32) (x7 : Vec Ideal S1x512 .f32) (x8 : Vec Ideal S1280x512 .bf16) :
    Vec Ideal S1280x512 .bf16 := fun i =>
  ((∑ k, x0 (ix2 (i 0) k) * x4 (ix2 k (i 1))) * x1 (ix2 (i 0) 0) * x6 (ix2 0 (i 1))
    + (∑ k, x2 (ix2 (i 0) k) * x5 (ix2 k (i 1))) * x3 (ix2 (i 0) 0) * x7 (ix2 0 (i 1)) + x8 i : EReal)

/-- The five stored row blocks together are `blkG`. -/
theorem out_eq (x0 x1 x2 x3 x4 x5 x6 x7 x8) :
    out0_9 (F := Ideal) x0 x1 x2 x3 x4 x5 x6 x7 x8 = blkG x0 x1 x2 x3 x4 x5 x6 x7 x8 := by
  funext y
  obtain ⟨r, d, rfl⟩ : ∃ (r : Fin 1280) (d : Fin 512), y = ix2 r d := ⟨y 0, y 1, by ext a; fin_cases a <;> rfl⟩
  unfold out0_9
  rw [pay_rows1, pay_rows2, pay_rows3, pay_rows4]
  canon_tiles x h
  all_goals
    obtain ⟨p, q, rfl⟩ : ∃ (p : Fin 256) (q : Fin 512), x = ix2 p q := ⟨x 0, x 1, by ext a; fin_cases a <;> rfl⟩
    rw [pay_at]
    first | change r.val = _ + p.val at h0 | change r.val = p.val at h0
    change d.val = q.val at h1
    obtain rfl := Fin.ext h1
    show _ = ((∑ k, x0 (ix2 r k) * x4 (ix2 k d)) * x1 (ix2 r 0) * x6 (ix2 0 d)
      + (∑ k, x2 (ix2 r k) * x5 (ix2 k d)) * x3 (ix2 r 0) * x7 (ix2 0 d) + x8 (ix2 r d) : EReal)
    reads_congr
    all_goals
      refine View.ld_unit_apply_of _ _ _ _ _ _ fun a => ?_
      fin_cases a <;> simp [h0]

/-- Where each window's block of grid point `t` begins: the whole-array operands stay, the weight columns, their scales,
    the residual and the result move by 512 columns a point. -/
theorem idx : ∀ t : Fin grid0.N, win0_0.index t = ![0, 0] ∧ win0_1.index t = ![0, 0] ∧ win0_2.index t = ![0, 0]
    ∧ win0_3.index t = ![0, 0] ∧ win0_4.index t = ![0, t.val] ∧ win0_5.index t = ![0, t.val]
    ∧ win0_6.index t = ![0, t.val] ∧ win0_7.index t = ![0, t.val] ∧ win0_8.index t = ![0, t.val]
    ∧ win0_9.index t = ![0, t.val] := by decide +kernel

variable (m : (ℓ : Loc nD τ sig) → Buf (Elt Ideal) ℓ) (ρ : Dev nD → PrngReg)

/-- The result array after the run, as one function of the arguments. -/
theorem arr_eq (c : Dev nD) :
    (dats m 0 c).arrAt 9 cfg0.N
      = outG (m ((c : Thread nD τ).loc main_arg0)) (m ((c : Thread nD τ).loc main_arg1)) (m ((c : Thread nD τ).loc main_arg2))
          (m ((c : Thread nD τ).loc main_arg3))
          (shapeCast S2048x4096 (m ((c : Thread nD τ).loc main_arg4)) shapeCasts_S16x128x4096_S2048x4096)
          (m ((c : Thread nD τ).loc main_arg5)) (m ((c : Thread nD τ).loc main_arg6)) (m ((c : Thread nD τ).loc main_arg7))
          (m ((c : Thread nD τ).loc main_arg8)) := by
  refine (dats m 0 c).arrAt_eq_of_covers 9 _ (by decide +kernel) fun t hf y => ?_
  rw [after0_9, out_eq]
  obtain ⟨e0, e1, e2, e3, e4, e5, e6, e7, e8, e9⟩ := idx t
  blk_simp
  unfold blkG outG
  blk_point [iblk, V, e0, e1, e2, e3, e4, e5, e6, e7, e8, e9]

end Cert.OutIdeal.Blocks
end
-- ==== Proof.OutReference.lean ====
module

public import proofs.«01_k».proof.Proof.Gen.OutRefIdeal.Value
public import proofs.«01_k».proof.Proof.OutKernel
public import Idealize.ShloMosaic.Lib.Pipeline.ValueKit
public import Idealize.ShloMosaic.Lib.MatmulPlain

@[expose] public section

set_option maxRecDepth 16384

noncomputable section

namespace Cert.OutRefIdeal.Whole

open Cert.OutRefIdeal Cert.OutRefIdeal.Gen Idealize.ShloMosaic Idealize.ShloMosaic.TcCoe Idealize.SL.Sem
open Idealize.ShloMosaic.Pipeline (Dat)

open Cert.OutIdeal.Blocks (outG)

/-- What the one-block reference computes, element by element: `outG` of the arrays it reads. -/
theorem pay_eq (v0 v1 v4 v7 v11 v12 v14 v17 v22) :
    k0_pay1 (F := Ideal) v0 v1 v4 v7 v11 v12 v14 v17 v22 = outG v0 v4 v11 v14 v1 v12 v7 v17 v22 := by
  funext y
  obtain ⟨p, q, rfl⟩ : ∃ (p : Fin 1280) (q : Fin 4096), y = ix2 p q := ⟨y 0, y 1, by ext a; fin_cases a <;> rfl⟩
  show _ = ((∑ k, v0 (ix2 p k) * v1 (ix2 k q)) * v4 (ix2 p 0) * v7 (ix1 q)
    + (∑ k, v11 (ix2 p k) * v12 (ix2 k q)) * v14 (ix2 p 0) * v17 (ix1 q) + v22 (ix2 p q) : EReal)
  unfold_payloads
  pointwise

variable (m : (ℓ : Loc nD τ sig) → Buf (Elt Ideal) ℓ) (ρ : Dev nD → PrngReg)

/-- Every window of the one-point reference is its whole array. -/
theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0] ∧ win0_7.index t = ![0] ∧ win0_8.index t = ![0, 0]
    ∧ win0_9.index t = ![0, 0] := by decide +kernel

/-- The reference's result array, as one function of the arguments. -/
theorem arr_eq (c : Dev nD) :
    (dats m 0 c).arrAt 9 cfg0.N
      = outG (m ((c : Thread nD τ).loc main_arg0)) (m ((c : Thread nD τ).loc main_arg1)) (m ((c : Thread nD τ).loc main_arg2))
          (m ((c : Thread nD τ).loc main_arg3))
          (shapeCast S2048x4096 (m ((c : Thread nD τ).loc main_arg4)) shapeCasts_S16x128x4096_S2048x4096)
          (m ((c : Thread nD τ).loc main_arg5)) (m ((c : Thread nD τ).loc main_arg6)) (m ((c : Thread nD τ).loc main_arg7))
          (m ((c : Thread nD τ).loc main_arg8)) := by
  refine (dats m 0 c).arrAt_eq_of_covers 9 _ (by decide +kernel) fun t hf y => ?_
  obtain ⟨e0, e1, e2, e3, e4, e5, e6, e7, e8, e9⟩ := idx t
  blk_simp
  rw [after0_9]
  frame_out
  rw [pay_eq]
  unfold outG
  blk_point [iblk, V, e0, e1, e2, e3, e4, e5, e6, e7, e8, e9]

end Cert.OutRefIdeal.Whole
end
-- ==== Proof.OutEq.lean ====
module

public import proofs.«01_k».proof.Defs
public import proofs.«01_k».proof.Proof.OutKernel
public import proofs.«01_k».proof.Proof.OutReference

@[expose] public section

set_option maxRecDepth 16384

noncomputable section

namespace Cert.Proof

open Idealize.ShloMosaic Idealize.ShloMosaic.TcCoe Idealize.SL.Sem

/-- From equal arguments, the output projection and its reference leave the same result array over the reals. -/
theorem algebraic_Out : algebraic_OutIdeal_OutRefIdeal := fun m ρ m' ρ' _ hag =>
  ⟨fun c => _, (θ_run _ _ _).mono (fun _ h c => ⟨(h c).1.trans (OutIdeal.Blocks.arr_eq m c), (h c).2⟩)
      (OutIdeal.Value.run_blocks m ρ),
    (θ_run _ _ _).mono (fun _ h c => by
      obtain ⟨h0, h1, h2, h3, h4, h5, h6, h7, h8⟩ := hag c
      refine ⟨((h c).1.trans (OutRefIdeal.Whole.arr_eq m' c)).trans ?_, (h c).2⟩
      rw [h0, h1, h2, h3, h4, h5, h6, h7, h8]) (OutRefIdeal.Value.run_blocks m' ρ')⟩

end Cert.Proof
end
-- ==== Proof.GateUpSpec.lean ====
module

public import proofs.«01_k».proof.Proof.Gen.GateUpIdeal.Value
public import Idealize.ShloMosaic.Lib.Pipeline.ValueKit
public import Idealize.ShloMosaic.Lib.Pipeline.ReadBack
public import Idealize.ShloMosaic.Lib.MatmulPlain

@[expose] public section

set_option maxRecDepth 16384

noncomputable section

namespace Cert.GateUpIdeal.Blocks

open Cert.GateUpIdeal Cert.GateUpIdeal.Gen Idealize.ShloMosaic Idealize.ShloMosaic.TcCoe Idealize.SL.Sem
open Idealize.ShloMosaic.Pipeline (Dat)

/-- The gated unit: `g · logistic g · u`. -/
def gated (g u : EReal) : EReal := g * Ideal.logistic g * u

/-- The absolute value over the reals. -/
def abs' (x : EReal) : EReal := max x (-x)

/-- An absolute value is never negative. -/
theorem abs'_nonneg (x : EReal) : 0 ≤ abs' x := by
  unfold abs'
  rcases le_total 0 x with h | h
  · exact le_max_of_le_left h
  · exact le_max_of_le_right (EReal.neg_nonneg.mpr h)

/-- One column of the input projection: the product of a row of codes with a column of the weight, times both scales. -/
def proj (xc : FVec Ideal S1280x4096 .fp8e4m3) (xs : FVec Ideal S1280x1 .f32) (w : FVec Ideal S4096x17408 .fp8e4m3)
    (ws : FVec Ideal S17408 .f32) (r : Fin 1280) (c : Fin 17408) : EReal :=
  (∑ k : Fin 4096, xc (ix2 r k) * w (ix2 k c)) * xs (ix2 r 0) * ws (ix1 c)

/-- The hidden value at row `r` and column `c`: gate column `3072 + c`, up column `10240 + c`. -/
def hid (xc : FVec Ideal S1280x4096 .fp8e4m3) (xs : FVec Ideal S1280x1 .f32) (w : FVec Ideal S4096x17408 .fp8e4m3)
    (ws : FVec Ideal S17408 .f32) (r : Fin 1280) (c : Fin 7168) : EReal :=
  gated (proj xc xs w ws r ⟨3072 + c.val, by omega⟩) (proj xc xs w ws r ⟨10240 + c.val, by omega⟩)

/-- The hidden array. -/
def hidG (xc : FVec Ideal S1280x4096 .fp8e4m3) (xs : FVec Ideal S1280x1 .f32) (w : FVec Ideal S4096x17408 .fp8e4m3)
    (ws : FVec Ideal S17408 .f32) : FVec Ideal S1280x7168 .f32 := fun i => hid xc xs w ws (i 0) (i 1)

/-- The largest absolute value of row `r` of the hidden array. -/
def rowMax (xc : FVec Ideal S1280x4096 .fp8e4m3) (xs : FVec Ideal S1280x1 .f32) (w : FVec Ideal S4096x17408 .fp8e4m3)
    (ws : FVec Ideal S17408 .f32) (r : Fin 1280) : EReal :=
  Finset.fold max (Ideal.ofBits FTy.f32 4286578688#32) (fun c : Fin 7168 => abs' (hid xc xs w ws r c)) Finset.univ

/-- A row's quantisation scale from its largest absolute value: that over 448, and 1 for a row of zeros. -/
def scaleOf (a : EReal) : EReal := if a = 0 then 1 else Ideal.div a (Ideal.ofBits FTy.f32 1138753536#32)

/-- The column of row scales. -/
def scaleG (xc : FVec Ideal S1280x4096 .fp8e4m3) (xs : FVec Ideal S1280x1 .f32) (w : FVec Ideal S4096x17408 .fp8e4m3)
    (ws : FVec Ideal S17408 .f32) : FVec Ideal S1280x1 .f32 := fun i => scaleOf (rowMax xc xs w ws (i 0))

end Cert.GateUpIdeal.Blocks
end
-- ==== Proof.GateUpCases.lean ====
module

public import proofs.«01_k».proof.Proof.Gen.GateUpIdeal.Value
public import Idealize.ShloMosaic.Lib.Pipeline.ValueKit
public import Idealize.ShloMosaic.Lib.Pipeline.ReadBack
public import Idealize.ShloMosaic.Lib.MatmulPlain
public import proofs.«01_k».proof.Proof.GateUpSpec

@[expose] public section

set_option maxRecDepth 16384

noncomputable section

namespace Cert.GateUpIdeal.Blocks

open Cert.GateUpIdeal Cert.GateUpIdeal.Gen Idealize.ShloMosaic Idealize.ShloMosaic.TcCoe Idealize.SL.Sem
open Idealize.ShloMosaic.Pipeline (Dat)

/-- The block of hidden values one grid point computes from the blocks it reads. -/
def hblk (x0 : Vec Ideal S1280x4096 .fp8e4m3) (x1 : Vec Ideal S1280x1 .f32) (x2 x3 : Vec Ideal S4096x256 .fp8e4m3)
    (x4 x5 : Vec Ideal S1x256 .f32) : Vec Ideal S1280x256 .f32 := fun i =>
  gated ((∑ k, x0 (ix2 (i 0) k) * x2 (ix2 k (i 1))) * x1 (ix2 (i 0) 0) * x4 (ix2 0 (i 1)))
    ((∑ k, x0 (ix2 (i 0) k) * x3 (ix2 k (i 1))) * x1 (ix2 (i 0) 0) * x5 (ix2 0 (i 1)))

/-- How a grid point updates the running maxima: lane `l` of a row takes the block's columns `l` and `128 + l`. -/
def scrStep (h : Vec Ideal S1280x256 .f32) (acc : Vec Ideal S1280x128 .f32) : Vec Ideal S1280x128 .f32 := fun i =>
  (max (acc i : EReal) (max (abs' (h (ix2 (i 0) ⟨(i 1).val, lt_trans (i 1).isLt (by decide)⟩)))
    (abs' (h (ix2 (i 0) ⟨128 + (i 1).val, Nat.add_lt_add_left (i 1).isLt 128⟩)))) : EReal)

/-- The payloads of the five row blocks are one function of their loads. -/
theorem rows1 (v34 v35 v36 v40 v44 v48) : k0_pay7 (F := Ideal) v34 v35 v36 v40 v44 v48 = k0_pay5 v34 v35 v36 v40 v44 v48 := rfl
theorem rows2 (v34 v35 v36 v40 v44 v48) : k0_pay9 (F := Ideal) v34 v35 v36 v40 v44 v48 = k0_pay5 v34 v35 v36 v40 v44 v48 := rfl
theorem rows3 (v34 v35 v36 v40 v44 v48) :
    k0_pay12 (F := Ideal) v34 v35 (k0_pay11 v34 v35 v36) v40 v44 v48 = k0_pay5 v34 v35 v36 v40 v44 v48 := rfl
theorem rows4 (v34 v35 v36 v40 v44 v48) :
    k0_pay1 (F := Ideal) v34 v35 (k0_pay14 v34 v35 v36 v40) v44 v48 = k0_pay5 v34 v35 v36 v40 v44 v48 := rfl
theorem maxs1 (v34 v35 v36 v40 v44 v48 v57) : k0_pay8 (F := Ideal) v34 v35 v36 v40 v44 v48 v57 = k0_pay6 v34 v35 v36 v40 v44 v48 v57 := rfl
theorem maxs2 (v34 v35 v36 v40 v44 v48 v57) : k0_pay10 (F := Ideal) v34 v35 v36 v40 v44 v48 v57 = k0_pay6 v34 v35 v36 v40 v44 v48 v57 := rfl
theorem maxs3 (v34 v35 v36 v40 v44 v48 v57) :
    k0_pay13 (F := Ideal) v34 v35 (k0_pay11 v34 v35 v36) v40 v44 v48 v57 = k0_pay6 v34 v35 v36 v40 v44 v48 v57 := rfl
theorem maxs4 (v34 v35 v36 v40 v44 v48 v57) :
    k0_pay2 (F := Ideal) v34 v35 (k0_pay14 v34 v35 v36 v40) v44 v48 v57 = k0_pay6 v34 v35 v36 v40 v44 v48 v57 := rfl

/-- One row block's hidden values, element by element. -/
theorem pay5_at (v3 v4 v5 v9 v13 v17) (p q : Fin 256) : k0_pay5 (F := Ideal) v3 v4 v5 v9 v13 v17 (ix2 p q)
    = gated ((∑ k, v3 (ix2 p k) * v5 (ix2 k q)) * v4 (ix2 p 0) * v9 (ix2 0 q))
      ((∑ k, v3 (ix2 p k) * v13 (ix2 k q)) * v4 (ix2 p 0) * v17 (ix2 0 q)) := by
  unfold gated
  unfold_payloads
  pointwise

/-- One row block's update of the running maxima, element by element. -/
theorem pay6_at (v3 v4 v5 v9 v13 v17 v26) (p : Fin 256) (q : Fin 128) :
    k0_pay6 (F := Ideal) v3 v4 v5 v9 v13 v17 v26 (ix2 p q)
      = (max (v26 (ix2 p q) : EReal) (max (abs' (k0_pay5 (F := Ideal) v3 v4 v5 v9 v13 v17 (ix2 p ⟨q.val, by omega⟩)))
          (abs' (k0_pay5 (F := Ideal) v3 v4 v5 v9 v13 v17 (ix2 p ⟨128 + q.val, by omega⟩)))) : EReal) := by
  unfold k0_pay6
  generalize k0_pay5 (F := Ideal) v3 v4 v5 v9 v13 v17 = h
  pointwise
  rfl

/-- The scale column from the running maxima: each row's maximum over the 128 lanes, made a scale. -/
theorem pay3_at (v161) (p : Fin 1280) (q : Fin 1) : k0_pay3 (F := Ideal) v161 (ix2 p q)
    = scaleOf (Finset.fold max (Ideal.ofBits FTy.f32 4286578688#32) (fun x : Fin 128 => v161 (ix2 p x)) Finset.univ) := by
  unfold k0_pay3 scaleOf
  pointwise

/-- The running maxima start at zero. -/
theorem pay4_at (i : S1280x128.Idx) : k0_pay4 (F := Ideal) i = (0 : EReal) := by
  obtain ⟨p, q, rfl⟩ : ∃ (p : Fin 1280) (q : Fin 128), i = ix2 p q := ⟨i 0, i 1, by ext a; fin_cases a <;> rfl⟩
  unfold k0_pay4
  pointwise

/-- A row block that starts at row `o` computes its rows of `hblk`. -/
theorem rows_at (x0 x1 x2 x3 x4 x5) (o : ℕ)
    (b0 : ∀ a, (![o, 0] : Fin S1280x4096.rank → ℕ) a + S256x4096.size a ≤ S1280x4096.size a)
    (b1 : ∀ a, (![o, 0] : Fin S1280x1.rank → ℕ) a + S256x1.size a ≤ S1280x1.size a)
    (p : Fin 256) (q : Fin 256) (r : Fin 1280) (hr : r.val = o + p.val) :
    k0_pay5 (F := Ideal) (View.ld x0 (Rect.unit (s := S1280x4096) ![o, 0] S256x4096.size b0)) (View.ld x1 (Rect.unit (s := S1280x1) ![o, 0] S256x1.size b1))
      x2 x4 x3 x5 (ix2 p q) = hblk x0 x1 x2 x3 x4 x5 (ix2 r q) := by
  rw [pay5_at]
  show _ = gated ((∑ k, x0 (ix2 r k) * x2 (ix2 k q)) * x1 (ix2 r 0) * x4 (ix2 0 q))
    ((∑ k, x0 (ix2 r k) * x3 (ix2 k q)) * x1 (ix2 r 0) * x5 (ix2 0 q))
  have e0 : ∀ k : Fin 4096, View.ld x0 (Rect.unit (s := S1280x4096) ![o, 0] S256x4096.size b0) (ix2 p k) = x0 (ix2 r k) := fun k =>
    View.ld_unit_apply_of _ _ _ _ _ _ fun a => by fin_cases a <;> simp [hr]
  have e1 : View.ld x1 (Rect.unit (s := S1280x1) ![o, 0] S256x1.size b1) (ix2 p 0) = x1 (ix2 r 0) :=
    View.ld_unit_apply_of _ _ _ _ _ _ fun a => by fin_cases a <;> simp [hr]
  rw [e1]
  simp only [e0]

/-- A row block that starts at row `o` updates its rows of the running maxima. -/
theorem maxs_at (x0 x1 x2 x3 x4 x5 xs0) (o : ℕ)
    (b0 : ∀ a, (![o, 0] : Fin S1280x4096.rank → ℕ) a + S256x4096.size a ≤ S1280x4096.size a)
    (b1 : ∀ a, (![o, 0] : Fin S1280x1.rank → ℕ) a + S256x1.size a ≤ S1280x1.size a)
    (b2 : ∀ a, (![o, 0] : Fin S1280x128.rank → ℕ) a + S256x128.size a ≤ S1280x128.size a)
    (p : Fin 256) (q : Fin 128) (r : Fin 1280) (hr : r.val = o + p.val) :
    k0_pay6 (F := Ideal) (View.ld x0 (Rect.unit (s := S1280x4096) ![o, 0] S256x4096.size b0)) (View.ld x1 (Rect.unit (s := S1280x1) ![o, 0] S256x1.size b1))
      x2 x4 x3 x5 (View.ld xs0 (Rect.unit (s := S1280x128) ![o, 0] S256x128.size b2)) (ix2 p q)
      = scrStep (hblk x0 x1 x2 x3 x4 x5) xs0 (ix2 r q) := by
  rw [pay6_at, rows_at x0 x1 x2 x3 x4 x5 o b0 b1 p _ r hr, rows_at x0 x1 x2 x3 x4 x5 o b0 b1 p _ r hr]
  have e2 : View.ld xs0 (Rect.unit (s := S1280x128) ![o, 0] S256x128.size b2) (ix2 p q) = xs0 (ix2 r q) :=
    View.ld_unit_apply_of _ _ _ _ _ _ fun a => by fin_cases a <;> simp [hr]
  rw [e2]
  rfl

/-- Case A: the block of hidden values the point writes. -/
theorem out_A (c i a1 w1 a2 w2 a3 w3 a4 w4 a5 w5 a6 w6 a7 w7 a8 w8 a9 w9 hc0 hc1 x0 x1 x2 x3 x4 x5) :
    out0_A_6 (F := Ideal) c i a1 w1 a2 w2 a3 w3 a4 w4 a5 w5 a6 w6 a7 w7 a8 w8 a9 w9 hc0 hc1 x0 x1 x2 x3 x4 x5 = hblk x0 x1 x2 x3 x4 x5 := by
  funext y
  obtain ⟨r, d, rfl⟩ : ∃ (r : Fin 1280) (d : Fin 256), y = ix2 r d := ⟨y 0, y 1, by ext a; fin_cases a <;> rfl⟩
  frame_open
  simp (disch := decide) only [↓ View.readCov_skip, ↓ View.readCov_cons_toLoadRect, ↓ View.readCov_fill]
  frame_out
  rw [rows1, rows2, rows3, rows4]
  canon_tiles x h
  all_goals
    obtain ⟨p, q, rfl⟩ : ∃ (p : Fin 256) (q : Fin 256), x = ix2 p q := ⟨x 0, x 1, by ext a; fin_cases a <;> rfl⟩
    first | change r.val = _ + p.val at h0 | (change r.val = p.val at h0; rw [← Nat.zero_add p.val] at h0)
    change d.val = q.val at h1
    obtain rfl := Fin.ext h1
    exact rows_at x0 x1 x2 x3 x4 x5 _ _ _ p _ r h0

/-- Case B: the block of hidden values the point writes. -/
theorem out_B (c i a1 w1 a2 w2 a3 w3 a4 w4 a5 w5 a6 w6 a7 w7 a8 w8 a9 w9 hc0 hc1 x0 x1 x2 x3 x4 x5 xs0) :
    out0_B_6 (F := Ideal) c i a1 w1 a2 w2 a3 w3 a4 w4 a5 w5 a6 w6 a7 w7 a8 w8 a9 w9 hc0 hc1 x0 x1 x2 x3 x4 x5 xs0 = hblk x0 x1 x2 x3 x4 x5 := by
  funext y
  obtain ⟨r, d, rfl⟩ : ∃ (r : Fin 1280) (d : Fin 256), y = ix2 r d := ⟨y 0, y 1, by ext a; fin_cases a <;> rfl⟩
  frame_open
  simp (disch := decide) only [↓ View.readCov_skip, ↓ View.readCov_cons_toLoadRect, ↓ View.readCov_fill]
  frame_out
  rw [rows1, rows2, rows3, rows4]
  canon_tiles x h
  all_goals
    obtain ⟨p, q, rfl⟩ : ∃ (p : Fin 256) (q : Fin 256), x = ix2 p q := ⟨x 0, x 1, by ext a; fin_cases a <;> rfl⟩
    first | change r.val = _ + p.val at h0 | (change r.val = p.val at h0; rw [← Nat.zero_add p.val] at h0)
    change d.val = q.val at h1
    obtain rfl := Fin.ext h1
    exact rows_at x0 x1 x2 x3 x4 x5 _ _ _ p _ r h0

/-- Case C: the block of hidden values the point writes. -/
theorem out_C (c i a1 w1 a2 w2 a3 w3 a4 w4 a5 w5 a6 w6 a7 w7 a8 w8 a9 w9 hc0 hc1 x0 x1 x2 x3 x4 x5 xs0) :
    out0_C_6 (F := Ideal) c i a1 w1 a2 w2 a3 w3 a4 w4 a5 w5 a6 w6 a7 w7 a8 w8 a9 w9 hc0 hc1 x0 x1 x2 x3 x4 x5 xs0 = hblk x0 x1 x2 x3 x4 x5 := by
  funext y
  obtain ⟨r, d, rfl⟩ : ∃ (r : Fin 1280) (d : Fin 256), y = ix2 r d := ⟨y 0, y 1, by ext a; fin_cases a <;> rfl⟩
  frame_open
  simp (disch := decide) only [↓ View.readCov_skip, ↓ View.readCov_cons_toLoadRect, ↓ View.readCov_fill]
  frame_out
  rw [rows1, rows2, rows3, rows4]
  canon_tiles x h
  all_goals
    obtain ⟨p, q, rfl⟩ : ∃ (p : Fin 256) (q : Fin 256), x = ix2 p q := ⟨x 0, x 1, by ext a; fin_cases a <;> rfl⟩
    first | change r.val = _ + p.val at h0 | (change r.val = p.val at h0; rw [← Nat.zero_add p.val] at h0)
    change d.val = q.val at h1
    obtain rfl := Fin.ext h1
    exact rows_at x0 x1 x2 x3 x4 x5 _ _ _ p _ r h0

/-- Case B: the running maxima after the point. -/
theorem scr_B (c i a1 w1 a2 w2 a3 w3 a4 w4 a5 w5 a6 w6 a7 w7 a8 w8 a9 w9 hc0 hc1 x0 x1 x2 x3 x4 x5 xs0) :
    sout0_B_0 (F := Ideal) c i a1 w1 a2 w2 a3 w3 a4 w4 a5 w5 a6 w6 a7 w7 a8 w8 a9 w9 hc0 hc1 x0 x1 x2 x3 x4 x5 xs0 = scrStep (hblk x0 x1 x2 x3 x4 x5) xs0 := by
  funext y
  obtain ⟨r, d, rfl⟩ : ∃ (r : Fin 1280) (d : Fin 128), y = ix2 r d := ⟨y 0, y 1, by ext a; fin_cases a <;> rfl⟩
  frame_open
  simp (disch := decide) only [↓ View.readCov_skip, ↓ View.readCov_cons_toLoadRect, ↓ View.readCov_fill]
  frame_out
  rw [maxs1, maxs2, maxs3, maxs4]
  canon_tiles x h
  all_goals
    obtain ⟨p, q, rfl⟩ : ∃ (p : Fin 256) (q : Fin 128), x = ix2 p q := ⟨x 0, x 1, by ext a; fin_cases a <;> rfl⟩
    first | change r.val = _ + p.val at h0 | (change r.val = p.val at h0; rw [← Nat.zero_add p.val] at h0)
    change d.val = q.val at h1
    obtain rfl := Fin.ext h1
    exact maxs_at x0 x1 x2 x3 x4 x5 xs0 _ _ _ _ p _ r h0

/-- Case C: the running maxima after the point. -/
theorem scr_C (c i a1 w1 a2 w2 a3 w3 a4 w4 a5 w5 a6 w6 a7 w7 a8 w8 a9 w9 hc0 hc1 x0 x1 x2 x3 x4 x5 xs0) :
    sout0_C_0 (F := Ideal) c i a1 w1 a2 w2 a3 w3 a4 w4 a5 w5 a6 w6 a7 w7 a8 w8 a9 w9 hc0 hc1 x0 x1 x2 x3 x4 x5 xs0 = scrStep (hblk x0 x1 x2 x3 x4 x5) xs0 := by
  funext y
  obtain ⟨r, d, rfl⟩ : ∃ (r : Fin 1280) (d : Fin 128), y = ix2 r d := ⟨y 0, y 1, by ext a; fin_cases a <;> rfl⟩
  frame_open
  simp (disch := decide) only [↓ View.readCov_skip, ↓ View.readCov_cons_toLoadRect, ↓ View.readCov_fill]
  frame_out
  rw [maxs1, maxs2, maxs3, maxs4]
  canon_tiles x h
  all_goals
    obtain ⟨p, q, rfl⟩ : ∃ (p : Fin 256) (q : Fin 128), x = ix2 p q := ⟨x 0, x 1, by ext a; fin_cases a <;> rfl⟩
    first | change r.val = _ + p.val at h0 | (change r.val = p.val at h0; rw [← Nat.zero_add p.val] at h0)
    change d.val = q.val at h1
    obtain rfl := Fin.ext h1
    exact maxs_at x0 x1 x2 x3 x4 x5 xs0 _ _ _ _ p _ r h0

/-- Five row blocks' updates over any earlier stores are the one update of the whole block. -/
theorem scr_canon (x0 x1 x2 x3 x4 x5 xs0) (L' : List (View.Piece (Elt Ideal) S1280x128 .f32)) (y : S1280x128.Idx) (b0 b1 b2 b3 b4 b5 b6 b7 b8 b9 b10 b11 b12 b13 b14) :
    View.canon ([⟨Rect.unit (s := S1280x128) ![1024, 0] ![256, 128] b0, k0_pay6 (F := Ideal) (View.ld x0 (Rect.unit (s := S1280x4096) ![1024, 0] S256x4096.size b1)) (View.ld x1 (Rect.unit (s := S1280x1) ![1024, 0] S256x1.size b2)) x2 x4 x3 x5 (View.ld xs0 (Rect.unit (s := S1280x128) ![1024, 0] ![256, 128] b0))⟩,
      ⟨Rect.unit (s := S1280x128) ![768, 0] ![256, 128] b3, k0_pay6 (F := Ideal) (View.ld x0 (Rect.unit (s := S1280x4096) ![768, 0] S256x4096.size b4)) (View.ld x1 (Rect.unit (s := S1280x1) ![768, 0] S256x1.size b5)) x2 x4 x3 x5 (View.ld xs0 (Rect.unit (s := S1280x128) ![768, 0] ![256, 128] b3))⟩,
      ⟨Rect.unit (s := S1280x128) ![512, 0] ![256, 128] b6, k0_pay6 (F := Ideal) (View.ld x0 (Rect.unit (s := S1280x4096) ![512, 0] S256x4096.size b7)) (View.ld x1 (Rect.unit (s := S1280x1) ![512, 0] S256x1.size b8)) x2 x4 x3 x5 (View.ld xs0 (Rect.unit (s := S1280x128) ![512, 0] ![256, 128] b6))⟩,
      ⟨Rect.unit (s := S1280x128) ![256, 0] ![256, 128] b9, k0_pay6 (F := Ideal) (View.ld x0 (Rect.unit (s := S1280x4096) ![256, 0] S256x4096.size b10)) (View.ld x1 (Rect.unit (s := S1280x1) ![256, 0] S256x1.size b11)) x2 x4 x3 x5 (View.ld xs0 (Rect.unit (s := S1280x128) ![256, 0] ![256, 128] b9))⟩,
      ⟨Rect.unit (s := S1280x128) ![0, 0] ![256, 128] b12, k0_pay6 (F := Ideal) (View.ld x0 (Rect.unit (s := S1280x4096) ![0, 0] S256x4096.size b13)) (View.ld x1 (Rect.unit (s := S1280x1) ![0, 0] S256x1.size b14)) x2 x4 x3 x5 (View.ld xs0 (Rect.unit (s := S1280x128) ![0, 0] ![256, 128] b12))⟩] ++ L') y
      = scrStep (hblk x0 x1 x2 x3 x4 x5) xs0 y := by
  refine View.canon_append_of_piecesOf _ L' [_, _, _, _, _] ⟨?_, ?_, ?_, ?_, ?_, trivial⟩ y
    (View.cover_of_tiledL _ ![256, 128] (by sl_kernel_rfl) y)
  all_goals
    intro x
    obtain ⟨p, q, rfl⟩ : ∃ (p : Fin 256) (q : Fin 128), x = ix2 p q := ⟨x 0, x 1, by ext a; fin_cases a <;> rfl⟩
    refine (maxs_at x0 x1 x2 x3 x4 x5 xs0 _ _ _ _ p q ⟨_ + p.val, ?_⟩ rfl).trans (congrArg _ ?_)
    rotate_left
    · ext a; fin_cases a <;> simp [Rect.emb, Rect.unit, ix2]
    · omega

/-- Case A: the running maxima after the first point, which starts them at zero. -/
theorem scr_A (c i a1 w1 a2 w2 a3 w3 a4 w4 a5 w5 a6 w6 a7 w7 a8 w8 a9 w9 hc0 hc1 x0 x1 x2 x3 x4 x5) :
    sout0_A_0 (F := Ideal) c i a1 w1 a2 w2 a3 w3 a4 w4 a5 w5 a6 w6 a7 w7 a8 w8 a9 w9 hc0 hc1 x0 x1 x2 x3 x4 x5 = scrStep (hblk x0 x1 x2 x3 x4 x5) (k0_pay4 (F := Ideal)) := by
  funext y
  frame_open
  simp (disch := decide) only [↓ View.readCov_skip, ↓ View.readCov_cons_toLoadRect, ↓ View.readCov_fill]
  frame_out
  rw [maxs1, maxs2, maxs3, maxs4]
  exact scr_canon x0 x1 x2 x3 x4 x5 (k0_pay4 (F := Ideal)) [_] y _ _ _ _ _ _ _ _ _ _ _ _ _ _ _

/-- Case C: the scale column the last point writes, from the running maxima after that point. -/
theorem scale_C (c i a1 w1 a2 w2 a3 w3 a4 w4 a5 w5 a6 w6 a7 w7 a8 w8 a9 w9 hc0 hc1 x0 x1 x2 x3 x4 x5 xs0) :
    out0_C_7 (F := Ideal) c i a1 w1 a2 w2 a3 w3 a4 w4 a5 w5 a6 w6 a7 w7 a8 w8 a9 w9 hc0 hc1 x0 x1 x2 x3 x4 x5 xs0 = k0_pay3 (F := Ideal) (scrStep (hblk x0 x1 x2 x3 x4 x5) xs0) := by
  frame_open
  simp (disch := decide) only [↓ View.readCov_skip, ↓ View.readCov_cons_toLoadRect, ↓ View.readCov_fill]
  frame_out
  rw [maxs1, maxs2, maxs3, maxs4]
  refine congrArg k0_pay3 ?_
  rw [View.readCov_eq_canon']
  funext y
  refine Eq.trans (congrArg _ ?_) (scr_canon x0 x1 x2 x3 x4 x5 xs0 [] y _ _ _ _ _ _ _ _ _ _ _ _ _ _ _)
  ext a; fin_cases a <;> simp [Rect.unit]

end Cert.GateUpIdeal.Blocks
end
-- ==== Proof.GateUpKernel.lean ====
module

public import proofs.«01_k».proof.Proof.Gen.GateUpIdeal.Value
public import Idealize.ShloMosaic.Lib.Pipeline.ValueKit
public import Idealize.ShloMosaic.Lib.Pipeline.ReadBack
public import Idealize.ShloMosaic.Lib.MatmulPlain
public import proofs.«01_k».proof.Proof.GateUpCases

@[expose] public section

set_option maxRecDepth 16384

noncomputable section

namespace Cert.GateUpIdeal.Blocks

open Cert.GateUpIdeal Cert.GateUpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window's block of grid point `t` begins: gate columns from 3072, up columns from 10240, 256 a point. -/
theorem idx : ∀ t : Fin grid0.N, win0_0.index t = ![0, 0] ∧ win0_1.index t = ![0, 0] ∧ win0_2.index t = ![0, 12 + t.val]
    ∧ win0_3.index t = ![0, 40 + t.val] ∧ win0_4.index t = ![0, 12 + t.val] ∧ win0_5.index t = ![0, 40 + t.val]
    ∧ win0_6.index t = ![0, t.val] ∧ win0_7.index t = ![0, 0] := by decide +kernel

/-- The hidden value at row `r`, column `c` of the arrays as launched. -/
abbrev H (c : Dev nD) : Fin 1280 → Fin 7168 → EReal :=
  hid (m ((c : Thread nD τ).loc main_arg0)) (m ((c : Thread nD τ).loc main_arg1)) (m ((c : Thread nD τ).loc main_arg2))
    (m ((c : Thread nD τ).loc main_arg3))

/-- `hblk` at an element. -/
theorem hblk_at (x0 x1 x2 x3 x4 x5) (r : Fin 1280) (q : Fin 256) : hblk x0 x1 x2 x3 x4 x5 (ix2 r q)
    = gated ((∑ k, x0 (ix2 r k) * x2 (ix2 k q)) * x1 (ix2 r 0) * x4 (ix2 0 q))
      ((∑ k, x0 (ix2 r k) * x3 (ix2 k q)) * x1 (ix2 r 0) * x5 (ix2 0 q)) := rfl

/-- The block a point computes is its 256 columns of the hidden array. -/
theorem hblk_eq (c : Dev nD) (t : Fin cfg0.N) (r : Fin 1280) (q : Fin 256) (d : Fin 7168) (hd : d.val = 256 * t.val + q.val) :
    hblk (iblk m c 0 t) (iblk m c 1 t) (iblk m c 2 t) (iblk m c 3 t) (iblk m c 4 t) (iblk m c 5 t) (ix2 r q) = H m c r d := by
  obtain ⟨e0, e1, e2, e3, e4, e5, e6, e7⟩ := idx t
  rw [hblk_at]
  unfold H hid proj
  refine congrArg₂ gated ?_ ?_
  all_goals
    blk_point [iblk, V, e0, e1, e2, e3, e4, e5]

/-- What every point leaves in the hidden array's block. -/
theorem out_at (c : Dev nD) (t : Fin cfg0.N) : (outsAt0 m c t.val t.isLt).1
    = hblk (iblk m c 0 t) (iblk m c 1 t) (iblk m c 2 t) (iblk m c 3 t) (iblk m c 4 t) (iblk m c 5 t) := by
  by_cases h0 : t.val % 28 = 0
  · have h1 : ¬ t.val % 28 = 27 := by omega
    rw [outsAt0_A m c t h0 h1]
    dsimp only
    rw [out_A]
  · by_cases h1 : t.val % 28 = 27
    · rw [outsAt0_C m c t h0 h1]
      dsimp only
      rw [out_C]
    · rw [outsAt0_B m c t h0 h1]
      dsimp only
      rw [out_B]

/-- The hidden array after the run. -/
theorem arr6_eq (c : Dev nD) : (dats m 0 c).arrAt 6 cfg0.N
    = hidG (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  obtain ⟨e0, e1, e2, e3, e4, e5, e6, e7⟩ := idx t
  blk_simp
  rw [after0_6, out_at]
  obtain ⟨r, q, rfl⟩ : ∃ (r : Fin 1280) (q : Fin 256), y = ix2 r q := ⟨y 0, y 1, by ext a; fin_cases a <;> rfl⟩
  refine (hblk_eq m c t r q (((cfg0.win 6).blk t).view.emb (ix2 r q) 1) ?_).trans ?_
  · blk_simp [e6]
    simp
    omega
  · show H m c r _ = H m c _ _
    refine congrArg (fun z => H m c z _) (Fin.ext ?_)
    blk_simp [e6]

/-- One point's update of the running maxima: a bound holds after it just if it held before and holds of the point's 256
    columns. -/
theorem step_le (c : Dev nD) (t : Fin cfg0.N) (acc : Vec Ideal S1280x128 .f32) (r : Fin 1280) (l : Fin 128) (b : EReal) :
    scrStep (hblk (iblk m c 0 t) (iblk m c 1 t) (iblk m c 2 t) (iblk m c 3 t) (iblk m c 4 t) (iblk m c 5 t)) acc (ix2 r l) ≤ b
      ↔ (acc (ix2 r l) : EReal) ≤ b ∧ ∀ d : Fin 7168, d.val / 256 = t.val → d.val % 128 = l.val → abs' (H m c r d) ≤ b := by
  have hN : t.val < 28 := lt_of_lt_of_eq t.isLt N_0
  have u0 := hblk_eq m c t r ⟨l.val, by omega⟩ ⟨256 * t.val + l.val, by omega⟩ rfl
  have u1 := hblk_eq m c t r ⟨128 + l.val, by omega⟩ ⟨256 * t.val + (128 + l.val), by omega⟩ rfl
  show max _ (max (abs' (hblk _ _ _ _ _ _ (ix2 r ⟨l.val, _⟩))) (abs' (hblk _ _ _ _ _ _ (ix2 r ⟨128 + l.val, _⟩)))) ≤ b ↔ _
  rw [u0, u1, max_le_iff, max_le_iff]
  refine and_congr_right fun _ => ⟨fun h d h1 h2 => ?_, fun h => ⟨h _ ?_ ?_, h _ ?_ ?_⟩⟩
  · have : d.val = 256 * t.val + l.val ∨ d.val = 256 * t.val + (128 + l.val) := by omega
    rcases this with e | e
    · rw [show d = ⟨256 * t.val + l.val, by omega⟩ from Fin.ext e]; exact h.1
    · rw [show d = ⟨256 * t.val + (128 + l.val), by omega⟩ from Fin.ext e]; exact h.2
  all_goals (show (_ : ℕ) = _; dsimp only; omega)

/-- What the running maxima hold after point `n`: a bound holds of lane `l` of row `r` just if it holds of zero and of the
    absolute values of that row in the columns so far that are `l` modulo 128. -/
theorem scr_le (c : Dev nD) (r : Fin 1280) (l : Fin 128) (b : EReal) : ∀ (n : ℕ) (hn : n < cfg0.N),
    ((outsAt0 m c n hn).2.2 (ix2 r l) : EReal) ≤ b
      ↔ (0 : EReal) ≤ b ∧ ∀ d : Fin 7168, d.val / 256 ≤ n → d.val % 128 = l.val → abs' (H m c r d) ≤ b := by
  intro n
  induction n with
  | zero =>
    intro hn
    have e : (outsAt0 m c 0 hn).2.2 = scrStep (hblk (iblk m c 0 ⟨0, hn⟩) (iblk m c 1 ⟨0, hn⟩) (iblk m c 2 ⟨0, hn⟩)
        (iblk m c 3 ⟨0, hn⟩) (iblk m c 4 ⟨0, hn⟩) (iblk m c 5 ⟨0, hn⟩)) (k0_pay4 (F := Ideal)) := by
      rw [outsAt0_A m c ⟨0, hn⟩ (Nat.zero_mod _) (by dsimp only; omega)]
      dsimp only
      rw [scr_A]
    rw [e, step_le, pay4_at]
    refine and_congr_right fun _ => forall_congr' fun d => ?_
    rw [Nat.le_zero]
  | succ n ih =>
    intro hn
    have hN : n + 1 < 28 := lt_of_lt_of_eq hn N_0
    have e : (outsAt0 m c (n + 1) hn).2.2 = scrStep (hblk (iblk m c 0 ⟨n + 1, hn⟩) (iblk m c 1 ⟨n + 1, hn⟩)
        (iblk m c 2 ⟨n + 1, hn⟩) (iblk m c 3 ⟨n + 1, hn⟩) (iblk m c 4 ⟨n + 1, hn⟩) (iblk m c 5 ⟨n + 1, hn⟩))
        (outsAt0 m c n (Nat.lt_of_succ_lt hn)).2.2 := by
      have h0 : ¬ (n + 1) % 28 = 0 := by omega
      by_cases h1 : (n + 1) % 28 = 27
      · rw [outsAt0_C m c ⟨n + 1, hn⟩ h0 h1]
        dsimp only
        rw [scr_C]
        rfl
      · rw [outsAt0_B m c ⟨n + 1, hn⟩ h0 h1]
        dsimp only
        rw [scr_B]
        rfl
    rw [e, step_le, ih (Nat.lt_of_succ_lt hn), and_assoc]
    refine and_congr_right fun _ => ⟨fun h d h1 h2 => ?_, fun h => ⟨fun d h1 h2 => h d (by omega) h2, fun d h1 h2 => h d (le_of_eq h1) h2⟩⟩
    rcases Nat.lt_or_ge n (d.val / 256) with h3 | h3
    · exact h.2 d (by show d.val / 256 = n + 1; omega) h2
    · exact h.1 d h3 h2

/-- The last grid point. -/
def tl : Fin cfg0.N := ⟨27, by decide⟩

/-- The maximum over the 128 lanes after the last point is the row's largest absolute value. -/
theorem lanes_max (c : Dev nD) (r : Fin 1280) :
    Finset.fold max (Ideal.ofBits FTy.f32 4286578688#32) (fun x : Fin 128 => ((outsAt0 m c tl.val tl.isLt).2.2 (ix2 r x) : EReal)) Finset.univ
      = rowMax (m ((c : Thread nD τ).loc main_arg0)) (m ((c : Thread nD τ).loc main_arg1)) (m ((c : Thread nD τ).loc main_arg2))
          (m ((c : Thread nD τ).loc main_arg3)) r := by
  refine eq_of_forall_ge_iff fun b => ?_
  unfold rowMax
  rw [Finset.fold_max_le, Finset.fold_max_le]
  refine and_congr_right fun _ => ⟨fun h d _ => ?_, fun h l _ => (scr_le m c r l b _ _).mpr ⟨?_, fun d _ _ => h d (Finset.mem_univ _)⟩⟩
  · exact ((scr_le m c r ⟨d.val % 128, Nat.mod_lt _ (by decide)⟩ b _ _).mp (h _ (Finset.mem_univ _))).2 d
      (by have := d.isLt; show d.val / 256 ≤ 27; omega) rfl
  · exact (abs'_nonneg _).trans (h 0 (Finset.mem_univ _))

/-- What the last point leaves in the scale column. -/
theorem scale_at (c : Dev nD) : (outsAt0 m c tl.val tl.isLt).2.1 = k0_pay3 (F := Ideal) (outsAt0 m c tl.val tl.isLt).2.2 := by
  have h0 : ¬ tl.val % 28 = 0 := by decide
  have h1 : tl.val % 28 = 27 := by decide
  rw [outsAt0_C m c tl h0 h1]
  dsimp only
  rw [scale_C, scr_C]

/-- The scale column after the run. -/
theorem arr7_eq (c : Dev nD) : (dats m 0 c).arrAt 7 cfg0.N
    = scaleG (m ((c : Thread nD τ).loc main_arg0)) (m ((c : Thread nD τ).loc main_arg1)) (m ((c : Thread nD τ).loc main_arg2))
        (m ((c : Thread nD τ).loc main_arg3)) := by
  refine (dats m 0 c).arrAt_eq_of_after_last 7 tl (by decide +kernel) _ fun j => ?_
  blk_simp
  rw [after0_7, scale_at]
  obtain ⟨r, q, rfl⟩ : ∃ (r : Fin 1280) (q : Fin 1), j = ix2 r q := ⟨j 0, j 1, by ext a; fin_cases a <;> rfl⟩
  refine (pay3_at _ r q).trans ?_
  rw [lanes_max]
  rfl

end Cert.GateUpIdeal.Blocks
end
-- ==== Proof.GateUpReference.lean ====
module

public import proofs.«01_k».proof.Proof.Gen.GateUpRefIdeal.Value
public import Idealize.ShloMosaic.Lib.Pipeline.ValueKit
public import Idealize.ShloMosaic.Lib.Pipeline.ReadBack
public import Idealize.ShloMosaic.Lib.MatmulPlain
public import proofs.«01_k».proof.Proof.GateUpSpec

@[expose] public section

set_option maxRecDepth 16384

noncomputable section

namespace Cert.GateUpRefIdeal.Whole

open Cert.GateUpRefIdeal Cert.GateUpRefIdeal.Gen Idealize.ShloMosaic Idealize.ShloMosaic.TcCoe Idealize.SL.Sem
open Idealize.ShloMosaic.Pipeline (Dat)

open Cert.GateUpIdeal.Blocks (gated abs' proj hid hidG rowMax scaleOf scaleG)

/-- The one-block reference's hidden array, element by element. -/
theorem pay1_at (v0 v1 v2 v4) (p : Fin 1280) (q : Fin 7168) :
    k0_pay1 (F := Ideal) v0 v1 v2 v4 (ix2 p q) = hid v2 v4 v0 v1 p q := by
  unfold hid gated proj
  unfold_payloads
  pointwise

/-- The reference's hidden array. -/
theorem pay1_eq (v0 v1 v2 v4) : k0_pay1 (F := Ideal) v0 v1 v2 v4 = hidG v2 v4 v0 v1 := by
  funext y
  obtain ⟨p, q, rfl⟩ : ∃ (p : Fin 1280) (q : Fin 7168), y = ix2 p q := ⟨y 0, y 1, by ext a; fin_cases a <;> rfl⟩
  exact pay1_at v0 v1 v2 v4 p q

/-- Row maxima of absolute values. -/
def absMax (h : FVec Ideal S1280x7168 .f32) : FVec Ideal S1280 .f32 :=
  multiReduction .maximumf [1] S1280 (absf h) 0xFF800000#32 reduces_S1280x7168_S1280 (.inl rfl) rfl

/-- A row's maximum of absolute values, as a fold over the row. -/
theorem absMax_at (h : FVec Ideal S1280x7168 .f32) (p : Fin 1280) :
    absMax h (ix1 p) = Finset.fold max (Ideal.ofBits FTy.f32 4286578688#32) (fun x : Fin 7168 => abs' (h (ix2 p x))) Finset.univ := by
  unfold absMax
  refine (Ideal.multiReduction_maximumf_single (absf h) 0xFF800000#32 reduces_S1280x7168_S1280 (.inl rfl) rfl (ix1 p)).trans ?_
  refine congrArg (fun f => Finset.fold max _ f Finset.univ) (funext fun x => ?_)
  have e : reduces_S1280x7168_S1280.lift (ix1 p) x = ix2 p x := by ext a; fin_cases a <;> rfl
  exact congrArg (fun i => abs' (h i)) e

/-- A column of scales from row maxima. -/
def scaleCol (v17 : FVec Ideal S1280 .f32) : FVec Ideal S1280x1 .f32 :=
  shapeCast S1280x1 (select (cmpf .oeq v17 (broadcast S1280 (Scalar.ofBits .f32 0x00000000#32 : Ideal .f32)))
    (broadcast S1280 (Scalar.ofBits .f32 0x3F800000#32 : Ideal .f32))
    (divf v17 (broadcast S1280 (Scalar.ofBits .f32 0x43E00000#32 : Ideal .f32)))) shapeCasts_S1280_S1280x1

/-- The scale column, element by element. -/
theorem scaleCol_at (v : FVec Ideal S1280 .f32) (p : Fin 1280) (q : Fin 1) : scaleCol v (ix2 p q) = scaleOf (v (ix1 p)) := by
  unfold scaleCol scaleOf
  pointwise

/-- The reference's scale column is made of the row maxima of its hidden array. -/
theorem pay2_of (v0 v1 v2 v4) : k0_pay2 (F := Ideal) v0 v1 v2 v4 = scaleCol (absMax (k0_pay1 (F := Ideal) v0 v1 v2 v4)) := by
  unfold k0_pay2
  rfl

/-- The reference's scale column, element by element. -/
theorem pay2_at (v0 v1 v2 v4) (p : Fin 1280) (q : Fin 1) :
    k0_pay2 (F := Ideal) v0 v1 v2 v4 (ix2 p q) = scaleOf (rowMax v2 v4 v0 v1 p) := by
  rw [pay2_of, scaleCol_at, absMax_at]
  unfold rowMax
  refine congrArg scaleOf (congrArg (fun f => Finset.fold max _ f Finset.univ) (funext fun x => ?_))
  rw [pay1_at]

/-- The reference's scale column. -/
theorem pay2_eq (v0 v1 v2 v4) : k0_pay2 (F := Ideal) v0 v1 v2 v4 = scaleG v2 v4 v0 v1 := by
  funext y
  obtain ⟨p, q, rfl⟩ : ∃ (p : Fin 1280) (q : Fin 1), y = ix2 p q := ⟨y 0, y 1, by ext a; fin_cases a <;> rfl⟩
  exact pay2_at v0 v1 v2 v4 p q

end Cert.GateUpRefIdeal.Whole
end
-- ==== Proof.GateUpEq.lean ====
module

public import proofs.«01_k».proof.Defs
public import proofs.«01_k».proof.Proof.GateUpKernel
public import proofs.«01_k».proof.Proof.GateUpReference

@[expose] public section

set_option maxRecDepth 16384

noncomputable section

namespace Cert.Proof

open Idealize.ShloMosaic Idealize.ShloMosaic.TcCoe Idealize.SL.Sem

/-- From equal arguments, the gated input projection and its reference leave the same hidden array and the same row scales
    over the reals. -/
theorem algebraic_GateUp : algebraic_GateUpIdeal_GateUpRefIdeal := fun m ρ m' ρ' _ hag =>
  ⟨fun c => _, fun c => _,
    (θ_run _ _ _).mono (fun _ h c => ⟨(h c).1.trans (GateUpIdeal.Blocks.arr6_eq m c),
        (h c).2.1.trans (GateUpIdeal.Blocks.arr7_eq m c), (h c).2.2⟩)
      (GateUpIdeal.Value.run_blocks m ρ),
    (θ_run _ _ _).mono (fun _ h c => by
      obtain ⟨h0, h1, h2, h3⟩ := hag c
      refine ⟨((h c).1.trans (GateUpRefIdeal.Whole.pay1_eq _ _ _ _)).trans ?_,
        ((h c).2.1.trans (GateUpRefIdeal.Whole.pay2_eq _ _ _ _)).trans ?_, (h c).2.2⟩
      all_goals rw [h0, h1, h2, h3]) (GateUpRefIdeal.Value.run m' ρ')⟩

end Cert.Proof
end
-- ==== Proof.HQuantKernel.lean ====
module

public import proofs.«01_k».proof.Proof.Gen.HQuantIdeal.Value
public import proofs.«01_k».proof.Proof.Gen.HQuantRefIdeal.Value
public import Idealize.ShloMosaic.Lib.Pipeline.ValueKit

@[expose] public section

set_option maxRecDepth 16384

noncomputable section

namespace Cert.HQuantIdeal.Blocks

open Cert.HQuantIdeal Cert.HQuantIdeal.Gen Idealize.ShloMosaic Idealize.ShloMosaic.TcCoe Idealize.SL.Sem
open Idealize.ShloMosaic.Pipeline (Dat)

/-- The quantiser of the MLP's hidden array, element by element: the value divided by its row's scale, clipped to the
    range of the 8-bit format. -/
def hqG (h : FVec Ideal S1280x7168 .f32) (s : FVec Ideal S1280x1 .f32) : FVec Ideal S1280x7168 .fp8e4m3 := fun i =>
  (min (Scalar.ofBits (F := Ideal) .f32 0x43E00000#32 : EReal)
    (max (Scalar.ofBits (F := Ideal) .f32 0xC3E00000#32 : EReal) (Ideal.div (h i) (s (ix2 (i 0) 0)) : EReal)) : EReal)

/-- What one row block computes, element by element. -/
theorem pay_at (v0 v1) (p : Fin 128) (q : Fin 7168) : k0_pay1 (F := Ideal) v0 v1 (ix2 p q)
    = (min (Scalar.ofBits (F := Ideal) .f32 0x43E00000#32 : EReal)
        (max (Scalar.ofBits (F := Ideal) .f32 0xC3E00000#32 : EReal) (Ideal.div (v0 (ix2 p q)) (v1 (ix2 p 0)) : EReal)) : EReal) := by
  unfold_payloads
  pointwise

/-- What the one-block reference computes, as one array. -/
theorem ref_eq (v0 v1) : Cert.HQuantRefIdeal.Gen.k0_pay1 (F := Ideal) v0 v1 = hqG v0 v1 := by
  funext y
  obtain ⟨p, q, rfl⟩ : ∃ (p : Fin 1280) (q : Fin 7168), y = ix2 p q := ⟨y 0, y 1, by ext a; fin_cases a <;> rfl⟩
  show _ = (min (Scalar.ofBits (F := Ideal) .f32 0x43E00000#32 : EReal)
    (max (Scalar.ofBits (F := Ideal) .f32 0xC3E00000#32 : EReal) (Ideal.div (v0 (ix2 p q)) (v1 (ix2 p 0)) : EReal)) : EReal)
  unfold_payloads
  pointwise

variable (m : (ℓ : Loc nD τ sig) → Buf (Elt Ideal) ℓ) (ρ : Dev nD → PrngReg)

/-- Every window moves by one block of 128 rows a grid point. -/
theorem idx : ∀ t : Fin grid0.N, win0_0.index t = ![t.val, 0] ∧ win0_1.index t = ![t.val, 0] ∧ win0_2.index t = ![t.val, 0] := by
  decide +kernel

/-- The result array after the run, as one function of the arguments. -/
theorem arr_eq (c : Dev nD) :
    (dats m 0 c).arrAt 2 cfg0.N = hqG (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  frame_out
  obtain ⟨p, q, rfl⟩ : ∃ (p : Fin 128) (q : Fin 7168), y = ix2 p q := ⟨y 0, y 1, by ext a; fin_cases a <;> rfl⟩
  rw [pay_at]
  unfold hqG
  blk_point [iblk, V, e0, e1, e2]

end Cert.HQuantIdeal.Blocks
end
-- ==== Proof.HQuantEq.lean ====
module

public import proofs.«01_k».proof.Defs
public import proofs.«01_k».proof.Proof.HQuantKernel

@[expose] public section

set_option maxRecDepth 16384

noncomputable section

namespace Cert.Proof

open Idealize.ShloMosaic Idealize.ShloMosaic.TcCoe Idealize.SL.Sem

/-- From equal arguments, the hidden array's quantiser and its reference leave the same codes over the reals. -/
theorem algebraic_HQuant : algebraic_HQuantIdeal_HQuantRefIdeal := fun m ρ m' ρ' _ hag =>
  ⟨fun c => _, (θ_run _ _ _).mono (fun _ h c => ⟨(h c).1.trans (HQuantIdeal.Blocks.arr_eq m c), (h c).2⟩)
      (HQuantIdeal.Value.run_blocks m ρ),
    (θ_run _ _ _).mono (fun _ h c => by
      obtain ⟨h0, h1⟩ := hag c
      refine ⟨((h c).1.trans (HQuantIdeal.Blocks.ref_eq _ _)).trans ?_, (h c).2⟩
      rw [h0, h1]) (HQuantRefIdeal.Value.run m' ρ')⟩

end Cert.Proof
end
-- ==== Proof.AttnSpec.lean ====
module

public import proofs.«01_k».proof.Proof.Gen.AttnIdeal.Value
public import Idealize.ShloMosaic.Lib.Pipeline.ValueKit
public import Idealize.ShloMosaic.Lib.WordSum
public import proofs.«01_k».proof.Proof.GateUpSpec

@[expose] public section

set_option maxRecDepth 16384

noncomputable section

namespace Cert.AttnIdeal.Blocks

open Cert.AttnIdeal Cert.AttnIdeal.Gen Idealize.ShloMosaic Idealize.ShloMosaic.TcCoe Idealize.SL.Sem
open Idealize.ShloMosaic.Pipeline (Dat)
open Cert.GateUpIdeal.Blocks (abs' abs'_nonneg scaleOf)

/-! ## A row of the softmax -/

/-- The score of a key that is not visible: minus infinity. -/
def hidden : EReal := Ideal.ofBits FTy.f32 4286578688#32

/-- The factor that turns a power of `e` into a power of two. -/
def log2e : EReal := Scalar.ofBits (F := Ideal) .f32 0x3FB8AA3B#32

/-- One over the square root of the head dimension. -/
def rsqrtDim : EReal := Scalar.ofBits (F := Ideal) .f32 0x3DB504F3#32

/-- What is subtracted from a row of scores: the row's maximum, rounded up to a whole number. -/
def rowTop {κ : Type} [Fintype κ] (s : κ → EReal) : EReal :=
  FloatOps.ceil (F := Ideal) (φ := .f32) (Finset.fold max hidden s Finset.univ)

/-- One output value of a softmax row: scores `s` (in powers of two), value codes `v`, value scale `w`. -/
def softRow {κ : Type} [Fintype κ] (s : κ → EReal) (w : EReal) (v : κ → EReal) : EReal :=
  Ideal.div (∑ k, Ideal.exp2 (s k - rowTop s) * w * v k) (∑ k, Ideal.exp2 (s k - rowTop s))

/-- Minus infinity is the least value. -/
theorem hidden_eq : hidden = ⊥ := by
  simp [hidden, Ideal.ofBits, Ideal.ieee]

/-- A maximum over more keys is the same when the further ones are all hidden. -/
theorem fold_window {α β : Type} [Fintype α] [Fintype β] (f : α → β) (s : β → EReal)
    (h : ∀ b, (∀ a, f a ≠ b) → s b = hidden) :
    Finset.fold max hidden (fun a => s (f a)) Finset.univ = Finset.fold max hidden s Finset.univ := by
  refine eq_of_forall_ge_iff fun c => ?_
  simp only [Finset.fold_max_le, Finset.mem_univ, true_implies]
  refine and_congr_right fun hc => ⟨fun ha b => ?_, fun hb a => hb (f a)⟩
  by_cases hb : ∃ a, f a = b
  · obtain ⟨a, rfl⟩ := hb
    exact ha a
  · rw [h b fun a e => hb ⟨a, e⟩]
    exact hc

/-- A sum over more keys is the same when the further terms are all zero. -/
theorem sum_window {α β : Type} [Fintype α] [Fintype β] (f : α → β) (hf : Function.Injective f) (g : β → EReal)
    (h : ∀ b, (∀ a, f a ≠ b) → g b = 0) : ∑ a, g (f a) = ∑ b, g b :=
  Finset.sum_of_injOn f hf.injOn (fun _ _ => Finset.mem_coe.2 (Finset.mem_univ _))
    (fun b _ hb => h b fun a e => hb ⟨a, Finset.mem_coe.2 (Finset.mem_univ _), e⟩) fun _ _ => rfl

/-- A softmax row over a window of the keys is the row over all keys, when every key outside the window is hidden. -/
theorem softRow_window {α β : Type} [Fintype α] [Fintype β] (f : α → β) (hf : Function.Injective f) (s v : β → EReal) (w : EReal)
    (h : ∀ b, (∀ a, f a ≠ b) → s b = hidden) : softRow (fun a => s (f a)) w (fun a => v (f a)) = softRow s w v := by
  have e : rowTop (fun a => s (f a)) = rowTop s := by
    unfold rowTop
    rw [fold_window f s h]
  have z : ∀ b, (∀ a, f a ≠ b) → Ideal.exp2 (s b - rowTop s) = 0 := fun b hb => by
    rw [h b hb, hidden_eq, sub_eq_add_neg, EReal.bot_add, Ideal.exp2_bot]
  unfold softRow
  rw [e, sum_window f hf (fun b => Ideal.exp2 (s b - rowTop s)) z,
    sum_window f hf (fun b => Ideal.exp2 (s b - rowTop s) * w * v b) fun b hb => by rw [z b hb, zero_mul, zero_mul]]

/-! ## Which keys a query sees -/

/-- Query `i` sees key `j`: the key is not later, is fewer than 192 positions back, and no segment starts after the key
    and at or before the query. `c b` is the start of segment `b + 1`, a signed word. -/
def Sees (c : Fin 5 → BitVec 32) (i j : ℕ) : Prop :=
  j ≤ i ∧ i < j + 192 ∧ ∀ b, (c b).toInt ≤ (i : ℤ) → (c b).toInt ≤ (j : ℤ)

/-- How many segments start at or before position `i`. -/
def segOf (c : Fin 5 → BitVec 32) (i : ℕ) : ℕ := ∑ b, if (c b).toInt ≤ (i : ℤ) then 1 else 0

/-- Two positions, one not later than the other, lie in the same segment when no segment starts between them. -/
theorem segOf_eq_iff (c : Fin 5 → BitVec 32) (i j : ℕ) (h : j ≤ i) :
    segOf c j = segOf c i ↔ ∀ b, (c b).toInt ≤ (i : ℤ) → (c b).toInt ≤ (j : ℤ) := by
  unfold segOf
  rw [Finset.sum_eq_sum_iff_of_le fun b _ => by split_ifs <;> omega]
  simp only [Finset.mem_univ, true_implies]
  refine forall_congr' fun b => ?_
  split_ifs <;> simp_all <;> omega

/-! ## The arrays -/

/-- Query row `i`'s scores for head `h`, in powers of two; keys out of sight are minus infinity. -/
def score (cu : IVec S6 32) (ks : FVec Ideal S4 .f32) (q : FVec Ideal S1280x2048 .bf16) (k : FVec Ideal S1280x512 .fp8e4m3)
    (h : Fin 16) (i j : Fin 1280) : EReal :=
  open Classical in
  if Sees (fun b => cu (ix1 ⟨1 + b.val, by omega⟩)) i.val j.val then
    (∑ x : Fin 128, q (ix2 i ⟨h.val * 128 + x.val, by omega⟩) * k (ix2 j ⟨h.val / 4 * 128 + x.val, by omega⟩))
      * (ks (ix1 ⟨h.val / 4, by omega⟩) * rsqrtDim) * log2e
  else hidden

/-- The attention of head `h`, query row `i`, lane `d`. -/
def headAt (cu : IVec S6 32) (ks vs : FVec Ideal S4 .f32) (q : FVec Ideal S1280x2048 .bf16) (k v : FVec Ideal S1280x512 .fp8e4m3)
    (h : Fin 16) (i : Fin 1280) (d : Fin 128) : EReal :=
  softRow (score cu ks q k h i) (vs (ix1 ⟨h.val / 4, by omega⟩)) fun j => v (ix2 j ⟨h.val / 4 * 128 + d.val, by omega⟩)

/-- The attention array: head `h` fills columns `128 h` to `128 h + 127`. -/
def attnG (cu : IVec S6 32) (ks vs : FVec Ideal S4 .f32) (q : FVec Ideal S1280x2048 .bf16) (k v : FVec Ideal S1280x512 .fp8e4m3) :
    FVec Ideal S1280x2048 .f32 := fun y =>
  headAt cu ks vs q k v ⟨(y 1).val / 128, by have : (y 1).val < 2048 := (y 1).isLt; omega⟩ (y 0) ⟨(y 1).val % 128, Nat.mod_lt _ (by norm_num)⟩

/-- The largest absolute value of a row of an array. -/
def rowAbs (a : FVec Ideal S1280x2048 .f32) (i : Fin 1280) : EReal :=
  Finset.fold max hidden (fun x : Fin 2048 => abs' (a (ix2 i x))) Finset.univ

/-- The column of row scales of an array. -/
def scalesG (a : FVec Ideal S1280x2048 .f32) : FVec Ideal S1280x1 .f32 := fun y => scaleOf (rowAbs a (y 0))

/-- The codes of an array: each value over its row's scale, clipped to the range of the 8-bit format. -/
def codesG (a : FVec Ideal S1280x2048 .f32) : FVec Ideal S1280x2048 .fp8e4m3 := fun y =>
  (min (Scalar.ofBits (F := Ideal) .f32 0x43E00000#32 : EReal)
    (max (Scalar.ofBits (F := Ideal) .f32 0xC3E00000#32 : EReal) (Ideal.div (a y) (scaleOf (rowAbs a (y 0))) : EReal)) : EReal)

/-- The attention at a column of head `h`. -/
theorem attnG_at (cu ks vs q k v) (h : Fin 16) (i : Fin 1280) (d : Fin 128) :
    attnG cu ks vs q k v (ix2 i ⟨h.val * 128 + d.val, by omega⟩) = headAt cu ks vs q k v h i d := by
  have e1 : (h.val * 128 + d.val) / 128 = h.val := by omega
  have e2 : (h.val * 128 + d.val) % 128 = d.val := by omega
  show headAt cu ks vs q k v ⟨(h.val * 128 + d.val) / 128, _⟩ i ⟨(h.val * 128 + d.val) % 128, _⟩ = _
  simp only [e1, e2]

end Cert.AttnIdeal.Blocks
end
-- ==== Proof.AttnHead.lean ====
module

public import proofs.«01_k».proof.Proof.Gen.AttnIdeal.Value
public import Idealize.ShloMosaic.Lib.Pipeline.ValueKit
public import Idealize.ShloMosaic.Lib.MatmulPlain
public import proofs.«01_k».proof.Proof.AttnSpec

@[expose] public section

set_option maxRecDepth 16384

noncomputable section

namespace Cert.AttnIdeal.Blocks

open Cert.AttnIdeal Cert.AttnIdeal.Gen Idealize.ShloMosaic Idealize.ShloMosaic.TcCoe Idealize.SL.Sem
open Idealize.ShloMosaic.Pipeline (Dat)
open Cert.GateUpIdeal.Blocks (abs' abs'_nonneg scaleOf)

/-! ## One head of one block of queries, in stages -/

/-- Masked scores of 64 queries against 256 keys, in powers of two. -/
def scoresV (vis : IVec S64x256 1) (k : FVec Ideal S256x128 .bf16) (sc : Ideal .f32) (q : FVec Ideal S64x128 .bf16) : FVec Ideal S64x256 .f32 :=
  select vis (mulf (mulf (matmul dot_S64x128_S256x128_S64x256_1_1_0_0_n_n none q k (constant S64x256 .f32 0x00000000#32)) (broadcast S64x256 sc))
    (broadcast S64x256 (Scalar.ofBits .f32 0x3FB8AA3B#32 : Ideal .f32))) (broadcast S64x256 (Scalar.ofBits .f32 0xFF800000#32 : Ideal .f32))

/-- Row maxima. -/
def maxV (s : FVec Ideal S64x256 .f32) : FVec Ideal S64 .f32 :=
  multiReduction .maximumf [1] S64 s 0xFF800000#32 reduces_S64x256_S64 (.inl rfl) rfl

/-- Powers of two of the scores less the row maximum rounded up. -/
def powV (s : FVec Ideal S64x256 .f32) (mx : FVec Ideal S64 .f32) : FVec Ideal S64x256 .f32 :=
  exp2 (subf s (broadcastTo S64x256 (ceil (shapeCast S64x1 mx shapeCasts_S64_S64x1)) broadcasts_S64x1_S64x256))

/-- Row sums. -/
def sumV (p : FVec Ideal S64x256 .f32) : FVec Ideal S64 .f32 :=
  multiReduction .add [1] S64 p 0x00000000#32 reduces_S64x256_S64 (.inl rfl) rfl

/-- The weighted sum of the values over the row sums. -/
def tailV (p : FVec Ideal S64x256 .f32) (den : FVec Ideal S64 .f32) (v : FVec Ideal S256x128 .bf16) (w : Ideal .f32) : FVec Ideal S64x128 .f32 :=
  divf (matmul dot_S64x256_S256x128_S64x128_1_0_0_1_n_n none (truncf .bf16 (mulf p (broadcast S64x256 w)) bitsLt_bf16_f32) v
    (constant S64x128 .f32 0x00000000#32)) (broadcastTo S64x128 (shapeCast S64x1 den shapeCasts_S64_S64x1) broadcasts_S64x1_S64x128)

/-- One head of one block of queries. -/
def headV (vis : IVec S64x256 1) (k v : FVec Ideal S256x128 .bf16) (sc : Ideal .f32) (q : FVec Ideal S64x128 .bf16) (w : Ideal .f32) :
    FVec Ideal S64x128 .f32 :=
  tailV (powV (scoresV vis k sc q) (maxV (scoresV vis k sc q))) (sumV (powV (scoresV vis k sc q) (maxV (scoresV vis k sc q)))) v w

/-- The second head's payload is `headV`. -/
theorem pay11_of (vis k v sc q w) : k0_pay11 (F := Ideal) vis k v sc q w = headV vis k v sc q w := rfl

/-- A masked score, element by element. -/
theorem scoresV_at (vis k sc q) (p : Fin 64) (x : Fin 256) : scoresV vis k sc q (ix2 p x)
    = if vis (ix2 p x) = 1 then (∑ z, q (ix2 p z) * k (ix2 x z)) * sc * log2e else hidden := by
  unfold scoresV log2e hidden
  pointwise
  rfl

/-- A row maximum, as a fold over the row. -/
theorem maxV_at (s : FVec Ideal S64x256 .f32) (p : Fin 64) :
    maxV s (ix1 p) = Finset.fold max hidden (fun x : Fin 256 => s (ix2 p x)) Finset.univ := by
  unfold maxV
  refine (Ideal.multiReduction_maximumf_single s 0xFF800000#32 reduces_S64x256_S64 (.inl rfl) rfl (ix1 p)).trans ?_
  refine congrArg (fun f => Finset.fold max _ f Finset.univ) (funext fun x => ?_)
  have e : reduces_S64x256_S64.lift (ix1 p) x = ix2 p x := by ext a; fin_cases a <;> rfl
  exact congrArg s e

/-- A row sum. -/
theorem sumV_at (s : FVec Ideal S64x256 .f32) (p : Fin 64) : sumV s (ix1 p) = ∑ x : Fin 256, s (ix2 p x) := by
  unfold sumV
  refine (Ideal.multiReduction_add_single s 0x00000000#32 reduces_S64x256_S64 (.inl rfl) rfl (ix1 p)).trans ?_
  refine congrArg (fun f : Fin 256 → EReal => ∑ x, f x) (funext fun x => ?_)
  have e : reduces_S64x256_S64.lift (ix1 p) x = ix2 p x := by ext a; fin_cases a <;> rfl
  exact congrArg s e

/-- A power of two, element by element. -/
theorem powV_at (s mx) (p : Fin 64) (x : Fin 256) :
    powV s mx (ix2 p x) = Ideal.exp2 (s (ix2 p x) - FloatOps.ceil (F := Ideal) (φ := .f32) (mx (ix1 p))) := by
  unfold powV
  pointwise
  rfl

/-- The weighted sum of the values over the row sum, element by element. -/
theorem tailV_at (s den v w) (p : Fin 64) (d : Fin 128) :
    tailV s den v w (ix2 p d) = Ideal.div (∑ x, s (ix2 p x) * w * v (ix2 x d)) (den (ix1 p)) := by
  unfold tailV
  pointwise

/-- One head of one block of queries, element by element: a softmax row. -/
theorem headV_at (vis k v sc q w) (p : Fin 64) (d : Fin 128) : headV vis k v sc q w (ix2 p d)
    = softRow (fun x : Fin 256 => if vis (ix2 p x) = 1 then (∑ z, q (ix2 p z) * k (ix2 x z)) * sc * log2e else hidden) w
        (fun x => v (ix2 x d)) := by
  unfold headV softRow rowTop
  rw [tailV_at, sumV_at]
  simp only [powV_at, maxV_at, scoresV_at]

end Cert.AttnIdeal.Blocks
end
-- ==== Proof.AttnPayloads.lean ====
module

public import proofs.«01_k».proof.Proof.Gen.AttnIdeal.Value
public import Idealize.ShloMosaic.Lib.Pipeline.ValueKit
public import proofs.«01_k».proof.Proof.AttnHead

@[expose] public section

set_option maxRecDepth 16384

noncomputable section

namespace Cert.AttnIdeal.Blocks

open Cert.AttnIdeal Cert.AttnIdeal.Gen Idealize.ShloMosaic Idealize.ShloMosaic.TcCoe Idealize.SL.Sem
open Idealize.ShloMosaic.Pipeline (Dat)
open Cert.GateUpIdeal.Blocks (abs' abs'_nonneg scaleOf)

/-! The kernel's payloads are cut at places that differ from head to head. Here each is the same function of that head's
loads. -/

/-- One head of one block of queries, from the loads as they come: 8-bit keys and values, and the keys' scale. -/
def headRaw (vis : IVec S64x256 1) (k8 v8 : Vec Ideal S256x128 .fp8e4m3) (ks : Elt Ideal .f32) (q : Vec Ideal S64x128 .bf16) (w : Elt Ideal .f32) :
    FVec Ideal S64x128 .f32 :=
  headV vis (extf .bf16 (φ := .fp8e4m3) k8 bitsLt_fp8e4m3_bf16) (extf .bf16 (φ := .fp8e4m3) v8 bitsLt_fp8e4m3_bf16)
    (Scalar.mulf (F := Ideal) (φ := .f32) ks (Scalar.ofBits .f32 0x3DB504F3#32)) q w

/-- The running maxima of absolute values, lane by lane. -/
def maxAbs (a o : FVec Ideal S64x128 .f32) : FVec Ideal S64x128 .f32 := maximumf a (absf o)

/-- The maximum over the lanes. -/
def laneMax (a : FVec Ideal S64x128 .f32) : FVec Ideal S64 .f32 :=
  multiReduction .maximumf [1] S64 a 0xFF800000#32 reduces_S64x128_S64 (.inl rfl) rfl

/-- A column of scales from row maxima. -/
def scaleV (a : FVec Ideal S64 .f32) : FVec Ideal S64x1 .f32 :=
  select (cmpf .oeq (shapeCast S64x1 a shapeCasts_S64_S64x1) (broadcast S64x1 (Scalar.ofBits .f32 0x00000000#32 : Ideal .f32)))
    (broadcast S64x1 (Scalar.ofBits .f32 0x3F800000#32 : Ideal .f32))
    (divf (shapeCast S64x1 a shapeCasts_S64_S64x1) (broadcast S64x1 (Scalar.ofBits .f32 0x43E00000#32 : Ideal .f32)))

/-- The codes of a block of rows. -/
def codesV (o : FVec Ideal S64x2048 .f32) (s : FVec Ideal S64x1 .f32) : FVec Ideal S64x2048 .fp8e4m3 :=
  truncf .fp8e4m3 (minimumf (broadcast S64x2048 (Scalar.ofBits .f32 0x43E00000#32 : Ideal .f32))
    (maximumf (broadcast S64x2048 (Scalar.ofBits .f32 0xC3E00000#32 : Ideal .f32))
      (divf (shapeCast S64x2048 o shapeCasts_S64x2048_S64x2048) (broadcastTo S64x2048 s broadcasts_S64x1_S64x2048)))) bitsLt_fp8e4m3_f32

/-- Head 0's payload is the head of its loads. -/
theorem head0_of (v6 v40 : IVec S64x1 32) (v43 : IVec S64x256 32) (k8 v8 : Vec Ideal S256x128 .fp8e4m3) (ks : Elt Ideal .f32) (q : Vec Ideal S64x128 .bf16) (w : Elt Ideal .f32) :
    k0_pay9 (F := Ideal) v6 v40 v43 k8 v8 ks q w = headRaw (k0_pay5 v6 v40 v43) k8 v8 ks q w := rfl

/-- Head 1's payload is the head of its loads. -/
theorem head1_of (vis : IVec S64x256 1) (k8 v8 : Vec Ideal S256x128 .fp8e4m3) (ks : Elt Ideal .f32) (q : Vec Ideal S64x128 .bf16) (w : Elt Ideal .f32) :
    k0_pay11 (F := Ideal) vis (k0_pay6 (F := Ideal) k8) (k0_pay7 (F := Ideal) v8) (k0_pay8 (F := Ideal) ks) q w = headRaw vis k8 v8 ks q w := rfl

/-- Head 2's payload is the head of its loads. -/
theorem head2_of (vis : IVec S64x256 1) (k8 v8 : Vec Ideal S256x128 .fp8e4m3) (ks : Elt Ideal .f32) (q : Vec Ideal S64x128 .bf16) (w : Elt Ideal .f32) :
    k0_pay15 (F := Ideal) (k0_pay7 (F := Ideal) v8) (k0_pay13 (F := Ideal) vis (k0_pay6 (F := Ideal) k8) (k0_pay8 (F := Ideal) ks) q) (k0_pay14 (F := Ideal) vis (k0_pay6 (F := Ideal) k8) (k0_pay8 (F := Ideal) ks) q) w = headRaw vis k8 v8 ks q w := rfl

/-- Head 3's payload is the head of its loads. -/
theorem head3_of (vis : IVec S64x256 1) (k8 v8 : Vec Ideal S256x128 .fp8e4m3) (ks : Elt Ideal .f32) (q : Vec Ideal S64x128 .bf16) (w : Elt Ideal .f32) :
    k0_pay16 (F := Ideal) vis (k0_pay6 (F := Ideal) k8) (k0_pay7 (F := Ideal) v8) (k0_pay8 (F := Ideal) ks) q w = headRaw vis k8 v8 ks q w := rfl

/-- Head 4's payload is the head of its loads. -/
theorem head4_of (vis : IVec S64x256 1) (k8 v8 : Vec Ideal S256x128 .fp8e4m3) (ks : Elt Ideal .f32) (q : Vec Ideal S64x128 .bf16) (w : Elt Ideal .f32) :
    k0_pay21 (F := Ideal) vis (k0_pay18 (F := Ideal) k8) v8 ks q w = headRaw vis k8 v8 ks q w := rfl

/-- Head 5's payload is the head of its loads. -/
theorem head5_of (vis : IVec S64x256 1) (k8 v8 : Vec Ideal S256x128 .fp8e4m3) (ks : Elt Ideal .f32) (q : Vec Ideal S64x128 .bf16) (w : Elt Ideal .f32) :
    k0_pay25 (F := Ideal) vis (k0_pay19 (F := Ideal) v8) (k0_pay23 (F := Ideal) (k0_pay18 (F := Ideal) k8) ks q) (k0_pay24 (F := Ideal)) w = headRaw vis k8 v8 ks q w := rfl

/-- Head 6's payload is the head of its loads. -/
theorem head6_of (vis : IVec S64x256 1) (k8 v8 : Vec Ideal S256x128 .fp8e4m3) (ks : Elt Ideal .f32) (q : Vec Ideal S64x128 .bf16) (w : Elt Ideal .f32) :
    k0_pay27 (F := Ideal) vis (k0_pay18 (F := Ideal) k8) (k0_pay19 (F := Ideal) v8) (k0_pay20 (F := Ideal) ks) q w = headRaw vis k8 v8 ks q w := rfl

/-- Head 7's payload is the head of its loads. -/
theorem head7_of (vis : IVec S64x256 1) (k8 v8 : Vec Ideal S256x128 .fp8e4m3) (ks : Elt Ideal .f32) (q : Vec Ideal S64x128 .bf16) (w : Elt Ideal .f32) :
    k0_pay28 (F := Ideal) vis (k0_pay18 (F := Ideal) k8) (k0_pay19 (F := Ideal) v8) (k0_pay20 (F := Ideal) ks) q w = headRaw vis k8 v8 ks q w := rfl

/-- Head 8's payload is the head of its loads. -/
theorem head8_of (vis : IVec S64x256 1) (k8 v8 : Vec Ideal S256x128 .fp8e4m3) (ks : Elt Ideal .f32) (q : Vec Ideal S64x128 .bf16) (w : Elt Ideal .f32) :
    k0_pay33 (F := Ideal) vis (k0_pay30 (F := Ideal) k8) (k0_pay31 (F := Ideal) v8) (k0_pay32 (F := Ideal) ks) q w = headRaw vis k8 v8 ks q w := rfl

/-- Head 9's payload is the head of its loads. -/
theorem head9_of (vis : IVec S64x256 1) (k8 v8 : Vec Ideal S256x128 .fp8e4m3) (ks : Elt Ideal .f32) (q : Vec Ideal S64x128 .bf16) (w : Elt Ideal .f32) :
    k0_pay37 (F := Ideal) (k0_pay31 (F := Ideal) v8) (k0_pay35 (F := Ideal) vis (k0_pay30 (F := Ideal) k8) (k0_pay32 (F := Ideal) ks) q) (k0_pay36 (F := Ideal) vis (k0_pay30 (F := Ideal) k8) (k0_pay32 (F := Ideal) ks) q) w = headRaw vis k8 v8 ks q w := rfl

/-- Head 10's payload is the head of its loads. -/
theorem head10_of (vis : IVec S64x256 1) (k8 v8 : Vec Ideal S256x128 .fp8e4m3) (ks : Elt Ideal .f32) (q : Vec Ideal S64x128 .bf16) (w : Elt Ideal .f32) :
    k0_pay38 (F := Ideal) vis (k0_pay30 (F := Ideal) k8) (k0_pay31 (F := Ideal) v8) (k0_pay32 (F := Ideal) ks) q w = headRaw vis k8 v8 ks q w := rfl

/-- Head 11's payload is the head of its loads. -/
theorem head11_of (vis : IVec S64x256 1) (k8 v8 : Vec Ideal S256x128 .fp8e4m3) (ks : Elt Ideal .f32) (q : Vec Ideal S64x128 .bf16) (w : Elt Ideal .f32) :
    k0_pay41 (F := Ideal) vis (k0_pay31 (F := Ideal) v8) (k0_pay32 (F := Ideal) ks) (k0_pay40 (F := Ideal) (k0_pay30 (F := Ideal) k8) q) w = headRaw vis k8 v8 ks q w := rfl

/-- Head 12's payload is the head of its loads. -/
theorem head12_of (vis : IVec S64x256 1) (k8 v8 : Vec Ideal S256x128 .fp8e4m3) (ks : Elt Ideal .f32) (q : Vec Ideal S64x128 .bf16) (w : Elt Ideal .f32) :
    k0_pay47 (F := Ideal) (k0_pay44 (F := Ideal) v8) (k0_pay46 (F := Ideal) vis k8 ks q) w = headRaw vis k8 v8 ks q w := rfl

/-- Head 13's payload is the head of its loads. -/
theorem head13_of (vis : IVec S64x256 1) (k8 v8 : Vec Ideal S256x128 .fp8e4m3) (ks : Elt Ideal .f32) (q : Vec Ideal S64x128 .bf16) (w : Elt Ideal .f32) :
    k0_pay49 (F := Ideal) vis (k0_pay43 (F := Ideal) k8) (k0_pay44 (F := Ideal) v8) (k0_pay45 (F := Ideal) ks) q w = headRaw vis k8 v8 ks q w := rfl

/-- Head 14's payload is the head of its loads. -/
theorem head14_of (vis : IVec S64x256 1) (k8 v8 : Vec Ideal S256x128 .fp8e4m3) (ks : Elt Ideal .f32) (q : Vec Ideal S64x128 .bf16) (w : Elt Ideal .f32) :
    k0_pay50 (F := Ideal) vis (k0_pay43 (F := Ideal) k8) (k0_pay44 (F := Ideal) v8) (k0_pay45 (F := Ideal) ks) q w = headRaw vis k8 v8 ks q w := rfl

/-- Head 15's payload is the head of its loads. -/
theorem head15_of (vis : IVec S64x256 1) (k8 v8 : Vec Ideal S256x128 .fp8e4m3) (ks : Elt Ideal .f32) (q : Vec Ideal S64x128 .bf16) (w : Elt Ideal .f32) :
    k0_pay54 (F := Ideal) (k0_pay44 (F := Ideal) v8) (k0_pay52 (F := Ideal) vis (k0_pay43 (F := Ideal) k8) (k0_pay45 (F := Ideal) ks) q) (k0_pay53 (F := Ideal) vis (k0_pay43 (F := Ideal) k8) (k0_pay45 (F := Ideal) ks) q) w = headRaw vis k8 v8 ks q w := rfl

/-- The running maxima after head 0. -/
theorem maxs0_of (v6 v40 : IVec S64x1 32) (v43 : IVec S64x256 32) (k8 v8 : Vec Ideal S256x128 .fp8e4m3) (ks : Elt Ideal .f32) (q : Vec Ideal S64x128 .bf16) (w : Elt Ideal .f32) :
    k0_pay10 (F := Ideal) v6 v40 v43 k8 v8 ks q w
      = maxAbs (broadcast S64x128 (Scalar.ofBits .f32 0x00000000#32 : Ideal .f32)) (headRaw (k0_pay5 v6 v40 v43) k8 v8 ks q w) := rfl

/-- The running maxima after head 1. -/
theorem maxs1_of (a : FVec Ideal S64x128 .f32) (vis : IVec S64x256 1) (k8 v8 : Vec Ideal S256x128 .fp8e4m3) (ks : Elt Ideal .f32) (q : Vec Ideal S64x128 .bf16) (w : Elt Ideal .f32) :
    k0_pay12 (F := Ideal) vis (k0_pay6 (F := Ideal) k8) (k0_pay7 (F := Ideal) v8) (k0_pay8 (F := Ideal) ks) a q w
      = maxAbs a (headRaw vis k8 v8 ks q w) := rfl

/-- The running maxima after head 3. -/
theorem maxs3_of (a : FVec Ideal S64x128 .f32) (vis : IVec S64x256 1) (k8 v8 : Vec Ideal S256x128 .fp8e4m3) (ks : Elt Ideal .f32) (q : Vec Ideal S64x128 .bf16) (w : Elt Ideal .f32) (q' : Vec Ideal S64x128 .bf16) (w' : Elt Ideal .f32) :
    k0_pay17 (F := Ideal) vis (k0_pay6 (F := Ideal) k8) (k0_pay7 (F := Ideal) v8) (k0_pay8 (F := Ideal) ks) a (k0_pay13 (F := Ideal) vis (k0_pay6 (F := Ideal) k8) (k0_pay8 (F := Ideal) ks) q) (k0_pay14 (F := Ideal) vis (k0_pay6 (F := Ideal) k8) (k0_pay8 (F := Ideal) ks) q) w q' w'
      = maxAbs (maxAbs a (headRaw vis k8 v8 ks q w)) (headRaw vis k8 v8 ks q' w') := rfl

/-- The running maxima after head 4. -/
theorem maxs4_of (a : FVec Ideal S64x128 .f32) (vis : IVec S64x256 1) (k8 v8 : Vec Ideal S256x128 .fp8e4m3) (ks : Elt Ideal .f32) (q : Vec Ideal S64x128 .bf16) (w : Elt Ideal .f32) :
    k0_pay22 (F := Ideal) vis a (k0_pay18 (F := Ideal) k8) v8 ks q w
      = maxAbs a (headRaw vis k8 v8 ks q w) := rfl

/-- The running maxima after head 5. -/
theorem maxs5_of (a : FVec Ideal S64x128 .f32) (vis : IVec S64x256 1) (k8 v8 : Vec Ideal S256x128 .fp8e4m3) (ks : Elt Ideal .f32) (q : Vec Ideal S64x128 .bf16) (w : Elt Ideal .f32) :
    k0_pay26 (F := Ideal) vis (k0_pay19 (F := Ideal) v8) a (k0_pay23 (F := Ideal) (k0_pay18 (F := Ideal) k8) ks q) (k0_pay24 (F := Ideal)) w
      = maxAbs a (headRaw vis k8 v8 ks q w) := rfl

/-- The running maxima after head 7. -/
theorem maxs7_of (a b : FVec Ideal S64x128 .f32) (vis : IVec S64x256 1) (k8 v8 : Vec Ideal S256x128 .fp8e4m3) (ks : Elt Ideal .f32) (q : Vec Ideal S64x128 .bf16) (w : Elt Ideal .f32) :
    k0_pay29 (F := Ideal) vis (k0_pay18 (F := Ideal) k8) (k0_pay19 (F := Ideal) v8) (k0_pay20 (F := Ideal) ks) a b q w
      = maxAbs (maxAbs a b) (headRaw vis k8 v8 ks q w) := rfl

/-- The running maxima after head 8. -/
theorem maxs8_of (a : FVec Ideal S64x128 .f32) (vis : IVec S64x256 1) (k8 v8 : Vec Ideal S256x128 .fp8e4m3) (ks : Elt Ideal .f32) (q : Vec Ideal S64x128 .bf16) (w : Elt Ideal .f32) :
    k0_pay34 (F := Ideal) vis a (k0_pay30 (F := Ideal) k8) (k0_pay31 (F := Ideal) v8) (k0_pay32 (F := Ideal) ks) q w
      = maxAbs a (headRaw vis k8 v8 ks q w) := rfl

/-- The running maxima after head 10. -/
theorem maxs10_of (a : FVec Ideal S64x128 .f32) (vis : IVec S64x256 1) (k8 v8 : Vec Ideal S256x128 .fp8e4m3) (ks : Elt Ideal .f32) (q : Vec Ideal S64x128 .bf16) (w : Elt Ideal .f32) (q' : Vec Ideal S64x128 .bf16) (w' : Elt Ideal .f32) :
    k0_pay39 (F := Ideal) vis (k0_pay30 (F := Ideal) k8) (k0_pay31 (F := Ideal) v8) (k0_pay32 (F := Ideal) ks) a (k0_pay35 (F := Ideal) vis (k0_pay30 (F := Ideal) k8) (k0_pay32 (F := Ideal) ks) q) (k0_pay36 (F := Ideal) vis (k0_pay30 (F := Ideal) k8) (k0_pay32 (F := Ideal) ks) q) w q' w'
      = maxAbs (maxAbs a (headRaw vis k8 v8 ks q w)) (headRaw vis k8 v8 ks q' w') := rfl

/-- The running maxima after head 11. -/
theorem maxs11_of (a : FVec Ideal S64x128 .f32) (vis : IVec S64x256 1) (k8 v8 : Vec Ideal S256x128 .fp8e4m3) (ks : Elt Ideal .f32) (q : Vec Ideal S64x128 .bf16) (w : Elt Ideal .f32) :
    k0_pay42 (F := Ideal) vis (k0_pay31 (F := Ideal) v8) (k0_pay32 (F := Ideal) ks) a (k0_pay40 (F := Ideal) (k0_pay30 (F := Ideal) k8) q) w
      = maxAbs a (headRaw vis k8 v8 ks q w) := rfl

/-- The running maxima after head 12. -/
theorem maxs12_of (a : FVec Ideal S64x128 .f32) (vis : IVec S64x256 1) (k8 v8 : Vec Ideal S256x128 .fp8e4m3) (ks : Elt Ideal .f32) (q : Vec Ideal S64x128 .bf16) (w : Elt Ideal .f32) :
    k0_pay48 (F := Ideal) a (k0_pay44 (F := Ideal) v8) (k0_pay46 (F := Ideal) vis k8 ks q) w
      = maxAbs a (headRaw vis k8 v8 ks q w) := rfl

/-- The running maxima after head 14. -/
theorem maxs14_of (a b : FVec Ideal S64x128 .f32) (vis : IVec S64x256 1) (k8 v8 : Vec Ideal S256x128 .fp8e4m3) (ks : Elt Ideal .f32) (q : Vec Ideal S64x128 .bf16) (w : Elt Ideal .f32) :
    k0_pay51 (F := Ideal) vis (k0_pay43 (F := Ideal) k8) (k0_pay44 (F := Ideal) v8) (k0_pay45 (F := Ideal) ks) a b q w
      = maxAbs (maxAbs a b) (headRaw vis k8 v8 ks q w) := rfl

/-- The scale column after the last head. -/
theorem scale_of (a : FVec Ideal S64x128 .f32) (vis : IVec S64x256 1) (k8 v8 : Vec Ideal S256x128 .fp8e4m3) (ks : Elt Ideal .f32) (q : Vec Ideal S64x128 .bf16) (w : Elt Ideal .f32) :
    k0_pay55 (F := Ideal) (k0_pay44 (F := Ideal) v8) a (k0_pay52 (F := Ideal) vis (k0_pay43 (F := Ideal) k8) (k0_pay45 (F := Ideal) ks) q) (k0_pay53 (F := Ideal) vis (k0_pay43 (F := Ideal) k8) (k0_pay45 (F := Ideal) ks) q) w
      = scaleV (laneMax (maxAbs a (headRaw vis k8 v8 ks q w))) := rfl

/-- The codes after the last head, from the attention read back. -/
theorem codes_of (a : FVec Ideal S64x128 .f32) (vis : IVec S64x256 1) (k8 v8 : Vec Ideal S256x128 .fp8e4m3) (ks : Elt Ideal .f32) (q : Vec Ideal S64x128 .bf16) (w : Elt Ideal .f32) (o : Vec Ideal S64x2048 .f32) :
    k0_pay1 (F := Ideal) (k0_pay56 (F := Ideal) (k0_pay44 (F := Ideal) v8) a (k0_pay52 (F := Ideal) vis (k0_pay43 (F := Ideal) k8) (k0_pay45 (F := Ideal) ks) q) (k0_pay53 (F := Ideal) vis (k0_pay43 (F := Ideal) k8) (k0_pay45 (F := Ideal) ks) q) w o) (Scalar.ofBits .f32 0x43E00000#32) (k0_pay57 (F := Ideal))
      = codesV o (scaleV (laneMax (maxAbs a (headRaw vis k8 v8 ks q w)))) := rfl

end Cert.AttnIdeal.Blocks
end
-- ==== Proof.AttnMask.lean ====
module

public import proofs.«01_k».proof.Proof.Gen.AttnIdeal.Value
public import Idealize.ShloMosaic.Lib.Pipeline.ValueKit
public import Idealize.ShloMosaic.Lib.WordCmp
public import proofs.«01_k».proof.Proof.AttnSpec

@[expose] public section

set_option maxRecDepth 16384

noncomputable section

namespace Cert.AttnIdeal.Blocks

open Cert.AttnIdeal Cert.AttnIdeal.Gen Idealize.ShloMosaic Idealize.ShloMosaic.TcCoe Idealize.SL.Sem
open Idealize.ShloMosaic.Pipeline (Dat)

/-- The first key of the window of grid point `i`: 192 before the first query, but not below 0. -/
def start (i : grid0.Coords) : ℕ := 64 * (i 0).val - 192

/-- The window starts early enough to end within the 1280 keys. -/
theorem start_add (i : grid0.Coords) (x : Fin 256) : start i + x.val < 1280 := by
  have h : (i 0).val < 20 := (i 0).isLt
  unfold start
  omega

/-- The window's first key as the kernel computes it, a 32-bit word. -/
theorem start_word : ∀ n : Fin 20,
    IntOp.maxsi (IntOp.subi (IntOp.muli (BitVec.ofNat 32 n.val) 64#32) 192#32) 0#32 = BitVec.ofNat 32 (64 * n.val - 192) := by
  decide +kernel

/-- The first query of a grid point, a 32-bit word. -/
theorem base_word : ∀ n : Fin 20, IntOp.muli (BitVec.ofNat 32 n.val) 64#32 = BitVec.ofNat 32 (64 * n.val) := by
  decide +kernel

/-- Where the keys and values of each head group begin in their arrays. -/
theorem off_eq (i : grid0.Coords) :
    k0_off1 i = ![start i, 0] ∧ k0_off2 i = ![start i, 128] ∧ k0_off3 i = ![start i, 256] ∧ k0_off4 i = ![start i, 384] := by
  have e : ∀ n : Fin 20,
      (Scalar.indexCast (Scalar.maxsi (Scalar.subi (Scalar.muli (BitVec.ofNat 32 n.val) 64#32) 192#32) 0#32)).toNat = 64 * n.val - 192 := by
    decide +kernel
  have e' := e (i 0)
  refine ⟨?_, ?_, ?_, ?_⟩ <;> exact congrArg (fun n : ℕ => ![n, _]) e'

/-- The query positions of a grid point. -/
theorem row_word (i : grid0.Coords) (p : Fin 64) : k0_pay2 i (ix2 p 0) = BitVec.ofNat 32 (64 * (i 0).val + p.val) := by
  have e : k0_pay2 i (ix2 p 0) = IntOp.addi (IntOp.muli (BitVec.ofNat 32 (i 0).val) 64#32) (BitVec.ofNat 32 p.val) := by
    unfold k0_pay2
    pointwise
    rfl
  rw [e, base_word (i 0)]
  exact (BitVec.ofNat_add _ _).symm

/-- The key positions of a grid point's window. -/
theorem key_word (i : grid0.Coords) (p : Fin 64) (x : Fin 256) : k0_pay4 i (ix2 p x) = BitVec.ofNat 32 (start i + x.val) := by
  have e : k0_pay4 i (ix2 p x)
      = IntOp.addi (IntOp.maxsi (IntOp.subi (IntOp.muli (BitVec.ofNat 32 (i 0).val) 64#32) 192#32) 0#32) (BitVec.ofNat 32 x.val) := by
    unfold k0_pay4
    pointwise
    rfl
  rw [e, start_word (i 0)]
  exact (BitVec.ofNat_add _ _).symm

/-- A maximum of signed words lies at or below a number when both words do. -/
theorem maxsi_le (a b : BitVec 32) (j : ℤ) : (IntOp.maxsi a b).toInt ≤ j ↔ a.toInt ≤ j ∧ b.toInt ≤ j := by
  unfold IntOp.maxsi
  split_ifs with h
  · have : b.toInt < a.toInt := by simpa [BitVec.slt] using h
    omega
  · have : a.toInt ≤ b.toInt := by simpa [BitVec.slt] using h
    omega

/-- One step of the lowest visible key: a segment start at or before the query raises it. -/
def raise (l c r : BitVec 32) : BitVec 32 := Scalar.select (IntOp.cmpi .sle c r) (IntOp.maxsi l c) l

/-- What one step does to the numbers at or above the lowest visible key. -/
theorem raise_le (l c r : BitVec 32) (j : ℤ) :
    (raise l c r).toInt ≤ j ↔ l.toInt ≤ j ∧ (c.toInt ≤ r.toInt → c.toInt ≤ j) := by
  unfold raise Scalar.select
  have e : IntOp.cmpi .sle c r = 1 ↔ c.toInt ≤ r.toInt := WordCmp.ofBool_decide_eq_one_iff _
  split_ifs with h
  · rw [maxsi_le, e] at *
    tauto
  · rw [e] at h
    tauto

/-- The lowest key visible to query `p` of a grid point, from the segment starts `c`. -/
theorem low_at (i : grid0.Coords) (c1 c2 c3 c4 c5 : BitVec 32) (p : Fin 64) :
    k0_pay3 (F := Ideal) i c1 c2 c3 c4 c5 (ix2 p 0)
      = raise (raise (raise (raise (raise
          (IntOp.maxsi (IntOp.subi (k0_pay2 i (ix2 p 0)) 191#32) 0#32) c1 (k0_pay2 i (ix2 p 0))) c2 (k0_pay2 i (ix2 p 0)))
            c3 (k0_pay2 i (ix2 p 0))) c4 (k0_pay2 i (ix2 p 0))) c5 (k0_pay2 i (ix2 p 0)) := by
  unfold k0_pay3
  pointwise
  rfl

/-- The mask of a grid point, from the segment starts. -/
def maskV (i : grid0.Coords) (x0 : Vec Ideal S1x6 .i32) : IVec S64x256 1 :=
  k0_pay5 (k0_pay2 i)
    (k0_pay3 i (x0 (ix2 0 1)) (x0 (ix2 0 2)) (x0 (ix2 0 3)) (x0 (ix2 0 4)) (x0 (ix2 0 5))) (k0_pay4 i)

/-- The mask's bit of query `p` and window key `x` says whether the query sees the key. -/
theorem maskV_iff (i : grid0.Coords) (x0 : Vec Ideal S1x6 .i32) (p : Fin 64) (x : Fin 256) :
    maskV i x0 (ix2 p x) = 1
      ↔ Sees (fun b => x0 (ix2 0 ⟨1 + b.val, by omega⟩)) (64 * (i 0).val + p.val) (start i + x.val) := by
  have hi : (i 0).val < 20 := (i 0).isLt
  have hs := start_add i x
  have hp := p.isLt
  have e : maskV i x0 (ix2 p x) = IntOp.andi
      (IntOp.cmpi .sge (k0_pay4 i (ix2 p x))
        (k0_pay3 i (x0 (ix2 0 1)) (x0 (ix2 0 2)) (x0 (ix2 0 3)) (x0 (ix2 0 4)) (x0 (ix2 0 5)) (ix2 p 0)))
      (IntOp.cmpi .sle (k0_pay4 i (ix2 p x)) (k0_pay2 i (ix2 p 0))) := by
    unfold maskV k0_pay5
    pointwise
  rw [e, low_at, row_word, key_word, WordCmp.cmpi_sge_eq, WordCmp.cmpi_sle_eq, WordCmp.andi_ofBool, ← Bool.decide_and]
  refine (WordCmp.ofBool_decide_eq_one_iff _).trans ?_
  have er : (BitVec.ofNat 32 (64 * (i 0).val + p.val)).toInt = ((64 * (i 0).val + p.val : ℕ) : ℤ) :=
    WordCmp.toInt_ofNat_of_lt (by omega)
  have ek : (BitVec.ofNat 32 (start i + x.val)).toInt = ((start i + x.val : ℕ) : ℤ) :=
    WordCmp.toInt_ofNat_of_lt (by omega)
  have el : (IntOp.subi (BitVec.ofNat 32 (64 * (i 0).val + p.val)) 191#32).toInt = ((64 * (i 0).val + p.val : ℕ) : ℤ) - 191 := by
    refine BitVec.toInt_sub.trans ?_
    rw [er]
    have : (191#32).toInt = 191 := by decide
    rw [this, Int.bmod_def]
    omega
  rw [raise_le, raise_le, raise_le, raise_le, raise_le, maxsi_le, er, ek, el]
  have z : (0#32).toInt = 0 := by decide
  rw [z]
  unfold Sees
  constructor
  · rintro ⟨⟨⟨⟨⟨⟨⟨h0, -⟩, h1⟩, h2⟩, h3⟩, h4⟩, h5⟩, h6⟩
    refine ⟨by omega, by omega, fun b => ?_⟩
    fin_cases b
    · exact h1
    · exact h2
    · exact h3
    · exact h4
    · exact h5
  · rintro ⟨h0, h1, h⟩
    exact ⟨⟨⟨⟨⟨⟨⟨by omega, by omega⟩, h 0⟩, h 1⟩, h 2⟩, h 3⟩, h 4⟩, by omega⟩

end Cert.AttnIdeal.Blocks
end
-- ==== Proof.AttnCases.lean ====
module

public import proofs.«01_k».proof.Proof.Gen.AttnIdeal.Value
public import Idealize.ShloMosaic.Lib.Pipeline.ValueKit
public import Idealize.ShloMosaic.Lib.Pipeline.ReadBack
public import proofs.«01_k».proof.Proof.AttnPayloads
public import proofs.«01_k».proof.Proof.AttnMask

@[expose] public section

set_option maxRecDepth 16384

noncomputable section

namespace Cert.AttnIdeal.Blocks

open Cert.AttnIdeal Cert.AttnIdeal.Gen Idealize.ShloMosaic Idealize.ShloMosaic.TcCoe Idealize.SL.Sem
open Idealize.ShloMosaic.Pipeline (Dat)
open Cert.GateUpIdeal.Blocks (abs' abs'_nonneg scaleOf)

/-- Head `h` of a block of queries at query `p`, lane `d`, from the blocks a grid point reads: a softmax row over the 256
    keys of the window. -/
def blockHead (i : grid0.Coords) (x0 : Vec Ideal S1x6 .i32) (x1 x2 : Vec Ideal S1x4 .f32) (x3 : Vec Ideal S64x2048 .bf16)
    (x4 x5 : Vec Ideal S1280x512 .fp8e4m3) (h : Fin 16) (p : Fin 64) (d : Fin 128) : EReal :=
  open Classical in
  softRow (fun x : Fin 256 =>
      if Sees (fun b => x0 (ix2 0 ⟨1 + b.val, by omega⟩)) (64 * (i 0).val + p.val) (start i + x.val) then
        (∑ z : Fin 128, x3 (ix2 p ⟨h.val * 128 + z.val, by omega⟩)
          * x4 (ix2 ⟨start i + x.val, start_add i x⟩ ⟨h.val / 4 * 128 + z.val, by omega⟩))
          * (x1 (ix2 0 ⟨h.val / 4, by omega⟩) * rsqrtDim) * log2e
      else hidden)
    (x2 (ix2 0 ⟨h.val / 4, by omega⟩)) fun x => x5 (ix2 ⟨start i + x.val, start_add i x⟩ ⟨h.val / 4 * 128 + d.val, by omega⟩)

/-- The block of attention a grid point computes. -/
def blockAttn (i : grid0.Coords) (x0 : Vec Ideal S1x6 .i32) (x1 x2 : Vec Ideal S1x4 .f32) (x3 : Vec Ideal S64x2048 .bf16)
    (x4 x5 : Vec Ideal S1280x512 .fp8e4m3) : Vec Ideal S64x2048 .f32 := fun y =>
  blockHead i x0 x1 x2 x3 x4 x5 ⟨(y 1).val / 128, by have : (y 1).val < 2048 := (y 1).isLt; omega⟩ (y 0)
    ⟨(y 1).val % 128, Nat.mod_lt _ (by norm_num)⟩

/-- The block at a column of head `h`. -/
theorem blockAttn_at (i x0 x1 x2 x3 x4 x5) (h : Fin 16) (p : Fin 64) (d : Fin 128) (e : Fin 2048) (he : e.val = h.val * 128 + d.val) :
    blockAttn i x0 x1 x2 x3 x4 x5 (ix2 p e) = blockHead i x0 x1 x2 x3 x4 x5 h p d := by
  have e1 : e.val / 128 = h.val := by omega
  have e2 : e.val % 128 = d.val := by omega
  show blockHead i x0 x1 x2 x3 x4 x5 ⟨e.val / 128, _⟩ p ⟨e.val % 128, _⟩ = _
  simp only [e1, e2]

/-- The mask from the segment starts as they are loaded. -/
theorem mask_loads (i : grid0.Coords) (x0 : Vec Ideal S1x6 .i32)
    (b1 : ∀ a, (![0, 1] : Fin S1x6.rank → ℕ) a + S1x1.size a ≤ S1x6.size a)
    (b2 : ∀ a, (![0, 2] : Fin S1x6.rank → ℕ) a + S1x1.size a ≤ S1x6.size a)
    (b3 : ∀ a, (![0, 3] : Fin S1x6.rank → ℕ) a + S1x1.size a ≤ S1x6.size a)
    (b4 : ∀ a, (![0, 4] : Fin S1x6.rank → ℕ) a + S1x1.size a ≤ S1x6.size a)
    (b5 : ∀ a, (![0, 5] : Fin S1x6.rank → ℕ) a + S1x1.size a ≤ S1x6.size a) (n1 n2 n3 n4 n5 : 0 < S1x1.numel) :
    k0_pay5 (k0_pay2 i)
      (k0_pay3 (F := Ideal) i (View.ld x0 (Rect.unit (s := S1x6) ![0, 1] S1x1.size b1) (Shape.Idx.first n1))
        (View.ld x0 (Rect.unit (s := S1x6) ![0, 2] S1x1.size b2) (Shape.Idx.first n2))
        (View.ld x0 (Rect.unit (s := S1x6) ![0, 3] S1x1.size b3) (Shape.Idx.first n3))
        (View.ld x0 (Rect.unit (s := S1x6) ![0, 4] S1x1.size b4) (Shape.Idx.first n4))
        (View.ld x0 (Rect.unit (s := S1x6) ![0, 5] S1x1.size b5) (Shape.Idx.first n5))) (k0_pay4 i) = maskV i x0 := by
  have e : ∀ (b : Fin 6) (inb : ∀ a, (![0, b.val] : Fin S1x6.rank → ℕ) a + S1x1.size a ≤ S1x6.size a) (n : 0 < S1x1.numel),
      View.ld x0 (Rect.unit (s := S1x6) ![0, b.val] S1x1.size inb) (Shape.Idx.first n) = x0 (ix2 0 b) := fun b inb n =>
    View.ld_unit_apply_of _ _ _ _ _ _ fun a => by fin_cases a <;> rfl
  unfold maskV
  rw [← e 1 b1 n1, ← e 2 b2 n2, ← e 3 b3 n3, ← e 4 b4 n4, ← e 5 b5 n5]
  rfl

/-- A head of the loads at head `h`'s places is that head of the blocks. -/
theorem headRaw_loads (i x0 x1 x2 x3 x4 x5) (h : Fin 16) (vis : IVec S64x256 1) (hv : vis = maskV i x0)
    (o : Fin S1280x512.rank → ℕ) (ho : o = ![start i, h.val / 4 * 128]) (c g : ℕ) (hc : c = h.val * 128) (hg : g = h.val / 4)
    (b1 b2 : ∀ a, o a + S256x128.size a ≤ S1280x512.size a)
    (b3 : ∀ a, (![0, c] : Fin S64x2048.rank → ℕ) a + S64x128.size a ≤ S64x2048.size a)
    (b4 b5 : ∀ a, (![0, g] : Fin S1x4.rank → ℕ) a + S1x1.size a ≤ S1x4.size a) (n1 n2 : 0 < S1x1.numel) (p : Fin 64) (d : Fin 128) :
    headRaw vis (View.ld x4 (Rect.unit (s := S1280x512) o S256x128.size b1)) (View.ld x5 (Rect.unit (s := S1280x512) o S256x128.size b2))
      (View.ld x1 (Rect.unit (s := S1x4) ![0, g] S1x1.size b4) (Shape.Idx.first n1))
      (View.ld x3 (Rect.unit (s := S64x2048) ![0, c] S64x128.size b3))
      (View.ld x2 (Rect.unit (s := S1x4) ![0, g] S1x1.size b5) (Shape.Idx.first n2)) (ix2 p d)
      = blockHead i x0 x1 x2 x3 x4 x5 h p d := by
  subst hv ho hc hg
  have hh := h.isLt
  have e1 : View.ld x1 (Rect.unit (s := S1x4) ![0, h.val / 4] S1x1.size b4) (Shape.Idx.first n1) = x1 (ix2 0 ⟨h.val / 4, by omega⟩) :=
    View.ld_unit_apply_of _ _ _ _ _ _ fun a => by fin_cases a <;> rfl
  have e2 : View.ld x2 (Rect.unit (s := S1x4) ![0, h.val / 4] S1x1.size b5) (Shape.Idx.first n2) = x2 (ix2 0 ⟨h.val / 4, by omega⟩) :=
    View.ld_unit_apply_of _ _ _ _ _ _ fun a => by fin_cases a <;> rfl
  have e3 : ∀ z : Fin 128, View.ld x3 (Rect.unit (s := S64x2048) ![0, h.val * 128] S64x128.size b3) (ix2 p z)
      = x3 (ix2 p ⟨h.val * 128 + z.val, by omega⟩) := fun z =>
    View.ld_unit_apply_of _ _ _ _ _ _ fun a => by fin_cases a <;> simp
  have e4 : ∀ (x : Fin 256) (z : Fin 128), View.ld x4 (Rect.unit (s := S1280x512) ![start i, h.val / 4 * 128] S256x128.size b1) (ix2 x z)
      = x4 (ix2 ⟨start i + x.val, start_add i x⟩ ⟨h.val / 4 * 128 + z.val, by omega⟩) := fun x z =>
    View.ld_unit_apply_of _ _ _ _ _ _ fun a => by fin_cases a <;> simp
  have e5 : ∀ (x : Fin 256) (z : Fin 128), View.ld x5 (Rect.unit (s := S1280x512) ![start i, h.val / 4 * 128] S256x128.size b2) (ix2 x z)
      = x5 (ix2 ⟨start i + x.val, start_add i x⟩ ⟨h.val / 4 * 128 + z.val, by omega⟩) := fun x z =>
    View.ld_unit_apply_of _ _ _ _ _ _ fun a => by fin_cases a <;> simp
  unfold headRaw blockHead
  rw [headV_at, e1, e2]
  refine congrArg₂ (fun s v => softRow s _ v) (funext fun x => ?_) (funext fun x => e5 x d)
  have hs := maskV_iff i x0 p x
  by_cases hx : maskV i x0 (ix2 p x) = 1
  · rw [if_pos hx, if_pos (hs.1 hx)]
    refine congrArg (fun s : EReal => s * _ * _) ?_
    exact congrArg (fun f : Fin 128 → EReal => ∑ z, f z) (funext fun z => congrArg₂ (fun a b : EReal => a * b) (e3 z) (e4 x z))
  · rw [if_neg hx, if_neg (fun w => hx (hs.2 w))]

/-- The attention block a grid point writes. -/
theorem out_6 (c i a1 w1 a2 w2 a3 w3 a4 w4 a5 w5 a6 w6 a7 w7 a8 w8 a9 w9 x0 x1 x2 x3 x4 x5) :
    out0_A_6 (F := Ideal) c i a1 w1 a2 w2 a3 w3 a4 w4 a5 w5 a6 w6 a7 w7 a8 w8 a9 w9 x0 x1 x2 x3 x4 x5
      = blockAttn i x0 x1 x2 x3 x4 x5 := by
  obtain ⟨o1, o2, o3, o4⟩ := off_eq i
  funext y
  obtain ⟨r, e, rfl⟩ : ∃ (r : Fin 64) (e : Fin 2048), y = ix2 r e := ⟨y 0, y 1, by ext a; fin_cases a <;> rfl⟩
  frame_out
  rw [head0_of]
  generalize hm : k0_pay5 _ _ _ = vis
  have hv : vis = maskV i x0 := hm.symm.trans (mask_loads i x0 _ _ _ _ _ _ _ _ _ _)
  clear hm
  canon_tiles x h
  all_goals
    obtain ⟨p, d, rfl⟩ : ∃ (p : Fin 64) (d : Fin 128), x = ix2 p d := ⟨x 0, x 1, by ext a; fin_cases a <;> rfl⟩
    change r.val = p.val at h0
    obtain rfl := Fin.ext h0
  · change e.val = 1920 + d.val at h1
    refine (congrFun (head15_of _ _ _ _ _ _) _).trans ?_
    rw [blockAttn_at i x0 x1 x2 x3 x4 x5 15 r d e (by simp only [h1]; norm_num)]
    exact headRaw_loads i x0 x1 x2 x3 x4 x5 15 vis hv _ o4 _ _ (by norm_num) (by norm_num) _ _ _ _ _ _ _ r d
  · change e.val = 1792 + d.val at h1
    refine (congrFun (head14_of _ _ _ _ _ _) _).trans ?_
    rw [blockAttn_at i x0 x1 x2 x3 x4 x5 14 r d e (by simp only [h1]; norm_num)]
    exact headRaw_loads i x0 x1 x2 x3 x4 x5 14 vis hv _ o4 _ _ (by norm_num) (by norm_num) _ _ _ _ _ _ _ r d
  · change e.val = 1664 + d.val at h1
    refine (congrFun (head13_of _ _ _ _ _ _) _).trans ?_
    rw [blockAttn_at i x0 x1 x2 x3 x4 x5 13 r d e (by simp only [h1]; norm_num)]
    exact headRaw_loads i x0 x1 x2 x3 x4 x5 13 vis hv _ o4 _ _ (by norm_num) (by norm_num) _ _ _ _ _ _ _ r d
  · change e.val = 1536 + d.val at h1
    refine (congrFun (head12_of _ _ _ _ _ _) _).trans ?_
    rw [blockAttn_at i x0 x1 x2 x3 x4 x5 12 r d e (by simp only [h1]; norm_num)]
    exact headRaw_loads i x0 x1 x2 x3 x4 x5 12 vis hv _ o4 _ _ (by norm_num) (by norm_num) _ _ _ _ _ _ _ r d
  · change e.val = 1408 + d.val at h1
    refine (congrFun (head11_of _ _ _ _ _ _) _).trans ?_
    rw [blockAttn_at i x0 x1 x2 x3 x4 x5 11 r d e (by simp only [h1]; norm_num)]
    exact headRaw_loads i x0 x1 x2 x3 x4 x5 11 vis hv _ o3 _ _ (by norm_num) (by norm_num) _ _ _ _ _ _ _ r d
  · change e.val = 1280 + d.val at h1
    refine (congrFun (head10_of _ _ _ _ _ _) _).trans ?_
    rw [blockAttn_at i x0 x1 x2 x3 x4 x5 10 r d e (by simp only [h1]; norm_num)]
    exact headRaw_loads i x0 x1 x2 x3 x4 x5 10 vis hv _ o3 _ _ (by norm_num) (by norm_num) _ _ _ _ _ _ _ r d
  · change e.val = 1152 + d.val at h1
    refine (congrFun (head9_of _ _ _ _ _ _) _).trans ?_
    rw [blockAttn_at i x0 x1 x2 x3 x4 x5 9 r d e (by simp only [h1]; norm_num)]
    exact headRaw_loads i x0 x1 x2 x3 x4 x5 9 vis hv _ o3 _ _ (by norm_num) (by norm_num) _ _ _ _ _ _ _ r d
  · change e.val = 1024 + d.val at h1
    refine (congrFun (head8_of _ _ _ _ _ _) _).trans ?_
    rw [blockAttn_at i x0 x1 x2 x3 x4 x5 8 r d e (by simp only [h1]; norm_num)]
    exact headRaw_loads i x0 x1 x2 x3 x4 x5 8 vis hv _ o3 _ _ (by norm_num) (by norm_num) _ _ _ _ _ _ _ r d
  · change e.val = 896 + d.val at h1
    refine (congrFun (head7_of _ _ _ _ _ _) _).trans ?_
    rw [blockAttn_at i x0 x1 x2 x3 x4 x5 7 r d e (by simp only [h1]; norm_num)]
    exact headRaw_loads i x0 x1 x2 x3 x4 x5 7 vis hv _ o2 _ _ (by norm_num) (by norm_num) _ _ _ _ _ _ _ r d
  · change e.val = 768 + d.val at h1
    refine (congrFun (head6_of _ _ _ _ _ _) _).trans ?_
    rw [blockAttn_at i x0 x1 x2 x3 x4 x5 6 r d e (by simp only [h1]; norm_num)]
    exact headRaw_loads i x0 x1 x2 x3 x4 x5 6 vis hv _ o2 _ _ (by norm_num) (by norm_num) _ _ _ _ _ _ _ r d
  · change e.val = 640 + d.val at h1
    refine (congrFun (head5_of _ _ _ _ _ _) _).trans ?_
    rw [blockAttn_at i x0 x1 x2 x3 x4 x5 5 r d e (by simp only [h1]; norm_num)]
    exact headRaw_loads i x0 x1 x2 x3 x4 x5 5 vis hv _ o2 _ _ (by norm_num) (by norm_num) _ _ _ _ _ _ _ r d
  · change e.val = 512 + d.val at h1
    refine (congrFun (head4_of _ _ _ _ _ _) _).trans ?_
    rw [blockAttn_at i x0 x1 x2 x3 x4 x5 4 r d e (by simp only [h1]; norm_num)]
    exact headRaw_loads i x0 x1 x2 x3 x4 x5 4 vis hv _ o2 _ _ (by norm_num) (by norm_num) _ _ _ _ _ _ _ r d
  · change e.val = 384 + d.val at h1
    refine (congrFun (head3_of _ _ _ _ _ _) _).trans ?_
    rw [blockAttn_at i x0 x1 x2 x3 x4 x5 3 r d e (by simp only [h1]; norm_num)]
    exact headRaw_loads i x0 x1 x2 x3 x4 x5 3 vis hv _ o1 _ _ (by norm_num) (by norm_num) _ _ _ _ _ _ _ r d
  · change e.val = 256 + d.val at h1
    refine (congrFun (head2_of _ _ _ _ _ _) _).trans ?_
    rw [blockAttn_at i x0 x1 x2 x3 x4 x5 2 r d e (by simp only [h1]; norm_num)]
    exact headRaw_loads i x0 x1 x2 x3 x4 x5 2 vis hv _ o1 _ _ (by norm_num) (by norm_num) _ _ _ _ _ _ _ r d
  · change e.val = 128 + d.val at h1
    refine (congrFun (head1_of _ _ _ _ _ _) _).trans ?_
    rw [blockAttn_at i x0 x1 x2 x3 x4 x5 1 r d e (by simp only [h1]; norm_num)]
    exact headRaw_loads i x0 x1 x2 x3 x4 x5 1 vis hv _ o1 _ _ (by norm_num) (by norm_num) _ _ _ _ _ _ _ r d
  · change e.val = d.val at h1
    rw [blockAttn_at i x0 x1 x2 x3 x4 x5 0 r d e (by simp only [h1]; norm_num)]
    exact headRaw_loads i x0 x1 x2 x3 x4 x5 0 vis hv _ o1 _ _ (by norm_num) (by norm_num) _ _ _ _ _ _ _ r d

/-- The largest absolute value of a row of the block a grid point computes. -/
def blockAbs (i : grid0.Coords) (x0 : Vec Ideal S1x6 .i32) (x1 x2 : Vec Ideal S1x4 .f32) (x3 : Vec Ideal S64x2048 .bf16)
    (x4 x5 : Vec Ideal S1280x512 .fp8e4m3) (p : Fin 64) : EReal :=
  Finset.fold max hidden (fun e : Fin 2048 => abs' (blockAttn i x0 x1 x2 x3 x4 x5 (ix2 p e))) Finset.univ

/-- The column of scales, element by element. -/
theorem scaleV_at (a) (p : Fin 64) (q : Fin 1) : scaleV a (ix2 p q) = scaleOf (a (ix1 p)) := by
  unfold scaleV scaleOf
  pointwise

/-- The maximum over the lanes, as a fold. -/
theorem laneMax_at (a : FVec Ideal S64x128 .f32) (p : Fin 64) :
    laneMax a (ix1 p) = Finset.fold max hidden (fun x : Fin 128 => a (ix2 p x)) Finset.univ := by
  unfold laneMax
  refine (Ideal.multiReduction_maximumf_single a 0xFF800000#32 reduces_S64x128_S64 (.inl rfl) rfl (ix1 p)).trans ?_
  refine congrArg (fun f => Finset.fold max _ f Finset.univ) (funext fun x => ?_)
  have e : reduces_S64x128_S64.lift (ix1 p) x = ix2 p x := by ext a; fin_cases a <;> rfl
  exact congrArg a e

/-- A running maximum, element by element. -/
theorem maxAbs_at (a o) (p : Fin 64) (d : Fin 128) :
    maxAbs a o (ix2 p d) = (max (a (ix2 p d) : EReal) (abs' (o (ix2 p d))) : EReal) := rfl

/-- The running maxima start at zero. -/
theorem zero_at (p : Fin 64) (d : Fin 128) :
    (broadcast S64x128 (Scalar.ofBits .f32 0x00000000#32 : Ideal .f32) : FVec Ideal S64x128 .f32) (ix2 p d) = (0 : EReal) := by
  pointwise

/-- The sixteen heads' running maxima over the lanes give the row's largest absolute value. -/
theorem lanes_eq (i x0 x1 x2 x3 x4 x5) (o0 o1 o2 o3 o4 o5 o6 o7 o8 o9 o10 o11 o12 o13 o14 o15 : FVec Ideal S64x128 .f32)
    (h0 : ∀ p d, o0 (ix2 p d) = blockHead i x0 x1 x2 x3 x4 x5 0 p d)
    (h1 : ∀ p d, o1 (ix2 p d) = blockHead i x0 x1 x2 x3 x4 x5 1 p d)
    (h2 : ∀ p d, o2 (ix2 p d) = blockHead i x0 x1 x2 x3 x4 x5 2 p d)
    (h3 : ∀ p d, o3 (ix2 p d) = blockHead i x0 x1 x2 x3 x4 x5 3 p d)
    (h4 : ∀ p d, o4 (ix2 p d) = blockHead i x0 x1 x2 x3 x4 x5 4 p d)
    (h5 : ∀ p d, o5 (ix2 p d) = blockHead i x0 x1 x2 x3 x4 x5 5 p d)
    (h6 : ∀ p d, o6 (ix2 p d) = blockHead i x0 x1 x2 x3 x4 x5 6 p d)
    (h7 : ∀ p d, o7 (ix2 p d) = blockHead i x0 x1 x2 x3 x4 x5 7 p d)
    (h8 : ∀ p d, o8 (ix2 p d) = blockHead i x0 x1 x2 x3 x4 x5 8 p d)
    (h9 : ∀ p d, o9 (ix2 p d) = blockHead i x0 x1 x2 x3 x4 x5 9 p d)
    (h10 : ∀ p d, o10 (ix2 p d) = blockHead i x0 x1 x2 x3 x4 x5 10 p d)
    (h11 : ∀ p d, o11 (ix2 p d) = blockHead i x0 x1 x2 x3 x4 x5 11 p d)
    (h12 : ∀ p d, o12 (ix2 p d) = blockHead i x0 x1 x2 x3 x4 x5 12 p d)
    (h13 : ∀ p d, o13 (ix2 p d) = blockHead i x0 x1 x2 x3 x4 x5 13 p d)
    (h14 : ∀ p d, o14 (ix2 p d) = blockHead i x0 x1 x2 x3 x4 x5 14 p d)
    (h15 : ∀ p d, o15 (ix2 p d) = blockHead i x0 x1 x2 x3 x4 x5 15 p d) (p : Fin 64) :
    laneMax (maxAbs (maxAbs (maxAbs (maxAbs (maxAbs (maxAbs (maxAbs (maxAbs (maxAbs (maxAbs (maxAbs (maxAbs (maxAbs (maxAbs (maxAbs (maxAbs (broadcast S64x128 (Scalar.ofBits .f32 0x00000000#32 : Ideal .f32)) o0) o1) o2) o3) o4) o5) o6) o7) o8) o9) o10) o11) o12) o13) o14) o15) (ix1 p)
      = blockAbs i x0 x1 x2 x3 x4 x5 p := by
  rw [laneMax_at]
  unfold blockAbs
  refine eq_of_forall_ge_iff fun c => ?_
  simp only [Finset.fold_max_le, Finset.mem_univ, true_implies, maxAbs_at, zero_at, max_le_iff, h0, h1, h2, h3, h4, h5, h6, h7, h8, h9, h10, h11, h12, h13, h14, h15]
  refine and_congr_right fun _ => ⟨fun hc e => ?_, fun hc d => ?_⟩
  · have he := e.isLt
    obtain ⟨⟨⟨⟨⟨⟨⟨⟨⟨⟨⟨⟨⟨⟨⟨⟨hz, k0⟩, k1⟩, k2⟩, k3⟩, k4⟩, k5⟩, k6⟩, k7⟩, k8⟩, k9⟩, k10⟩, k11⟩, k12⟩, k13⟩, k14⟩, k15⟩ := hc ⟨e.val % 128, Nat.mod_lt _ (by norm_num)⟩
    obtain ⟨h, hh⟩ : ∃ h : Fin 16, e.val / 128 = h.val := ⟨⟨e.val / 128, by omega⟩, rfl⟩
    rw [blockAttn_at i x0 x1 x2 x3 x4 x5 h p ⟨e.val % 128, Nat.mod_lt _ (by norm_num)⟩ e (by show e.val = h.val * 128 + e.val % 128; omega)]
    clear hh
    fin_cases h
    · exact k0
    · exact k1
    · exact k2
    · exact k3
    · exact k4
    · exact k5
    · exact k6
    · exact k7
    · exact k8
    · exact k9
    · exact k10
    · exact k11
    · exact k12
    · exact k13
    · exact k14
    · exact k15
  · have k : ∀ h : Fin 16, abs' (blockHead i x0 x1 x2 x3 x4 x5 h p d) ≤ c := fun h => by
      rw [← blockAttn_at i x0 x1 x2 x3 x4 x5 h p d ⟨h.val * 128 + d.val, by omega⟩ rfl]
      exact hc _
    exact ⟨⟨⟨⟨⟨⟨⟨⟨⟨⟨⟨⟨⟨⟨⟨⟨(abs'_nonneg _).trans (k 0), k 0⟩, k 1⟩, k 2⟩, k 3⟩, k 4⟩, k 5⟩, k 6⟩, k 7⟩, k 8⟩, k 9⟩, k 10⟩, k 11⟩, k 12⟩, k 13⟩, k 14⟩, k 15⟩

/-- The column of scales a grid point writes. -/
theorem out_8 (c i a1 w1 a2 w2 a3 w3 a4 w4 a5 w5 a6 w6 a7 w7 a8 w8 a9 w9 x0 x1 x2 x3 x4 x5) :
    out0_A_8 (F := Ideal) c i a1 w1 a2 w2 a3 w3 a4 w4 a5 w5 a6 w6 a7 w7 a8 w8 a9 w9 x0 x1 x2 x3 x4 x5
      = fun y => scaleOf (blockAbs i x0 x1 x2 x3 x4 x5 (y 0)) := by
  obtain ⟨o1, o2, o3, o4⟩ := off_eq i
  funext y
  obtain ⟨p, q, rfl⟩ : ∃ (p : Fin 64) (q : Fin 1), y = ix2 p q := ⟨y 0, y 1, by ext a; fin_cases a <;> rfl⟩
  frame_out
  rw [scale_of, maxs14_of, maxs12_of, maxs11_of, maxs10_of, maxs8_of, maxs7_of, maxs5_of, maxs4_of, maxs3_of, maxs1_of, maxs0_of, head13_of, head6_of]
  generalize hm : k0_pay5 _ _ _ = vis
  have hv : vis = maskV i x0 := hm.symm.trans (mask_loads i x0 _ _ _ _ _ _ _ _ _ _)
  clear hm
  rw [scaleV_at]
  refine congrArg scaleOf (lanes_eq i x0 x1 x2 x3 x4 x5 _ _ _ _ _ _ _ _ _ _ _ _ _ _ _ _ ?_ ?_ ?_ ?_ ?_ ?_ ?_ ?_ ?_ ?_ ?_ ?_ ?_ ?_ ?_ ?_ p)
  · exact fun p d => headRaw_loads i x0 x1 x2 x3 x4 x5 0 vis hv _ o1 _ _ (by norm_num) (by norm_num) _ _ _ _ _ _ _ p d
  · exact fun p d => headRaw_loads i x0 x1 x2 x3 x4 x5 1 vis hv _ o1 _ _ (by norm_num) (by norm_num) _ _ _ _ _ _ _ p d
  · exact fun p d => headRaw_loads i x0 x1 x2 x3 x4 x5 2 vis hv _ o1 _ _ (by norm_num) (by norm_num) _ _ _ _ _ _ _ p d
  · exact fun p d => headRaw_loads i x0 x1 x2 x3 x4 x5 3 vis hv _ o1 _ _ (by norm_num) (by norm_num) _ _ _ _ _ _ _ p d
  · exact fun p d => headRaw_loads i x0 x1 x2 x3 x4 x5 4 vis hv _ o2 _ _ (by norm_num) (by norm_num) _ _ _ _ _ _ _ p d
  · exact fun p d => headRaw_loads i x0 x1 x2 x3 x4 x5 5 vis hv _ o2 _ _ (by norm_num) (by norm_num) _ _ _ _ _ _ _ p d
  · exact fun p d => headRaw_loads i x0 x1 x2 x3 x4 x5 6 vis hv _ o2 _ _ (by norm_num) (by norm_num) _ _ _ _ _ _ _ p d
  · exact fun p d => headRaw_loads i x0 x1 x2 x3 x4 x5 7 vis hv _ o2 _ _ (by norm_num) (by norm_num) _ _ _ _ _ _ _ p d
  · exact fun p d => headRaw_loads i x0 x1 x2 x3 x4 x5 8 vis hv _ o3 _ _ (by norm_num) (by norm_num) _ _ _ _ _ _ _ p d
  · exact fun p d => headRaw_loads i x0 x1 x2 x3 x4 x5 9 vis hv _ o3 _ _ (by norm_num) (by norm_num) _ _ _ _ _ _ _ p d
  · exact fun p d => headRaw_loads i x0 x1 x2 x3 x4 x5 10 vis hv _ o3 _ _ (by norm_num) (by norm_num) _ _ _ _ _ _ _ p d
  · exact fun p d => headRaw_loads i x0 x1 x2 x3 x4 x5 11 vis hv _ o3 _ _ (by norm_num) (by norm_num) _ _ _ _ _ _ _ p d
  · exact fun p d => headRaw_loads i x0 x1 x2 x3 x4 x5 12 vis hv _ o4 _ _ (by norm_num) (by norm_num) _ _ _ _ _ _ _ p d
  · exact fun p d => headRaw_loads i x0 x1 x2 x3 x4 x5 13 vis hv _ o4 _ _ (by norm_num) (by norm_num) _ _ _ _ _ _ _ p d
  · exact fun p d => headRaw_loads i x0 x1 x2 x3 x4 x5 14 vis hv _ o4 _ _ (by norm_num) (by norm_num) _ _ _ _ _ _ _ p d
  · exact fun p d => headRaw_loads i x0 x1 x2 x3 x4 x5 15 vis hv _ o4 _ _ (by norm_num) (by norm_num) _ _ _ _ _ _ _ p d

/-- A block of codes, element by element. -/
theorem codesV_at (o s) (p : Fin 64) (e : Fin 2048) : codesV o s (ix2 p e)
    = (min (Scalar.ofBits (F := Ideal) .f32 0x43E00000#32 : EReal)
        (max (Scalar.ofBits (F := Ideal) .f32 0xC3E00000#32 : EReal) (Ideal.div (o (ix2 p e)) (s (ix2 p 0)) : EReal)) : EReal) := by
  unfold codesV
  pointwise

/-- The codes a grid point writes. -/
theorem out_7 (c i a1 w1 a2 w2 a3 w3 a4 w4 a5 w5 a6 w6 a7 w7 a8 w8 a9 w9 x0 x1 x2 x3 x4 x5) :
    out0_A_7 (F := Ideal) c i a1 w1 a2 w2 a3 w3 a4 w4 a5 w5 a6 w6 a7 w7 a8 w8 a9 w9 x0 x1 x2 x3 x4 x5
      = fun y => (min (Scalar.ofBits (F := Ideal) .f32 0x43E00000#32 : EReal)
        (max (Scalar.ofBits (F := Ideal) .f32 0xC3E00000#32 : EReal)
          (Ideal.div (blockAttn i x0 x1 x2 x3 x4 x5 y) (scaleOf (blockAbs i x0 x1 x2 x3 x4 x5 (y 0))) : EReal)) : EReal) := by
  obtain ⟨o1, o2, o3, o4⟩ := off_eq i
  funext y
  obtain ⟨p0, e0, rfl⟩ : ∃ (p : Fin 64) (e : Fin 2048), y = ix2 p e := ⟨y 0, y 1, by ext a; fin_cases a <;> rfl⟩
  frame_open
  frame_out
  rw [codes_of, maxs14_of, maxs12_of, maxs11_of, maxs10_of, maxs8_of, maxs7_of, maxs5_of, maxs4_of, maxs3_of, maxs1_of, maxs0_of, head13_of, head6_of,
    head0_of]
  generalize hm : k0_pay5 _ _ _ = vis
  have hv : vis = maskV i x0 := hm.symm.trans (mask_loads i x0 _ _ _ _ _ _ _ _ _ _)
  clear hm
  rw [codesV_at, scaleV_at]
  refine congrArg₂ (fun o s : EReal => (min _ (max _ (Ideal.div o s : EReal)) : EReal)) ?_
    (congrArg scaleOf (lanes_eq i x0 x1 x2 x3 x4 x5 _ _ _ _ _ _ _ _ _ _ _ _ _ _ _ _ ?_ ?_ ?_ ?_ ?_ ?_ ?_ ?_ ?_ ?_ ?_ ?_ ?_ ?_ ?_ ?_ p0))
  rotate_left
  · exact fun p d => headRaw_loads i x0 x1 x2 x3 x4 x5 0 vis hv _ o1 _ _ (by norm_num) (by norm_num) _ _ _ _ _ _ _ p d
  · exact fun p d => headRaw_loads i x0 x1 x2 x3 x4 x5 1 vis hv _ o1 _ _ (by norm_num) (by norm_num) _ _ _ _ _ _ _ p d
  · exact fun p d => headRaw_loads i x0 x1 x2 x3 x4 x5 2 vis hv _ o1 _ _ (by norm_num) (by norm_num) _ _ _ _ _ _ _ p d
  · exact fun p d => headRaw_loads i x0 x1 x2 x3 x4 x5 3 vis hv _ o1 _ _ (by norm_num) (by norm_num) _ _ _ _ _ _ _ p d
  · exact fun p d => headRaw_loads i x0 x1 x2 x3 x4 x5 4 vis hv _ o2 _ _ (by norm_num) (by norm_num) _ _ _ _ _ _ _ p d
  · exact fun p d => headRaw_loads i x0 x1 x2 x3 x4 x5 5 vis hv _ o2 _ _ (by norm_num) (by norm_num) _ _ _ _ _ _ _ p d
  · exact fun p d => headRaw_loads i x0 x1 x2 x3 x4 x5 6 vis hv _ o2 _ _ (by norm_num) (by norm_num) _ _ _ _ _ _ _ p d
  · exact fun p d => headRaw_loads i x0 x1 x2 x3 x4 x5 7 vis hv _ o2 _ _ (by norm_num) (by norm_num) _ _ _ _ _ _ _ p d
  · exact fun p d => headRaw_loads i x0 x1 x2 x3 x4 x5 8 vis hv _ o3 _ _ (by norm_num) (by norm_num) _ _ _ _ _ _ _ p d
  · exact fun p d => headRaw_loads i x0 x1 x2 x3 x4 x5 9 vis hv _ o3 _ _ (by norm_num) (by norm_num) _ _ _ _ _ _ _ p d
  · exact fun p d => headRaw_loads i x0 x1 x2 x3 x4 x5 10 vis hv _ o3 _ _ (by norm_num) (by norm_num) _ _ _ _ _ _ _ p d
  · exact fun p d => headRaw_loads i x0 x1 x2 x3 x4 x5 11 vis hv _ o3 _ _ (by norm_num) (by norm_num) _ _ _ _ _ _ _ p d
  · exact fun p d => headRaw_loads i x0 x1 x2 x3 x4 x5 12 vis hv _ o4 _ _ (by norm_num) (by norm_num) _ _ _ _ _ _ _ p d
  · exact fun p d => headRaw_loads i x0 x1 x2 x3 x4 x5 13 vis hv _ o4 _ _ (by norm_num) (by norm_num) _ _ _ _ _ _ _ p d
  · exact fun p d => headRaw_loads i x0 x1 x2 x3 x4 x5 14 vis hv _ o4 _ _ (by norm_num) (by norm_num) _ _ _ _ _ _ _ p d
  · exact fun p d => headRaw_loads i x0 x1 x2 x3 x4 x5 15 vis hv _ o4 _ _ (by norm_num) (by norm_num) _ _ _ _ _ _ _ p d
  rw [View.readCov_eq_canon']
  show View.canon _ _ = _
  refine (congrArg (View.canon _) (show _ = ix2 p0 e0 from ?_)).trans ?_
  · ext a; fin_cases a <;> simp [Rect.unit]
  generalize ix2 p0 e0 = y
  obtain ⟨r, e, rfl⟩ : ∃ (r : Fin 64) (e : Fin 2048), y = ix2 r e := ⟨y 0, y 1, by ext a; fin_cases a <;> rfl⟩
  canon_tiles x h
  all_goals
    obtain ⟨p, d, rfl⟩ : ∃ (p : Fin 64) (d : Fin 128), x = ix2 p d := ⟨x 0, x 1, by ext a; fin_cases a <;> rfl⟩
    change r.val = p.val at h0
    obtain rfl := Fin.ext h0
  · change e.val = 1920 + d.val at h1
    refine (congrFun (head15_of _ _ _ _ _ _) _).trans ?_
    rw [blockAttn_at i x0 x1 x2 x3 x4 x5 15 r d e (by simp only [h1]; norm_num)]
    exact headRaw_loads i x0 x1 x2 x3 x4 x5 15 vis hv _ o4 _ _ (by norm_num) (by norm_num) _ _ _ _ _ _ _ r d
  · change e.val = 1792 + d.val at h1
    refine (congrFun (head14_of _ _ _ _ _ _) _).trans ?_
    rw [blockAttn_at i x0 x1 x2 x3 x4 x5 14 r d e (by simp only [h1]; norm_num)]
    exact headRaw_loads i x0 x1 x2 x3 x4 x5 14 vis hv _ o4 _ _ (by norm_num) (by norm_num) _ _ _ _ _ _ _ r d
  · change e.val = 1664 + d.val at h1
    rw [blockAttn_at i x0 x1 x2 x3 x4 x5 13 r d e (by simp only [h1]; norm_num)]
    exact headRaw_loads i x0 x1 x2 x3 x4 x5 13 vis hv _ o4 _ _ (by norm_num) (by norm_num) _ _ _ _ _ _ _ r d
  · change e.val = 1536 + d.val at h1
    refine (congrFun (head12_of _ _ _ _ _ _) _).trans ?_
    rw [blockAttn_at i x0 x1 x2 x3 x4 x5 12 r d e (by simp only [h1]; norm_num)]
    exact headRaw_loads i x0 x1 x2 x3 x4 x5 12 vis hv _ o4 _ _ (by norm_num) (by norm_num) _ _ _ _ _ _ _ r d
  · change e.val = 1408 + d.val at h1
    refine (congrFun (head11_of _ _ _ _ _ _) _).trans ?_
    rw [blockAttn_at i x0 x1 x2 x3 x4 x5 11 r d e (by simp only [h1]; norm_num)]
    exact headRaw_loads i x0 x1 x2 x3 x4 x5 11 vis hv _ o3 _ _ (by norm_num) (by norm_num) _ _ _ _ _ _ _ r d
  · change e.val = 1280 + d.val at h1
    refine (congrFun (head10_of _ _ _ _ _ _) _).trans ?_
    rw [blockAttn_at i x0 x1 x2 x3 x4 x5 10 r d e (by simp only [h1]; norm_num)]
    exact headRaw_loads i x0 x1 x2 x3 x4 x5 10 vis hv _ o3 _ _ (by norm_num) (by norm_num) _ _ _ _ _ _ _ r d
  · change e.val = 1152 + d.val at h1
    refine (congrFun (head9_of _ _ _ _ _ _) _).trans ?_
    rw [blockAttn_at i x0 x1 x2 x3 x4 x5 9 r d e (by simp only [h1]; norm_num)]
    exact headRaw_loads i x0 x1 x2 x3 x4 x5 9 vis hv _ o3 _ _ (by norm_num) (by norm_num) _ _ _ _ _ _ _ r d
  · change e.val = 1024 + d.val at h1
    refine (congrFun (head8_of _ _ _ _ _ _) _).trans ?_
    rw [blockAttn_at i x0 x1 x2 x3 x4 x5 8 r d e (by simp only [h1]; norm_num)]
    exact headRaw_loads i x0 x1 x2 x3 x4 x5 8 vis hv _ o3 _ _ (by norm_num) (by norm_num) _ _ _ _ _ _ _ r d
  · change e.val = 896 + d.val at h1
    refine (congrFun (head7_of _ _ _ _ _ _) _).trans ?_
    rw [blockAttn_at i x0 x1 x2 x3 x4 x5 7 r d e (by simp only [h1]; norm_num)]
    exact headRaw_loads i x0 x1 x2 x3 x4 x5 7 vis hv _ o2 _ _ (by norm_num) (by norm_num) _ _ _ _ _ _ _ r d
  · change e.val = 768 + d.val at h1
    rw [blockAttn_at i x0 x1 x2 x3 x4 x5 6 r d e (by simp only [h1]; norm_num)]
    exact headRaw_loads i x0 x1 x2 x3 x4 x5 6 vis hv _ o2 _ _ (by norm_num) (by norm_num) _ _ _ _ _ _ _ r d
  · change e.val = 640 + d.val at h1
    refine (congrFun (head5_of _ _ _ _ _ _) _).trans ?_
    rw [blockAttn_at i x0 x1 x2 x3 x4 x5 5 r d e (by simp only [h1]; norm_num)]
    exact headRaw_loads i x0 x1 x2 x3 x4 x5 5 vis hv _ o2 _ _ (by norm_num) (by norm_num) _ _ _ _ _ _ _ r d
  · change e.val = 512 + d.val at h1
    refine (congrFun (head4_of _ _ _ _ _ _) _).trans ?_
    rw [blockAttn_at i x0 x1 x2 x3 x4 x5 4 r d e (by simp only [h1]; norm_num)]
    exact headRaw_loads i x0 x1 x2 x3 x4 x5 4 vis hv _ o2 _ _ (by norm_num) (by norm_num) _ _ _ _ _ _ _ r d
  · change e.val = 384 + d.val at h1
    refine (congrFun (head3_of _ _ _ _ _ _) _).trans ?_
    rw [blockAttn_at i x0 x1 x2 x3 x4 x5 3 r d e (by simp only [h1]; norm_num)]
    exact headRaw_loads i x0 x1 x2 x3 x4 x5 3 vis hv _ o1 _ _ (by norm_num) (by norm_num) _ _ _ _ _ _ _ r d
  · change e.val = 256 + d.val at h1
    refine (congrFun (head2_of _ _ _ _ _ _) _).trans ?_
    rw [blockAttn_at i x0 x1 x2 x3 x4 x5 2 r d e (by simp only [h1]; norm_num)]
    exact headRaw_loads i x0 x1 x2 x3 x4 x5 2 vis hv _ o1 _ _ (by norm_num) (by norm_num) _ _ _ _ _ _ _ r d
  · change e.val = 128 + d.val at h1
    refine (congrFun (head1_of _ _ _ _ _ _) _).trans ?_
    rw [blockAttn_at i x0 x1 x2 x3 x4 x5 1 r d e (by simp only [h1]; norm_num)]
    exact headRaw_loads i x0 x1 x2 x3 x4 x5 1 vis hv _ o1 _ _ (by norm_num) (by norm_num) _ _ _ _ _ _ _ r d
  · change e.val = d.val at h1
    rw [blockAttn_at i x0 x1 x2 x3 x4 x5 0 r d e (by simp only [h1]; norm_num)]
    exact headRaw_loads i x0 x1 x2 x3 x4 x5 0 vis hv _ o1 _ _ (by norm_num) (by norm_num) _ _ _ _ _ _ _ r d

end Cert.AttnIdeal.Blocks
end
-- ==== Proof.AttnKernel.lean ====
module

public import proofs.«01_k».proof.Proof.Gen.AttnIdeal.Value
public import Idealize.ShloMosaic.Lib.Pipeline.ValueKit
public import proofs.«01_k».proof.Proof.AttnCases

@[expose] public section

set_option maxRecDepth 16384

noncomputable section

namespace Cert.AttnIdeal.Blocks

open Cert.AttnIdeal Cert.AttnIdeal.Gen Idealize.ShloMosaic Idealize.ShloMosaic.TcCoe Idealize.SL.Sem
open Idealize.ShloMosaic.Pipeline (Dat)
open Cert.GateUpIdeal.Blocks (abs' abs'_nonneg scaleOf)

variable (m : (ℓ : Loc nD τ sig) → Buf (Elt Ideal) ℓ) (ρ : Dev nD → PrngReg)

/-- Where each window's block of grid point `t` begins. -/
theorem idx : ∀ t : Fin grid0.N, win0_0.index t = ![0, 0] ∧ win0_1.index t = ![0, 0] ∧ win0_2.index t = ![0, 0]
    ∧ win0_3.index t = ![t.val, 0] ∧ win0_4.index t = ![0, 0] ∧ win0_5.index t = ![0, 0]
    ∧ win0_6.index t = ![t.val, 0] ∧ win0_7.index t = ![t.val, 0] ∧ win0_8.index t = ![t.val, 0] := by decide +kernel

/-- The grid has one axis. -/
theorem coord : ∀ t : Fin grid0.N, (grid0.coords t 0).val = t.val := by decide +kernel

/-- The attention array of the arrays as launched. -/
abbrev A (c : Dev nD) : FVec Ideal S1280x2048 .f32 :=
  attnG (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The segment starts a point reads. -/
theorem blk0 (c : Dev nD) (t : Fin cfg0.N) (b : Fin 6) :
    iblk m c 0 t (ix2 0 b) = m ((c : Thread nD τ).loc main_arg0) (ix1 b) := by
  obtain ⟨e0, e1, e2, e3, e4, e5, e6, e7, e8⟩ := idx t
  blk_point [iblk, V, e0]

/-- The key scales a point reads. -/
theorem blk1 (c : Dev nD) (t : Fin cfg0.N) (b : Fin 4) :
    iblk m c 1 t (ix2 0 b) = m ((c : Thread nD τ).loc main_arg1) (ix1 b) := by
  obtain ⟨e0, e1, e2, e3, e4, e5, e6, e7, e8⟩ := idx t
  blk_point [iblk, V, e1]

/-- The value scales a point reads. -/
theorem blk2 (c : Dev nD) (t : Fin cfg0.N) (b : Fin 4) :
    iblk m c 2 t (ix2 0 b) = m ((c : Thread nD τ).loc main_arg2) (ix1 b) := by
  obtain ⟨e0, e1, e2, e3, e4, e5, e6, e7, e8⟩ := idx t
  blk_point [iblk, V, e2]

/-- The queries a point reads. -/
theorem blk3 (c : Dev nD) (t : Fin cfg0.N) (p : Fin 64) (e : Fin 2048) (r : Fin 1280) (hr : r.val = 64 * t.val + p.val) :
    iblk m c 3 t (ix2 p e) = m ((c : Thread nD τ).loc main_arg3) (ix2 r e) := by
  obtain ⟨e0, e1, e2, e3, e4, e5, e6, e7, e8⟩ := idx t
  blk_point [iblk, V, e3, hr]

/-- The key codes a point reads. -/
theorem blk4 (c : Dev nD) (t : Fin cfg0.N) (p : Fin 1280) (e : Fin 512) :
    iblk m c 4 t (ix2 p e) = m ((c : Thread nD τ).loc main_arg4) (ix2 p e) := by
  obtain ⟨e0, e1, e2, e3, e4, e5, e6, e7, e8⟩ := idx t
  blk_point [iblk, V, e4]

/-- The value codes a point reads. -/
theorem blk5 (c : Dev nD) (t : Fin cfg0.N) (p : Fin 1280) (e : Fin 512) :
    iblk m c 5 t (ix2 p e) = m ((c : Thread nD τ).loc main_arg5) (ix2 p e) := by
  obtain ⟨e0, e1, e2, e3, e4, e5, e6, e7, e8⟩ := idx t
  blk_point [iblk, V, e5]

/-- A point's attention over its window of keys is the attention over all keys: no query of the point sees a key outside
    the window. -/
theorem head_eq (c : Dev nD) (t : Fin cfg0.N) (h : Fin 16) (p : Fin 64) (d : Fin 128) (r : Fin 1280) (hr : r.val = 64 * t.val + p.val) :
    blockHead (grid0.coords t) (iblk m c 0 t) (iblk m c 1 t) (iblk m c 2 t) (iblk m c 3 t) (iblk m c 4 t) (iblk m c 5 t) h p d
      = headAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) h r d := by
  have hi := coord t
  have hp := p.isLt
  unfold blockHead headAt
  have hw := softRow_window (fun x : Fin 256 => (⟨start (grid0.coords t) + x.val, start_add _ x⟩ : Fin 1280))
    (fun a b e => by
      have : start (grid0.coords t) + a.val = start (grid0.coords t) + b.val := congrArg Fin.val e
      exact Fin.ext (by omega))
    (score (m ((c : Thread nD τ).loc main_arg0)) (m ((c : Thread nD τ).loc main_arg1)) (m ((c : Thread nD τ).loc main_arg3))
      (m ((c : Thread nD τ).loc main_arg4)) h r)
    (fun j => m ((c : Thread nD τ).loc main_arg5) (ix2 j ⟨h.val / 4 * 128 + d.val, by omega⟩))
    (m ((c : Thread nD τ).loc main_arg2) (ix1 ⟨h.val / 4, by omega⟩))
    (fun b hb => by
      unfold score
      rw [if_neg]
      rintro ⟨s1, s2, -⟩
      have hs : start (grid0.coords t) = 64 * t.val - 192 := by unfold start; rw [hi]
      exact hb ⟨b.val - start (grid0.coords t), by omega⟩ (Fin.ext (by show start (grid0.coords t) + (b.val - start (grid0.coords t)) = b.val; omega)))
  refine Eq.trans ?_ hw
  rw [blk2]
  refine congrArg₂ (fun s v => softRow s _ v) (funext fun x => ?_) (funext fun x => blk5 m c t _ _)
  unfold score
  have es : (fun b : Fin 5 => iblk m c 0 t (ix2 0 ⟨1 + b.val, by omega⟩))
      = fun b : Fin 5 => m ((c : Thread nD τ).loc main_arg0) (ix1 ⟨1 + b.val, by omega⟩) := funext fun b => blk0 m c t _
  rw [es, hi, ← hr, blk1]
  split_ifs with hx
  swap
  · rfl
  refine congrArg (fun s : EReal => s * _ * _) ?_
  exact congrArg (fun f : Fin 128 → EReal => ∑ z, f z) (funext fun z => congrArg₂ (fun a b : EReal => a * b) (blk3 m c t p _ r hr) (blk4 m c t _ _))

/-- A point's block is its 64 rows of the attention array. -/
theorem block_eq (c : Dev nD) (t : Fin cfg0.N) (p : Fin 64) (e : Fin 2048) (r : Fin 1280) (hr : r.val = 64 * t.val + p.val) :
    blockAttn (grid0.coords t) (iblk m c 0 t) (iblk m c 1 t) (iblk m c 2 t) (iblk m c 3 t) (iblk m c 4 t) (iblk m c 5 t) (ix2 p e)
      = A m c (ix2 r e) :=
  head_eq m c t _ p _ r hr

/-- A row's largest absolute value in a point's block is the row's in the attention array. -/
theorem abs_eq (c : Dev nD) (t : Fin cfg0.N) (p : Fin 64) (r : Fin 1280) (hr : r.val = 64 * t.val + p.val) :
    blockAbs (grid0.coords t) (iblk m c 0 t) (iblk m c 1 t) (iblk m c 2 t) (iblk m c 3 t) (iblk m c 4 t) (iblk m c 5 t) p
      = rowAbs (A m c) r := by
  unfold blockAbs rowAbs
  exact congrArg (fun f => Finset.fold max hidden f Finset.univ) (funext fun e => congrArg abs' (block_eq m c t p e r hr))

/-- The attention array after the run. -/
theorem arr6_eq (c : Dev nD) : (dats m 0 c).arrAt 6 cfg0.N = A m c := by
  refine (dats m 0 c).arrAt_eq_of_covers 6 _ (by decide +kernel) fun t hf y => ?_
  obtain ⟨e0, e1, e2, e3, e4, e5, e6, e7, e8⟩ := idx t
  blk_simp
  rw [after0_6]
  unfold outsAt0
  dsimp only
  rw [out_6]
  obtain ⟨p, e, rfl⟩ : ∃ (p : Fin 64) (e : Fin 2048), y = ix2 p e := ⟨y 0, y 1, by ext a; fin_cases a <;> rfl⟩
  have hN : t.val < 20 := lt_of_lt_of_eq t.isLt N_0
  refine (block_eq m c t p e ⟨64 * t.val + p.val, by omega⟩ rfl).trans (congrArg (A m c) ?_)
  ext a; fin_cases a <;> (blk_simp [e6]; simp; try omega)

/-- The code array after the run. -/
theorem arr7_eq (c : Dev nD) : (dats m 0 c).arrAt 7 cfg0.N = codesG (A m c) := by
  refine (dats m 0 c).arrAt_eq_of_covers 7 _ (by decide +kernel) fun t hf y => ?_
  obtain ⟨e0, e1, e2, e3, e4, e5, e6, e7, e8⟩ := idx t
  blk_simp
  rw [after0_7]
  unfold outsAt0
  dsimp only
  rw [out_7]
  obtain ⟨p, e, rfl⟩ : ∃ (p : Fin 64) (e : Fin 2048), y = ix2 p e := ⟨y 0, y 1, by ext a; fin_cases a <;> rfl⟩
  have hN : t.val < 20 := lt_of_lt_of_eq t.isLt N_0
  refine Eq.trans (b := codesG (A m c) (ix2 ⟨64 * t.val + p.val, by omega⟩ e)) ?_ (congrArg (codesG (A m c)) ?_)
  · exact congrArg₂ (fun o s : EReal => (min _ (max _ (Ideal.div o s : EReal)) : EReal)) (block_eq m c t p e _ rfl)
      (congrArg scaleOf (abs_eq m c t p ⟨64 * t.val + p.val, by omega⟩ rfl))
  · ext a; fin_cases a <;> (blk_simp [e7]; simp; try omega)

/-- The scale column after the run. -/
theorem arr8_eq (c : Dev nD) : (dats m 0 c).arrAt 8 cfg0.N = scalesG (A m c) := by
  refine (dats m 0 c).arrAt_eq_of_covers 8 _ (by decide +kernel) fun t hf y => ?_
  obtain ⟨e0, e1, e2, e3, e4, e5, e6, e7, e8⟩ := idx t
  blk_simp
  rw [after0_8]
  unfold outsAt0
  dsimp only
  rw [out_8]
  obtain ⟨p, e, rfl⟩ : ∃ (p : Fin 64) (e : Fin 1), y = ix2 p e := ⟨y 0, y 1, by ext a; fin_cases a <;> rfl⟩
  have hN : t.val < 20 := lt_of_lt_of_eq t.isLt N_0
  refine (congrArg scaleOf (abs_eq m c t p ⟨64 * t.val + p.val, by omega⟩ rfl)).trans ?_
  refine congrArg (fun r => scaleOf (rowAbs (A m c) r)) (Fin.ext ?_)
  blk_simp [e8]
  simp
  try omega

end Cert.AttnIdeal.Blocks
end
-- ==== Proof.AttnRefHead.lean ====
module

public import proofs.«01_k».proof.Proof.Gen.AttnRefIdeal.Value
public import Idealize.ShloMosaic.Lib.Pipeline.ValueKit
public import Idealize.ShloMosaic.Lib.MatmulPlain
public import Idealize.ShloMosaic.Lib.WordCmp
public import Idealize.ShloMosaic.Lib.WordSum
public import proofs.«01_k».proof.Proof.AttnSpec

@[expose] public section

set_option maxRecDepth 16384

noncomputable section

namespace Cert.AttnRefIdeal.Whole

open Cert.AttnRefIdeal Cert.AttnRefIdeal.Gen Idealize.ShloMosaic Idealize.ShloMosaic.TcCoe Idealize.SL.Sem
open Cert.AttnIdeal.Blocks (log2e rsqrtDim rowTop softRow Sees segOf segOf_eq_iff)

/-! One head of the reference over all queries and keys, in stages. -/

/-- The masked scores. -/
def scoresR (vis : IVec S1280x1280 1) (sc : FVec Ideal S1x1 .f32) (q k : FVec Ideal S1280x128 .bf16) : FVec Ideal S1280x1280 .f32 :=
  select vis
    (mulf (mulf (matmul dot_S1280x128_S1280x128_S1280x1280_1_1_0_0_n_n none q k (constant S1280x1280 .f32 0x00000000#32))
      (broadcastTo S1280x1280 sc broadcasts_S1x1_S1280x1280)) (broadcast S1280x1280 (Scalar.ofBits .f32 0x3FB8AA3B#32 : Ideal .f32)))
    (broadcast S1280x1280 (Scalar.ofBits .f32 0xFF800000#32 : Ideal .f32))

/-- The row maxima. -/
def maxR (s : FVec Ideal S1280x1280 .f32) : FVec Ideal S1280 .f32 :=
  multiReduction .maximumf [1] S1280 s 0xFF800000#32 reduces_S1280x1280_S1280 (.inl rfl) rfl

/-- The powers of two. -/
def powR (s : FVec Ideal S1280x1280 .f32) (mx : FVec Ideal S1280 .f32) : FVec Ideal S1280x1280 .f32 :=
  exp2 (subf s (broadcastTo S1280x1280 (ceil (shapeCast S1280x1 mx shapeCasts_S1280_S1280x1)) broadcasts_S1280x1_S1280x1280))

/-- The row sums. -/
def sumR (s : FVec Ideal S1280x1280 .f32) : FVec Ideal S1280 .f32 :=
  multiReduction .add [1] S1280 s 0x00000000#32 reduces_S1280x1280_S1280 (.inl rfl) rfl

/-- The weighted sum of the values over the row sums. -/
def tailR (p : FVec Ideal S1280x1280 .f32) (den : FVec Ideal S1280 .f32) (v : FVec Ideal S1280x128 .bf16) (w : FVec Ideal S1x1 .f32) :
    FVec Ideal S1280x128 .f32 :=
  divf (matmul dot_S1280x1280_S1280x128_S1280x128_1_0_0_1_n_n none
    (truncf .bf16 (mulf p (broadcastTo S1280x1280 w broadcasts_S1x1_S1280x1280)) bitsLt_bf16_f32) v
    (constant S1280x128 .f32 0x00000000#32)) (broadcastTo S1280x128 (shapeCast S1280x1 den shapeCasts_S1280_S1280x1) broadcasts_S1280x1_S1280x128)

/-- One head. -/
def headR (vis : IVec S1280x1280 1) (sc w : FVec Ideal S1x1 .f32) (q : FVec Ideal S1280x128 .bf16) (k8 v8 : Vec Ideal S1280x128 .fp8e4m3) :
    FVec Ideal S1280x128 .f32 :=
  tailR (powR (scoresR vis sc q (extf .bf16 (φ := .fp8e4m3) k8 bitsLt_fp8e4m3_bf16)) (maxR (scoresR vis sc q (extf .bf16 (φ := .fp8e4m3) k8 bitsLt_fp8e4m3_bf16))))
    (sumR (powR (scoresR vis sc q (extf .bf16 (φ := .fp8e4m3) k8 bitsLt_fp8e4m3_bf16)) (maxR (scoresR vis sc q (extf .bf16 (φ := .fp8e4m3) k8 bitsLt_fp8e4m3_bf16)))))
    (extf .bf16 (φ := .fp8e4m3) v8 bitsLt_fp8e4m3_bf16) w

/-- A masked score, element by element. -/
theorem scoresR_at (vis sc q k) (p x : Fin 1280) : scoresR vis sc q k (ix2 p x)
    = if vis (ix2 p x) = 1 then (∑ z, q (ix2 p z) * k (ix2 x z)) * sc (ix2 0 0) * log2e else AttnIdeal.Blocks.hidden := by
  unfold scoresR log2e AttnIdeal.Blocks.hidden
  pointwise
  rfl

/-- A row maximum, as a fold over the row. -/
theorem maxR_at (s : FVec Ideal S1280x1280 .f32) (p : Fin 1280) :
    maxR s (ix1 p) = Finset.fold max AttnIdeal.Blocks.hidden (fun x : Fin 1280 => s (ix2 p x)) Finset.univ := by
  unfold maxR
  refine (Ideal.multiReduction_maximumf_single s 0xFF800000#32 reduces_S1280x1280_S1280 (.inl rfl) rfl (ix1 p)).trans ?_
  refine congrArg (fun f => Finset.fold max _ f Finset.univ) (funext fun x => ?_)
  have e : reduces_S1280x1280_S1280.lift (ix1 p) x = ix2 p x := by ext a; fin_cases a <;> rfl
  exact congrArg s e

/-- A row sum. -/
theorem sumR_at (s : FVec Ideal S1280x1280 .f32) (p : Fin 1280) : sumR s (ix1 p) = ∑ x : Fin 1280, s (ix2 p x) := by
  unfold sumR
  refine (Ideal.multiReduction_add_single s 0x00000000#32 reduces_S1280x1280_S1280 (.inl rfl) rfl (ix1 p)).trans ?_
  refine congrArg (fun f : Fin 1280 → EReal => ∑ x, f x) (funext fun x => ?_)
  have e : reduces_S1280x1280_S1280.lift (ix1 p) x = ix2 p x := by ext a; fin_cases a <;> rfl
  exact congrArg s e

/-- A power of two, element by element. -/
theorem powR_at (s mx) (p x : Fin 1280) :
    powR s mx (ix2 p x) = Ideal.exp2 (s (ix2 p x) - FloatOps.ceil (F := Ideal) (φ := .f32) (mx (ix1 p))) := by
  unfold powR
  pointwise
  rfl

/-- The weighted sum of the values over the row sum, element by element. -/
theorem tailR_at (s den v w) (p : Fin 1280) (d : Fin 128) :
    tailR s den v w (ix2 p d) = Ideal.div (∑ x, s (ix2 p x) * w (ix2 0 0) * v (ix2 x d)) (den (ix1 p)) := by
  unfold tailR
  pointwise

/-- One head of the reference, element by element: a softmax row over all keys. -/
theorem headR_at (vis sc w q k8 v8) (p : Fin 1280) (d : Fin 128) : headR vis sc w q k8 v8 (ix2 p d)
    = softRow (fun x : Fin 1280 => if vis (ix2 p x) = 1 then (∑ z, q (ix2 p z) * k8 (ix2 x z)) * sc (ix2 0 0) * log2e else AttnIdeal.Blocks.hidden)
        (w (ix2 0 0)) (fun x => v8 (ix2 x d)) := by
  unfold headR softRow rowTop
  rw [tailR_at, sumR_at]
  simp only [powR_at, maxR_at, scoresR_at]
  rfl

/-! ## The mask -/

/-- How many segments start at or before each position. -/
def segR (v1 : Vec Ideal S6 .i32) : IVec S1280 32 :=
  multiReductionI .add [1] S1280 (extui 32 (cmpi .sge (iota .tc S1280x5 32 [0] iota_S1280x5_d0_w32)
    (broadcastTo S1280x5 (shapeCast S1x5 (extractStridedSlice S5 ![1] v1 slices_S6_o1_S5) shapeCasts_S5_S1x5) broadcasts_S1x5_S1280x5))
    natLt_1_32) 0#32 reduces_S1280x5_S1280 rfl

/-- The mask's bit, from the segment counts and the positions. -/
theorem pay1_at (v1 : Vec Ideal S6 .i32) (p x : Fin 1280) : k0_pay1 (F := Ideal) v1 (ix2 p x)
    = IntOp.andi (IntOp.andi (IntOp.cmpi .eq (segR v1 (ix1 x)) (segR v1 (ix1 p)))
        (IntOp.cmpi .sle (BitVec.ofNat 32 x.val) (BitVec.ofNat 32 p.val)))
        (IntOp.cmpi .slt (IntOp.subi (BitVec.ofNat 32 p.val) (BitVec.ofNat 32 x.val)) 192#32) := by
  show andi (andi (cmpi .eq (broadcastTo S1280x1280 (shapeCast S1x1280 (segR v1) shapeCasts_S1280_S1x1280) broadcasts_S1x1280_S1280x1280)
      (broadcastTo S1280x1280 (shapeCast S1280x1 (segR v1) shapeCasts_S1280_S1280x1) broadcasts_S1280x1_S1280x1280))
      (cmpi .sle (iota .tc S1280x1280 32 [1] iota_S1280x1280_d1_w32) (iota .tc S1280x1280 32 [0] iota_S1280x1280_d0_w32)))
      (cmpi .slt (subi (iota .tc S1280x1280 32 [0] iota_S1280x1280_d0_w32) (iota .tc S1280x1280 32 [1] iota_S1280x1280_d1_w32))
        (broadcast S1280x1280 192#32)) (ix2 p x) = _
  generalize segR v1 = s
  pointwise

/-- The words counted at position `p`: 1 for a segment that starts at or before it. -/
theorem started_at (v1 : Vec Ideal S6 .i32) (p : Fin 1280) (b : Fin 5) :
    (extui 32 (cmpi .sge (iota .tc S1280x5 32 [0] iota_S1280x5_d0_w32)
      (broadcastTo S1280x5 (shapeCast S1x5 (extractStridedSlice S5 ![1] v1 slices_S6_o1_S5) shapeCasts_S5_S1x5) broadcasts_S1x5_S1280x5))
      natLt_1_32 (ix2 p b)).toNat = if (v1 (ix1 ⟨1 + b.val, by omega⟩)).toInt ≤ (p.val : ℤ) then 1 else 0 := by
  have e : extui 32 (cmpi .sge (iota .tc S1280x5 32 [0] iota_S1280x5_d0_w32)
      (broadcastTo S1280x5 (shapeCast S1x5 (extractStridedSlice S5 ![1] v1 slices_S6_o1_S5) shapeCasts_S5_S1x5) broadcasts_S1x5_S1280x5))
      natLt_1_32 (ix2 p b)
      = (IntOp.cmpi .sge (BitVec.ofNat 32 p.val) (v1 (ix1 ⟨1 + b.val, by omega⟩))).setWidth 32 := by
    pointwise
  rw [e, WordCmp.cmpi_sge_eq, WordCmp.toInt_ofNat_of_lt (by omega)]
  split_ifs with h
  · rw [decide_eq_true h]
    rfl
  · rw [decide_eq_false h]
    rfl

/-- The segment count at position `p`. -/
theorem segR_toNat (v1 : Vec Ideal S6 .i32) (p : Fin 1280) :
    (segR v1 (ix1 p)).toNat = segOf (fun b => v1 (ix1 ⟨1 + b.val, by omega⟩)) p.val := by
  have e : ∀ f : S1280x5.Idx → ℕ, ∑ i ∈ Finset.univ.filter (fun i => reduces_S1280x5_S1280.drop i = ix1 p), f i = ∑ b : Fin 5, f (ix2 p b) := fun f => by
    refine (reduces_S1280x5_S1280.sum_filter_drop_single f (ix1 p)).trans ?_
    refine congrArg (fun g : Fin 5 → ℕ => ∑ b, g b) (funext fun b => ?_)
    have e : reduces_S1280x5_S1280.lift (ix1 p) b = ix2 p b := by ext a; fin_cases a <;> rfl
    exact congrArg f e
  unfold segOf
  refine (WordSum.toNat_multiReductionI_add _ reduces_S1280x5_S1280 rfl (ix1 p) ?_).trans ((e _).trans ?_)
  rotate_left
  · exact Finset.sum_congr rfl fun b _ => started_at v1 p b
  · rw [e]
    refine lt_of_le_of_lt (Finset.sum_le_card_nsmul _ _ 1 fun b _ => ?_) (by decide)
    rw [started_at]
    split_ifs <;> omega

/-- The mask's bit says whether the query sees the key. -/
theorem pay1_iff (v1 : Vec Ideal S6 .i32) (p x : Fin 1280) : k0_pay1 (F := Ideal) v1 (ix2 p x) = 1
    ↔ Sees (fun b => v1 (ix1 ⟨1 + b.val, by omega⟩)) p.val x.val := by
  have hp := p.isLt
  have hx := x.isLt
  have ep : (BitVec.ofNat 32 p.val).toInt = (p.val : ℤ) := WordCmp.toInt_ofNat_of_lt (by omega)
  have ex : (BitVec.ofNat 32 x.val).toInt = (x.val : ℤ) := WordCmp.toInt_ofNat_of_lt (by omega)
  have es : (IntOp.subi (BitVec.ofNat 32 p.val) (BitVec.ofNat 32 x.val)).toInt = (p.val : ℤ) - x.val := by
    refine BitVec.toInt_sub.trans ?_
    rw [ep, ex, Int.bmod_def]
    omega
  have e192 : (192#32).toInt = 192 := by decide
  rw [pay1_at, WordCmp.cmpi_eq_eq, WordCmp.cmpi_sle_eq, WordCmp.cmpi_slt_eq, WordCmp.andi_ofBool, ← Bool.decide_and,
    WordCmp.andi_ofBool, ← Bool.decide_and]
  refine (WordCmp.ofBool_decide_eq_one_iff _).trans ?_
  rw [ep, ex, es, e192, ← BitVec.toNat_inj, segR_toNat, segR_toNat]
  unfold Sees
  constructor
  · rintro ⟨⟨h0, h1⟩, h2⟩
    have h : x.val ≤ p.val := by omega
    exact ⟨h, by omega, (segOf_eq_iff _ _ _ h).1 h0⟩
  · rintro ⟨h, h1, h2⟩
    exact ⟨⟨(segOf_eq_iff _ _ _ h).2 h2, by omega⟩, by omega⟩

end Cert.AttnRefIdeal.Whole
end
-- ==== Proof.AttnReference.lean ====
module

public import proofs.«01_k».proof.Proof.AttnRefHead
public import Idealize.ShloMosaic.Lib.Pipeline.ReadBack

@[expose] public section

set_option maxRecDepth 16384

noncomputable section

namespace Cert.AttnRefIdeal.Whole

open Cert.AttnRefIdeal Cert.AttnRefIdeal.Gen Idealize.ShloMosaic Idealize.ShloMosaic.TcCoe Idealize.SL.Sem
open Cert.AttnIdeal.Blocks (log2e rsqrtDim softRow Sees score headAt attnG attnG_at rowAbs scalesG codesG)
open Cert.GateUpIdeal.Blocks (abs' scaleOf)

/-! ## One head from the loads -/

/-- The score scales: the key scale over the square root of the head dimension. -/
theorem pay2_at (v : Vec Ideal S4 .f32) (g : Fin 4) : k0_pay2 (F := Ideal) v (ix2 0 g) = v (ix1 g) * rsqrtDim := by
  unfold rsqrtDim
  unfold_payloads
  pointwise

/-- The value scales. -/
theorem pay3_at (v : Vec Ideal S4 .f32) (g : Fin 4) : k0_pay3 (F := Ideal) v (ix2 0 g) = v (ix1 g) := by
  unfold_payloads
  pointwise

/-- Reading the whole array of segment starts. -/
theorem ld_starts (a : Vec Ideal S6 .i32) : View.ld a r0_0 = a := by
  funext y
  exact View.ld_unit_apply_of _ _ _ _ _ _ fun a => by fin_cases a; simp

/-- Reading a whole array of head scales. -/
theorem ld_scales (a : Vec Ideal S4 .f32) : View.ld a r0_1 = a := by
  funext y
  exact View.ld_unit_apply_of _ _ _ _ _ _ fun a => by fin_cases a; simp

/-- A head over the loads at head `h`'s places is that head of the attention. -/
theorem headR_loads (a0 : Vec Ideal S6 .i32) (a1 a2 : Vec Ideal S4 .f32) (a3 : Vec Ideal S1280x2048 .bf16)
    (a4 a5 : Vec Ideal S1280x512 .fp8e4m3) (h : Fin 16) (c g gc : ℕ) (hc : c = h.val * 128) (hg : g = h.val / 4) (hgc : gc = h.val / 4 * 128)
    (s1 s2 : S1x4.Slices ![0, g] S1x1)
    (b3 : ∀ a, (![0, c] : Fin S1280x2048.rank → ℕ) a + S1280x128.size a ≤ S1280x2048.size a)
    (b4 b5 : ∀ a, (![0, gc] : Fin S1280x512.rank → ℕ) a + S1280x128.size a ≤ S1280x512.size a) (p : Fin 1280) (d : Fin 128) :
    headR (k0_pay1 (View.ld a0 r0_0)) (extractStridedSlice S1x1 ![0, g] (k0_pay2 (View.ld a1 r0_1)) s1)
      (extractStridedSlice S1x1 ![0, g] (k0_pay3 (View.ld a2 r0_1)) s2)
      (View.ld a3 (Rect.unit (s := S1280x2048) ![0, c] S1280x128.size b3))
      (View.ld a4 (Rect.unit (s := S1280x512) ![0, gc] S1280x128.size b4))
      (View.ld a5 (Rect.unit (s := S1280x512) ![0, gc] S1280x128.size b5)) (ix2 p d)
      = headAt a0 a1 a2 a3 a4 a5 h p d := by
  subst hc hg hgc
  have hh := h.isLt
  have e1 : extractStridedSlice S1x1 ![0, h.val / 4] (k0_pay2 (F := Ideal) a1) s1 (ix2 0 0) = a1 (ix1 ⟨h.val / 4, by omega⟩) * rsqrtDim := by
    refine Eq.trans ?_ (pay2_at a1 ⟨h.val / 4, by omega⟩)
    refine congrArg (k0_pay2 (F := Ideal) a1) ?_
    ext a; fin_cases a <;> rfl
  have e2 : extractStridedSlice S1x1 ![0, h.val / 4] (k0_pay3 (F := Ideal) a2) s2 (ix2 0 0) = a2 (ix1 ⟨h.val / 4, by omega⟩) := by
    refine Eq.trans ?_ (pay3_at a2 ⟨h.val / 4, by omega⟩)
    refine congrArg (k0_pay3 (F := Ideal) a2) ?_
    ext a; fin_cases a <;> rfl
  have e3 : ∀ z : Fin 128, View.ld a3 (Rect.unit (s := S1280x2048) ![0, h.val * 128] S1280x128.size b3) (ix2 p z)
      = a3 (ix2 p ⟨h.val * 128 + z.val, by omega⟩) := fun z =>
    View.ld_unit_apply_of _ _ _ _ _ _ fun a => by fin_cases a <;> simp
  have e4 : ∀ (x : Fin 1280) (z : Fin 128), View.ld a4 (Rect.unit (s := S1280x512) ![0, h.val / 4 * 128] S1280x128.size b4) (ix2 x z)
      = a4 (ix2 x ⟨h.val / 4 * 128 + z.val, by omega⟩) := fun x z =>
    View.ld_unit_apply_of _ _ _ _ _ _ fun a => by fin_cases a <;> simp
  have e5 : ∀ (x : Fin 1280) (z : Fin 128), View.ld a5 (Rect.unit (s := S1280x512) ![0, h.val / 4 * 128] S1280x128.size b5) (ix2 x z)
      = a5 (ix2 x ⟨h.val / 4 * 128 + z.val, by omega⟩) := fun x z =>
    View.ld_unit_apply_of _ _ _ _ _ _ fun a => by fin_cases a <;> simp
  rw [headR_at, ld_starts, ld_scales, ld_scales, e1, e2]
  unfold headAt score
  refine congrArg₂ (fun s v => softRow s _ v) (funext fun x => ?_) (funext fun x => e5 x d)
  have hs := pay1_iff a0 p x
  by_cases hx : k0_pay1 (F := Ideal) a0 (ix2 p x) = 1
  · rw [if_pos hx, if_pos (hs.1 hx)]
    refine congrArg (fun s : EReal => s * _ * _) ?_
    exact congrArg (fun f : Fin 128 → EReal => ∑ z, f z) (funext fun z => congrArg₂ (fun a b : EReal => a * b) (e3 z) (e4 x z))
  · rw [if_neg hx, if_neg (fun w => hx (hs.2 w))]

/-! ## The heads side by side -/

/-- Four heads side by side. -/
def join4 (o0 o1 o2 o3 : FVec Ideal S1280x128 .f32) : FVec Ideal S1280x512 .f32 :=
  concatenate S1280x512 1 [⟨S1280x128, o0⟩, ⟨S1280x128, o1⟩, ⟨S1280x128, o2⟩, ⟨S1280x128, o3⟩]
    concatenates_S1280x128_S1280x128_S1280x128_S1280x128_S1280x512_d1

/-- Four groups of heads side by side. -/
def join16 (g0 g1 g2 g3 : FVec Ideal S1280x512 .f32) : FVec Ideal S1280x2048 .f32 :=
  concatenate S1280x2048 1 [⟨S1280x512, g0⟩, ⟨S1280x512, g1⟩, ⟨S1280x512, g2⟩, ⟨S1280x512, g3⟩]
    concatenates_S1280x512_S1280x512_S1280x512_S1280x512_S1280x2048_d1

/-- Four heads side by side, read at a column of head `j`. -/
theorem join4_at (o : Fin 4 → FVec Ideal S1280x128 .f32) (p : Fin 1280) (j : Fin 4) (d : Fin 128) :
    join4 (o 0) (o 1) (o 2) (o 3) (ix2 p ⟨j.val * 128 + d.val, by omega⟩) = o j (ix2 p d) := by
  unfold join4
  fin_cases j
  all_goals pointwise
  · rw [dif_neg (by omega), dif_neg (by omega), dif_pos (by omega)]
    exact congrArg (fun x => o 2 (ix2 p x)) (Fin.ext (by show 256 + d.val - 128 - 128 = d.val; omega))
  · rw [dif_neg (by omega), dif_neg (by omega), dif_neg (by omega)]
    exact congrArg (fun x => o 3 (ix2 p x)) (Fin.ext (by show 384 + d.val - 128 - 128 - 128 = d.val; omega))

/-- Four groups side by side, read at a column of group `j`. -/
theorem join16_at (o : Fin 4 → FVec Ideal S1280x512 .f32) (p : Fin 1280) (j : Fin 4) (d : Fin 512) :
    join16 (o 0) (o 1) (o 2) (o 3) (ix2 p ⟨j.val * 512 + d.val, by omega⟩) = o j (ix2 p d) := by
  unfold join16
  fin_cases j
  all_goals pointwise
  · rw [dif_neg (by omega), dif_neg (by omega), dif_pos (by omega)]
    exact congrArg (fun x => o 2 (ix2 p x)) (Fin.ext (by show 1024 + d.val - 512 - 512 = d.val; omega))
  · rw [dif_neg (by omega), dif_neg (by omega), dif_neg (by omega)]
    exact congrArg (fun x => o 3 (ix2 p x)) (Fin.ext (by show 1536 + d.val - 512 - 512 - 512 = d.val; omega))

/-- Heads 0 to 3 of the reference. -/
theorem group0_of (a0 : Vec Ideal S6 .i32) (a1 a2 : Vec Ideal S4 .f32) (a3 : Vec Ideal S1280x2048 .bf16)
    (a4 a5 : Vec Ideal S1280x512 .fp8e4m3) : k0_pay43 (F := Ideal) a0 a1 a2 a3 a4 a5
    = join4
      (headR (k0_pay1 (View.ld a0 r0_0)) (extractStridedSlice S1x1 ![0, 0] (k0_pay2 (View.ld a1 r0_1)) slices_S1x4_o0_0_S1x1)
        (extractStridedSlice S1x1 ![0, 0] (k0_pay3 (View.ld a2 r0_1)) slices_S1x4_o0_0_S1x1) (View.ld a3 r0_2) (View.ld a4 r0_3) (View.ld a5 r0_3))
      (headR (k0_pay1 (View.ld a0 r0_0)) (extractStridedSlice S1x1 ![0, 0] (k0_pay2 (View.ld a1 r0_1)) slices_S1x4_o0_0_S1x1)
        (extractStridedSlice S1x1 ![0, 0] (k0_pay3 (View.ld a2 r0_1)) slices_S1x4_o0_0_S1x1) (View.ld a3 r0_4) (View.ld a4 r0_3) (View.ld a5 r0_3))
      (headR (k0_pay1 (View.ld a0 r0_0)) (extractStridedSlice S1x1 ![0, 0] (k0_pay2 (View.ld a1 r0_1)) slices_S1x4_o0_0_S1x1)
        (extractStridedSlice S1x1 ![0, 0] (k0_pay3 (View.ld a2 r0_1)) slices_S1x4_o0_0_S1x1) (View.ld a3 r0_5) (View.ld a4 r0_3) (View.ld a5 r0_3))
      (headR (k0_pay1 (View.ld a0 r0_0)) (extractStridedSlice S1x1 ![0, 0] (k0_pay2 (View.ld a1 r0_1)) slices_S1x4_o0_0_S1x1)
        (extractStridedSlice S1x1 ![0, 0] (k0_pay3 (View.ld a2 r0_1)) slices_S1x4_o0_0_S1x1) (View.ld a3 r0_6) (View.ld a4 r0_3) (View.ld a5 r0_3)) := rfl

/-- Heads 4 to 7 of the reference. -/
theorem group1_of (a0 : Vec Ideal S6 .i32) (a1 a2 : Vec Ideal S4 .f32) (a3 : Vec Ideal S1280x2048 .bf16)
    (a4 a5 : Vec Ideal S1280x512 .fp8e4m3) : k0_pay44 (F := Ideal) a0 a1 a2 a3 a4 a5
    = join4
      (headR (k0_pay1 (View.ld a0 r0_0)) (extractStridedSlice S1x1 ![0, 1] (k0_pay2 (View.ld a1 r0_1)) slices_S1x4_o0_1_S1x1)
        (extractStridedSlice S1x1 ![0, 1] (k0_pay3 (View.ld a2 r0_1)) slices_S1x4_o0_1_S1x1) (View.ld a3 r0_7) (View.ld a4 r0_8) (View.ld a5 r0_8))
      (headR (k0_pay1 (View.ld a0 r0_0)) (extractStridedSlice S1x1 ![0, 1] (k0_pay2 (View.ld a1 r0_1)) slices_S1x4_o0_1_S1x1)
        (extractStridedSlice S1x1 ![0, 1] (k0_pay3 (View.ld a2 r0_1)) slices_S1x4_o0_1_S1x1) (View.ld a3 r0_9) (View.ld a4 r0_8) (View.ld a5 r0_8))
      (headR (k0_pay1 (View.ld a0 r0_0)) (extractStridedSlice S1x1 ![0, 1] (k0_pay2 (View.ld a1 r0_1)) slices_S1x4_o0_1_S1x1)
        (extractStridedSlice S1x1 ![0, 1] (k0_pay3 (View.ld a2 r0_1)) slices_S1x4_o0_1_S1x1) (View.ld a3 r0_10) (View.ld a4 r0_8) (View.ld a5 r0_8))
      (headR (k0_pay1 (View.ld a0 r0_0)) (extractStridedSlice S1x1 ![0, 1] (k0_pay2 (View.ld a1 r0_1)) slices_S1x4_o0_1_S1x1)
        (extractStridedSlice S1x1 ![0, 1] (k0_pay3 (View.ld a2 r0_1)) slices_S1x4_o0_1_S1x1) (View.ld a3 r0_11) (View.ld a4 r0_8) (View.ld a5 r0_8)) := rfl

/-- Heads 8 to 11 of the reference. -/
theorem group2_of (a0 : Vec Ideal S6 .i32) (a1 a2 : Vec Ideal S4 .f32) (a3 : Vec Ideal S1280x2048 .bf16)
    (a4 a5 : Vec Ideal S1280x512 .fp8e4m3) : k0_pay45 (F := Ideal) a0 a1 a2 a3 a4 a5
    = join4
      (headR (k0_pay1 (View.ld a0 r0_0)) (extractStridedSlice S1x1 ![0, 2] (k0_pay2 (View.ld a1 r0_1)) slices_S1x4_o0_2_S1x1)
        (extractStridedSlice S1x1 ![0, 2] (k0_pay3 (View.ld a2 r0_1)) slices_S1x4_o0_2_S1x1) (View.ld a3 r0_12) (View.ld a4 r0_13) (View.ld a5 r0_13))
      (headR (k0_pay1 (View.ld a0 r0_0)) (extractStridedSlice S1x1 ![0, 2] (k0_pay2 (View.ld a1 r0_1)) slices_S1x4_o0_2_S1x1)
        (extractStridedSlice S1x1 ![0, 2] (k0_pay3 (View.ld a2 r0_1)) slices_S1x4_o0_2_S1x1) (View.ld a3 r0_14) (View.ld a4 r0_13) (View.ld a5 r0_13))
      (headR (k0_pay1 (View.ld a0 r0_0)) (extractStridedSlice S1x1 ![0, 2] (k0_pay2 (View.ld a1 r0_1)) slices_S1x4_o0_2_S1x1)
        (extractStridedSlice S1x1 ![0, 2] (k0_pay3 (View.ld a2 r0_1)) slices_S1x4_o0_2_S1x1) (View.ld a3 r0_15) (View.ld a4 r0_13) (View.ld a5 r0_13))
      (headR (k0_pay1 (View.ld a0 r0_0)) (extractStridedSlice S1x1 ![0, 2] (k0_pay2 (View.ld a1 r0_1)) slices_S1x4_o0_2_S1x1)
        (extractStridedSlice S1x1 ![0, 2] (k0_pay3 (View.ld a2 r0_1)) slices_S1x4_o0_2_S1x1) (View.ld a3 r0_16) (View.ld a4 r0_13) (View.ld a5 r0_13)) := rfl

/-- Heads 12 to 15 of the reference. -/
def group3 (a0 : Vec Ideal S6 .i32) (a1 a2 : Vec Ideal S4 .f32) (a3 : Vec Ideal S1280x2048 .bf16)
    (a4 a5 : Vec Ideal S1280x512 .fp8e4m3) : FVec Ideal S1280x512 .f32 :=
  join4
      (headR (k0_pay1 (View.ld a0 r0_0)) (extractStridedSlice S1x1 ![0, 3] (k0_pay2 (View.ld a1 r0_1)) slices_S1x4_o0_3_S1x1)
        (extractStridedSlice S1x1 ![0, 3] (k0_pay3 (View.ld a2 r0_1)) slices_S1x4_o0_3_S1x1) (View.ld a3 r0_17) (View.ld a4 r0_18) (View.ld a5 r0_18))
      (headR (k0_pay1 (View.ld a0 r0_0)) (extractStridedSlice S1x1 ![0, 3] (k0_pay2 (View.ld a1 r0_1)) slices_S1x4_o0_3_S1x1)
        (extractStridedSlice S1x1 ![0, 3] (k0_pay3 (View.ld a2 r0_1)) slices_S1x4_o0_3_S1x1) (View.ld a3 r0_19) (View.ld a4 r0_18) (View.ld a5 r0_18))
      (headR (k0_pay1 (View.ld a0 r0_0)) (extractStridedSlice S1x1 ![0, 3] (k0_pay2 (View.ld a1 r0_1)) slices_S1x4_o0_3_S1x1)
        (extractStridedSlice S1x1 ![0, 3] (k0_pay3 (View.ld a2 r0_1)) slices_S1x4_o0_3_S1x1) (View.ld a3 r0_20) (View.ld a4 r0_18) (View.ld a5 r0_18))
      (headR (k0_pay1 (View.ld a0 r0_0)) (extractStridedSlice S1x1 ![0, 3] (k0_pay2 (View.ld a1 r0_1)) slices_S1x4_o0_3_S1x1)
        (extractStridedSlice S1x1 ![0, 3] (k0_pay3 (View.ld a2 r0_1)) slices_S1x4_o0_3_S1x1) (View.ld a3 r0_21) (View.ld a4 r0_18) (View.ld a5 r0_18))

/-- The reference's attention, from its four groups of heads. -/
theorem G6_of (a0 : Vec Ideal S6 .i32) (a1 a2 : Vec Ideal S4 .f32) (a3 : Vec Ideal S1280x2048 .bf16)
    (a4 a5 : Vec Ideal S1280x512 .fp8e4m3) : Value.G6 (F := Ideal) a0 a1 a2 a3 a4 a5
    = join16 (k0_pay43 (F := Ideal) a0 a1 a2 a3 a4 a5) (k0_pay44 (F := Ideal) a0 a1 a2 a3 a4 a5) (k0_pay45 (F := Ideal) a0 a1 a2 a3 a4 a5) (group3 a0 a1 a2 a3 a4 a5) := rfl

/-- A group of heads, element by element. -/
theorem group0_at (a0 : Vec Ideal S6 .i32) (a1 a2 : Vec Ideal S4 .f32) (a3 : Vec Ideal S1280x2048 .bf16)
    (a4 a5 : Vec Ideal S1280x512 .fp8e4m3) (p : Fin 1280) (j : Fin 4) (d : Fin 128) :
    k0_pay43 (F := Ideal) a0 a1 a2 a3 a4 a5 (ix2 p ⟨j.val * 128 + d.val, by omega⟩) = headAt a0 a1 a2 a3 a4 a5 ⟨0 + j.val, by omega⟩ p d := by
  rw [group0_of]
  refine (join4_at ![_, _, _, _] p j d).trans ?_
  fin_cases j
  · exact headR_loads a0 a1 a2 a3 a4 a5 0 _ _ _ (by norm_num) (by norm_num) (by norm_num) _ _ _ _ _ p d
  · exact headR_loads a0 a1 a2 a3 a4 a5 1 _ _ _ (by norm_num) (by norm_num) (by norm_num) _ _ _ _ _ p d
  · exact headR_loads a0 a1 a2 a3 a4 a5 2 _ _ _ (by norm_num) (by norm_num) (by norm_num) _ _ _ _ _ p d
  · exact headR_loads a0 a1 a2 a3 a4 a5 3 _ _ _ (by norm_num) (by norm_num) (by norm_num) _ _ _ _ _ p d

/-- A group of heads, element by element. -/
theorem group1_at (a0 : Vec Ideal S6 .i32) (a1 a2 : Vec Ideal S4 .f32) (a3 : Vec Ideal S1280x2048 .bf16)
    (a4 a5 : Vec Ideal S1280x512 .fp8e4m3) (p : Fin 1280) (j : Fin 4) (d : Fin 128) :
    k0_pay44 (F := Ideal) a0 a1 a2 a3 a4 a5 (ix2 p ⟨j.val * 128 + d.val, by omega⟩) = headAt a0 a1 a2 a3 a4 a5 ⟨4 + j.val, by omega⟩ p d := by
  rw [group1_of]
  refine (join4_at ![_, _, _, _] p j d).trans ?_
  fin_cases j
  · exact headR_loads a0 a1 a2 a3 a4 a5 4 _ _ _ (by norm_num) (by norm_num) (by norm_num) _ _ _ _ _ p d
  · exact headR_loads a0 a1 a2 a3 a4 a5 5 _ _ _ (by norm_num) (by norm_num) (by norm_num) _ _ _ _ _ p d
  · exact headR_loads a0 a1 a2 a3 a4 a5 6 _ _ _ (by norm_num) (by norm_num) (by norm_num) _ _ _ _ _ p d
  · exact headR_loads a0 a1 a2 a3 a4 a5 7 _ _ _ (by norm_num) (by norm_num) (by norm_num) _ _ _ _ _ p d

/-- A group of heads, element by element. -/
theorem group2_at (a0 : Vec Ideal S6 .i32) (a1 a2 : Vec Ideal S4 .f32) (a3 : Vec Ideal S1280x2048 .bf16)
    (a4 a5 : Vec Ideal S1280x512 .fp8e4m3) (p : Fin 1280) (j : Fin 4) (d : Fin 128) :
    k0_pay45 (F := Ideal) a0 a1 a2 a3 a4 a5 (ix2 p ⟨j.val * 128 + d.val, by omega⟩) = headAt a0 a1 a2 a3 a4 a5 ⟨8 + j.val, by omega⟩ p d := by
  rw [group2_of]
  refine (join4_at ![_, _, _, _] p j d).trans ?_
  fin_cases j
  · exact headR_loads a0 a1 a2 a3 a4 a5 8 _ _ _ (by norm_num) (by norm_num) (by norm_num) _ _ _ _ _ p d
  · exact headR_loads a0 a1 a2 a3 a4 a5 9 _ _ _ (by norm_num) (by norm_num) (by norm_num) _ _ _ _ _ p d
  · exact headR_loads a0 a1 a2 a3 a4 a5 10 _ _ _ (by norm_num) (by norm_num) (by norm_num) _ _ _ _ _ p d
  · exact headR_loads a0 a1 a2 a3 a4 a5 11 _ _ _ (by norm_num) (by norm_num) (by norm_num) _ _ _ _ _ p d

/-- A group of heads, element by element. -/
theorem group3_at (a0 : Vec Ideal S6 .i32) (a1 a2 : Vec Ideal S4 .f32) (a3 : Vec Ideal S1280x2048 .bf16)
    (a4 a5 : Vec Ideal S1280x512 .fp8e4m3) (p : Fin 1280) (j : Fin 4) (d : Fin 128) :
    group3 a0 a1 a2 a3 a4 a5 (ix2 p ⟨j.val * 128 + d.val, by omega⟩) = headAt a0 a1 a2 a3 a4 a5 ⟨12 + j.val, by omega⟩ p d := by
  unfold group3
  refine (join4_at ![_, _, _, _] p j d).trans ?_
  fin_cases j
  · exact headR_loads a0 a1 a2 a3 a4 a5 12 _ _ _ (by norm_num) (by norm_num) (by norm_num) _ _ _ _ _ p d
  · exact headR_loads a0 a1 a2 a3 a4 a5 13 _ _ _ (by norm_num) (by norm_num) (by norm_num) _ _ _ _ _ p d
  · exact headR_loads a0 a1 a2 a3 a4 a5 14 _ _ _ (by norm_num) (by norm_num) (by norm_num) _ _ _ _ _ p d
  · exact headR_loads a0 a1 a2 a3 a4 a5 15 _ _ _ (by norm_num) (by norm_num) (by norm_num) _ _ _ _ _ p d

/-- The reference's attention array. -/
theorem G6_eq (a0 : Vec Ideal S6 .i32) (a1 a2 : Vec Ideal S4 .f32) (a3 : Vec Ideal S1280x2048 .bf16)
    (a4 a5 : Vec Ideal S1280x512 .fp8e4m3) : Value.G6 (F := Ideal) a0 a1 a2 a3 a4 a5 = attnG a0 a1 a2 a3 a4 a5 := by
  funext y
  obtain ⟨p, e, rfl⟩ : ∃ (p : Fin 1280) (e : Fin 2048), y = ix2 p e := ⟨y 0, y 1, by ext a; fin_cases a <;> rfl⟩
  obtain ⟨g, j, d, he⟩ : ∃ (g j : Fin 4) (d : Fin 128), e.val = g.val * 512 + (j.val * 128 + d.val) :=
    ⟨⟨e.val / 512, by omega⟩, ⟨e.val % 512 / 128, by omega⟩, ⟨e.val % 128, by omega⟩, by
      show e.val = e.val / 512 * 512 + (e.val % 512 / 128 * 128 + e.val % 128); omega⟩
  have e1 : e = ⟨g.val * 512 + (⟨j.val * 128 + d.val, by omega⟩ : Fin 512).val, by show g.val * 512 + (j.val * 128 + d.val) < 2048; omega⟩ := Fin.ext he
  have e2 : e = ⟨(⟨4 * g.val + j.val, by omega⟩ : Fin 16).val * 128 + d.val, by show (4 * g.val + j.val) * 128 + d.val < 2048; omega⟩ :=
    Fin.ext (by show e.val = (4 * g.val + j.val) * 128 + d.val; omega)
  refine Eq.trans ?_ ((attnG_at a0 a1 a2 a3 a4 a5 ⟨4 * g.val + j.val, by omega⟩ p d).symm.trans (congrArg (fun x => attnG a0 a1 a2 a3 a4 a5 (ix2 p x)) e2.symm))
  rw [G6_of]
  refine (congrArg (fun x => join16 _ _ _ _ (ix2 p x)) e1).trans ?_
  refine (join16_at ![_, _, _, _] p g _).trans ?_
  fin_cases g
  · exact group0_at a0 a1 a2 a3 a4 a5 p j d
  · exact group1_at a0 a1 a2 a3 a4 a5 p j d
  · exact group2_at a0 a1 a2 a3 a4 a5 p j d
  · exact group3_at a0 a1 a2 a3 a4 a5 p j d

/-! ## Scales and codes -/

/-- Row maxima of absolute values. -/
def absMax (h : FVec Ideal S1280x2048 .f32) : FVec Ideal S1280 .f32 :=
  multiReduction .maximumf [1] S1280 (absf h) 0xFF800000#32 reduces_S1280x2048_S1280 (.inl rfl) rfl

/-- A row's maximum of absolute values, as a fold over the row. -/
theorem absMax_at (h : FVec Ideal S1280x2048 .f32) (p : Fin 1280) : absMax h (ix1 p) = rowAbs h p := by
  unfold absMax rowAbs
  refine (Ideal.multiReduction_maximumf_single (absf h) 0xFF800000#32 reduces_S1280x2048_S1280 (.inl rfl) rfl (ix1 p)).trans ?_
  refine congrArg (fun f => Finset.fold max _ f Finset.univ) (funext fun x => ?_)
  have e : reduces_S1280x2048_S1280.lift (ix1 p) x = ix2 p x := by ext a; fin_cases a <;> rfl
  exact congrArg (fun i => abs' (h i)) e

/-- A column of scales from row maxima. -/
def scaleCol (v : FVec Ideal S1280 .f32) : FVec Ideal S1280x1 .f32 :=
  shapeCast S1280x1 (select (cmpf .oeq v (broadcast S1280 (Scalar.ofBits .f32 0x00000000#32 : Ideal .f32)))
    (broadcast S1280 (Scalar.ofBits .f32 0x3F800000#32 : Ideal .f32))
    (divf v (broadcast S1280 (Scalar.ofBits .f32 0x43E00000#32 : Ideal .f32)))) shapeCasts_S1280_S1280x1

/-- The scale column, element by element. -/
theorem scaleCol_at (v : FVec Ideal S1280 .f32) (p : Fin 1280) (q : Fin 1) : scaleCol v (ix2 p q) = scaleOf (v (ix1 p)) := by
  unfold scaleCol scaleOf
  pointwise

/-- The codes of an array, given its column of scales. -/
def codesCol (a : FVec Ideal S1280x2048 .f32) (s : FVec Ideal S1280x1 .f32) : FVec Ideal S1280x2048 .fp8e4m3 :=
  truncf .fp8e4m3 (minimumf (broadcast S1280x2048 (Scalar.ofBits .f32 0x43E00000#32 : Ideal .f32))
    (maximumf (broadcast S1280x2048 (Scalar.ofBits .f32 0xC3E00000#32 : Ideal .f32))
      (divf a (broadcastTo S1280x2048 s broadcasts_S1280x1_S1280x2048)))) bitsLt_fp8e4m3_f32

/-- The codes, element by element. -/
theorem codesCol_at (a s) (p : Fin 1280) (e : Fin 2048) : codesCol a s (ix2 p e)
    = (min (Scalar.ofBits (F := Ideal) .f32 0x43E00000#32 : EReal)
        (max (Scalar.ofBits (F := Ideal) .f32 0xC3E00000#32 : EReal) (Ideal.div (a (ix2 p e)) (s (ix2 p 0)) : EReal)) : EReal) := by
  unfold codesCol
  pointwise

/-- The reference's scale column is made of the row maxima of its attention. -/
theorem G8_of (a0 : Vec Ideal S6 .i32) (a1 a2 : Vec Ideal S4 .f32) (a3 : Vec Ideal S1280x2048 .bf16)
    (a4 a5 : Vec Ideal S1280x512 .fp8e4m3) : Value.G8 (F := Ideal) a0 a1 a2 a3 a4 a5 = scaleCol (absMax (Value.G6 (F := Ideal) a0 a1 a2 a3 a4 a5)) := by
  unfold Value.G8 k0_pay38
  rfl

/-- The reference's scale column. -/
theorem G8_eq (a0 : Vec Ideal S6 .i32) (a1 a2 : Vec Ideal S4 .f32) (a3 : Vec Ideal S1280x2048 .bf16)
    (a4 a5 : Vec Ideal S1280x512 .fp8e4m3) : Value.G8 (F := Ideal) a0 a1 a2 a3 a4 a5 = scalesG (attnG a0 a1 a2 a3 a4 a5) := by
  rw [G8_of, G6_eq]
  funext y
  obtain ⟨p, q, rfl⟩ : ∃ (p : Fin 1280) (q : Fin 1), y = ix2 p q := ⟨y 0, y 1, by ext a; fin_cases a <;> rfl⟩
  rw [scaleCol_at, absMax_at]
  rfl

/-- The reference's codes are its attention over its scales. -/
theorem G7_of (a0 : Vec Ideal S6 .i32) (a1 a2 : Vec Ideal S4 .f32) (a3 : Vec Ideal S1280x2048 .bf16)
    (a4 a5 : Vec Ideal S1280x512 .fp8e4m3) : Value.G7 (F := Ideal) a0 a1 a2 a3 a4 a5 = codesCol (Value.G6 (F := Ideal) a0 a1 a2 a3 a4 a5) (Value.G8 (F := Ideal) a0 a1 a2 a3 a4 a5) := by
  unfold Value.G7 k0_pay39
  rfl

/-- The reference's codes. -/
theorem G7_eq (a0 : Vec Ideal S6 .i32) (a1 a2 : Vec Ideal S4 .f32) (a3 : Vec Ideal S1280x2048 .bf16)
    (a4 a5 : Vec Ideal S1280x512 .fp8e4m3) : Value.G7 (F := Ideal) a0 a1 a2 a3 a4 a5 = codesG (attnG a0 a1 a2 a3 a4 a5) := by
  rw [G7_of, G8_eq, G6_eq]
  funext y
  obtain ⟨p, e, rfl⟩ : ∃ (p : Fin 1280) (e : Fin 2048), y = ix2 p e := ⟨y 0, y 1, by ext a; fin_cases a <;> rfl⟩
  rw [codesCol_at]
  rfl

end Cert.AttnRefIdeal.Whole
end
-- ==== Proof.AttnEq.lean ====
module

public import proofs.«01_k».proof.Defs
public import proofs.«01_k».proof.Proof.AttnKernel
public import proofs.«01_k».proof.Proof.AttnReference

@[expose] public section

set_option maxRecDepth 16384

noncomputable section

namespace Cert.Proof

open Idealize.ShloMosaic Idealize.ShloMosaic.TcCoe Idealize.SL.Sem

/-- From equal arguments, the attention and its reference leave the same attention array, the same codes and the same row
    scales over the reals. -/
theorem algebraic_Attn : algebraic_AttnIdeal_AttnRefIdeal := fun m ρ m' ρ' _ hag =>
  ⟨fun c => _, fun c => _, fun c => _,
    (θ_run _ _ _).mono (fun _ h c => ⟨(h c).1.trans (AttnIdeal.Blocks.arr6_eq m c),
        (h c).2.1.trans (AttnIdeal.Blocks.arr7_eq m c), (h c).2.2.1.trans (AttnIdeal.Blocks.arr8_eq m c), (h c).2.2.2⟩)
      (AttnIdeal.Value.run_blocks m ρ),
    (θ_run _ _ _).mono (fun _ h c => by
      obtain ⟨h0, h1, h2, h3, h4, h5⟩ := hag c
      refine ⟨((h c).1.trans (AttnRefIdeal.Whole.G6_eq _ _ _ _ _ _)).trans ?_,
        ((h c).2.1.trans (AttnRefIdeal.Whole.G7_eq _ _ _ _ _ _)).trans ?_,
        ((h c).2.2.1.trans (AttnRefIdeal.Whole.G8_eq _ _ _ _ _ _)).trans ?_, (h c).2.2.2⟩
      all_goals rw [h0, h1, h2, h3, h4, h5]) (AttnRefIdeal.Value.run m' ρ')⟩

end Cert.Proof
end
-- ==== Proof.QkvSpec.lean ====
module

public import proofs.«01_k».proof.Proof.Gen.QkvIdeal.Value
public import Idealize.ShloMosaic.Lib.Pipeline.ValueKit
public import Idealize.ShloMosaic.Lib.Pipeline.ReadBack
public import proofs.«01_k».proof.Proof.GateUpSpec

@[expose] public section

set_option maxRecDepth 16384

noncomputable section

namespace Cert.QkvIdeal.Blocks

open Cert.QkvIdeal Cert.QkvIdeal.Gen Idealize.ShloMosaic Idealize.ShloMosaic.TcCoe Idealize.SL.Sem
open Idealize.ShloMosaic.Pipeline (Dat)
open Cert.GateUpIdeal.Blocks (abs' abs'_nonneg scaleOf)

/-! ## What the call computes, row by row -/

/-- The mean of a row of values: their sum over their number `D`. -/
def mean {n : ℕ} (D : EReal) (v : Fin n → EReal) : EReal := Ideal.div (∑ j, v j) D

/-- The number of columns of a token, 4096. -/
def cols : EReal := Ideal.ofBits FTy.f32 0x45800000#32

/-- The number of columns of a head, 128. -/
def dims : EReal := Ideal.ofBits FTy.f32 0x43000000#32

/-- The number added to a variance. -/
def eps : EReal := Ideal.ofBits FTy.f32 0x3727C5AC#32

/-- The largest code, 448, and the least, -448. -/
def top : EReal := Ideal.ofBits FTy.f32 0x43E00000#32
/-- The least code, -448. -/
def bot : EReal := Ideal.ofBits FTy.f32 0xC3E00000#32

/-- The value at column `j` of the layer norm of the row `v`, with gain `g`. -/
def normRow {n : ℕ} (D : EReal) (v g : Fin n → EReal) (j : Fin n) : EReal :=
  Ideal.div (v j - mean D v) (Ideal.sqrt (mean D (fun i => (v i - mean D v) * (v i - mean D v)) + eps)) * g j

/-- The code of a value at a scale. -/
def codeOf (v s : EReal) : EReal := min top (max bot (Ideal.div v s))

/-- The largest absolute value of a row. -/
def rowTop {n : ℕ} (v : Fin n → EReal) : EReal :=
  Finset.fold max (Ideal.ofBits FTy.f32 4286578688#32) (fun j => abs' (v j)) Finset.univ

/-- The scale of a token: of its row after the layer norm. -/
def tokScale (x g : Fin 4096 → EReal) : EReal := scaleOf (rowTop (normRow cols x g))

/-- The code of column `j` of a token. -/
def tokCode (x g : Fin 4096 → EReal) (j : Fin 4096) : EReal := codeOf (normRow cols x g j) (tokScale x g)

/-- One column of the input projection: the token's codes times a column of the weight, times both scales. -/
def projOf (x g w : Fin 4096 → EReal) (ws : EReal) : EReal := (∑ k, tokCode x g k * w k) * tokScale x g * ws

/-- The rotation by position of a head's row: lanes `2 m` and `2 m + 1` turn by the angle whose cosine and sine are `c m`, `s m`. -/
def rotOf (v : Fin 128 → EReal) (c s : Fin 64 → EReal) (d : Fin 128) : EReal :=
  if d.val % 2 = 0 then
    v d * c ⟨d.val / 2, by omega⟩ - v ⟨(d.val + 1) % 128, Nat.mod_lt _ (by decide)⟩ * s ⟨d.val / 2, by omega⟩
  else
    v ⟨(d.val + 127) % 128, Nat.mod_lt _ (by decide)⟩ * s ⟨d.val / 2, by omega⟩ + v d * c ⟨d.val / 2, by omega⟩

/-! ## Sums and maxima over chunks of 128 lanes -/

/-- The running maximum of the first `n` values. -/
def supTo (f : ℕ → EReal) : ℕ → EReal
  | 0 => ⊥
  | n + 1 => max (supTo f n) (f n)

/-- A running maximum is below a bound just if every value is. -/
theorem supTo_le (f : ℕ → EReal) (b : EReal) : ∀ n, supTo f n ≤ b ↔ ∀ c < n, f c ≤ b
  | 0 => by simp [supTo]
  | n + 1 => by
    rw [supTo, max_le_iff, supTo_le f b n]
    exact ⟨fun h c hc => (Nat.lt_succ_iff_lt_or_eq.mp hc).elim (h.1 c) fun e => e ▸ h.2,
      fun h => ⟨fun c hc => h c (by omega), h n (by omega)⟩⟩

/-- Lane `l` of chunk `c` of a row of 4096 columns. -/
def colAt (c : ℕ) (l : Fin 128) : Fin 4096 := ⟨(128 * c + l.val) % 4096, Nat.mod_lt _ (by decide)⟩

/-- A sum over lanes and chunks is the sum over the columns. -/
theorem sum_chunks (f : Fin 4096 → EReal) : (∑ l : Fin 128, ∑ c ∈ Finset.range 32, f (colAt c l)) = ∑ j, f j := by
  rw [Finset.sum_comm, Finset.sum_range, ← Fintype.sum_prod_type']
  refine Fintype.sum_equiv (finProdFinEquiv (m := 32) (n := 128)) _ _ fun p => congrArg f (Fin.ext ?_)
  obtain ⟨c, l⟩ := p
  show (128 * c.val + l.val) % 4096 = l.val + 128 * c.val
  omega

/-- A maximum over lanes of running maxima over chunks is the maximum over the columns. -/
theorem max_chunks (f : Fin 4096 → EReal) :
    Finset.fold max (Ideal.ofBits FTy.f32 4286578688#32) (fun l : Fin 128 => supTo (fun c => f (colAt c l)) 32) Finset.univ
      = Finset.fold max (Ideal.ofBits FTy.f32 4286578688#32) f Finset.univ := by
  refine eq_of_forall_ge_iff fun b => ?_
  rw [Finset.fold_max_le, Finset.fold_max_le]
  refine and_congr_right fun _ => ⟨fun h j _ => ?_, fun h l _ => (supTo_le _ _ _).mpr fun c _ => h _ (Finset.mem_univ _)⟩
  have := (supTo_le _ _ _).mp (h ⟨j.val % 128, Nat.mod_lt _ (by decide)⟩ (Finset.mem_univ _)) (j.val / 128) (by omega)
  rwa [show colAt (j.val / 128) ⟨j.val % 128, Nat.mod_lt _ (by decide)⟩ = j from Fin.ext (by
    show (128 * (j.val / 128) + j.val % 128) % 4096 = j.val
    omega)] at this

end Cert.QkvIdeal.Blocks
end
-- ==== Proof.QkvLoads.lean ====
module

public import proofs.«01_k».proof.Proof.Gen.QkvIdeal.Value
public import Idealize.ShloMosaic.Lib.Pipeline.ValueKit
public import Idealize.ShloMosaic.Lib.Pipeline.ReadBack
public import Idealize.ShloMosaic.Lib.WholeRead
public import proofs.«01_k».proof.Proof.QkvSpec

@[expose] public section

set_option maxRecDepth 16384

noncomputable section

namespace Cert.QkvIdeal.Blocks

open Cert.QkvIdeal Cert.QkvIdeal.Gen Idealize.ShloMosaic Idealize.ShloMosaic.TcCoe Idealize.SL.Sem
open Idealize.ShloMosaic.Pipeline (Dat)
open Cert.GateUpIdeal.Blocks (abs' abs'_nonneg scaleOf)

/-! ## The loads of one trip -/

/-- Row `p` of trip `k`'s 128 rows of the block. -/
def rowAt (k : Fin k0_t1_loop.trips) (p : Fin 128) : Fin 256 := ⟨(128 * k.val + p.val) % 256, Nat.mod_lt _ (by decide)⟩

/-- Where chunk 0 of a trip begins. -/
theorem off1 : ∀ k : Fin k0_t1_loop.trips, k0_off1 k = ![128 * k.val, 128 * 0] := by decide +kernel

/-- Where chunk 1 of a trip begins. -/
theorem off2 : ∀ k : Fin k0_t1_loop.trips, k0_off2 k = ![128 * k.val, 128 * 1] := by decide +kernel

/-- Where chunk 2 of a trip begins. -/
theorem off3 : ∀ k : Fin k0_t1_loop.trips, k0_off3 k = ![128 * k.val, 128 * 2] := by decide +kernel

/-- Where chunk 3 of a trip begins. -/
theorem off4 : ∀ k : Fin k0_t1_loop.trips, k0_off4 k = ![128 * k.val, 128 * 3] := by decide +kernel

/-- Where chunk 4 of a trip begins. -/
theorem off5 : ∀ k : Fin k0_t1_loop.trips, k0_off5 k = ![128 * k.val, 128 * 4] := by decide +kernel

/-- Where chunk 5 of a trip begins. -/
theorem off6 : ∀ k : Fin k0_t1_loop.trips, k0_off6 k = ![128 * k.val, 128 * 5] := by decide +kernel

/-- Where chunk 6 of a trip begins. -/
theorem off7 : ∀ k : Fin k0_t1_loop.trips, k0_off7 k = ![128 * k.val, 128 * 6] := by decide +kernel

/-- Where chunk 7 of a trip begins. -/
theorem off8 : ∀ k : Fin k0_t1_loop.trips, k0_off8 k = ![128 * k.val, 128 * 7] := by decide +kernel

/-- Where chunk 8 of a trip begins. -/
theorem off9 : ∀ k : Fin k0_t1_loop.trips, k0_off9 k = ![128 * k.val, 128 * 8] := by decide +kernel

/-- Where chunk 9 of a trip begins. -/
theorem off10 : ∀ k : Fin k0_t1_loop.trips, k0_off10 k = ![128 * k.val, 128 * 9] := by decide +kernel

/-- Where chunk 10 of a trip begins. -/
theorem off11 : ∀ k : Fin k0_t1_loop.trips, k0_off11 k = ![128 * k.val, 128 * 10] := by decide +kernel

/-- Where chunk 11 of a trip begins. -/
theorem off12 : ∀ k : Fin k0_t1_loop.trips, k0_off12 k = ![128 * k.val, 128 * 11] := by decide +kernel

/-- Where chunk 12 of a trip begins. -/
theorem off13 : ∀ k : Fin k0_t1_loop.trips, k0_off13 k = ![128 * k.val, 128 * 12] := by decide +kernel

/-- Where chunk 13 of a trip begins. -/
theorem off14 : ∀ k : Fin k0_t1_loop.trips, k0_off14 k = ![128 * k.val, 128 * 13] := by decide +kernel

/-- Where chunk 14 of a trip begins. -/
theorem off15 : ∀ k : Fin k0_t1_loop.trips, k0_off15 k = ![128 * k.val, 128 * 14] := by decide +kernel

/-- Where chunk 15 of a trip begins. -/
theorem off16 : ∀ k : Fin k0_t1_loop.trips, k0_off16 k = ![128 * k.val, 128 * 15] := by decide +kernel

/-- Where chunk 16 of a trip begins. -/
theorem off17 : ∀ k : Fin k0_t1_loop.trips, k0_off17 k = ![128 * k.val, 128 * 16] := by decide +kernel

/-- Where chunk 17 of a trip begins. -/
theorem off18 : ∀ k : Fin k0_t1_loop.trips, k0_off18 k = ![128 * k.val, 128 * 17] := by decide +kernel

/-- Where chunk 18 of a trip begins. -/
theorem off19 : ∀ k : Fin k0_t1_loop.trips, k0_off19 k = ![128 * k.val, 128 * 18] := by decide +kernel

/-- Where chunk 19 of a trip begins. -/
theorem off20 : ∀ k : Fin k0_t1_loop.trips, k0_off20 k = ![128 * k.val, 128 * 19] := by decide +kernel

/-- Where chunk 20 of a trip begins. -/
theorem off21 : ∀ k : Fin k0_t1_loop.trips, k0_off21 k = ![128 * k.val, 128 * 20] := by decide +kernel

/-- Where chunk 21 of a trip begins. -/
theorem off22 : ∀ k : Fin k0_t1_loop.trips, k0_off22 k = ![128 * k.val, 128 * 21] := by decide +kernel

/-- Where chunk 22 of a trip begins. -/
theorem off23 : ∀ k : Fin k0_t1_loop.trips, k0_off23 k = ![128 * k.val, 128 * 22] := by decide +kernel

/-- Where chunk 23 of a trip begins. -/
theorem off24 : ∀ k : Fin k0_t1_loop.trips, k0_off24 k = ![128 * k.val, 128 * 23] := by decide +kernel

/-- Where chunk 24 of a trip begins. -/
theorem off25 : ∀ k : Fin k0_t1_loop.trips, k0_off25 k = ![128 * k.val, 128 * 24] := by decide +kernel

/-- Where chunk 25 of a trip begins. -/
theorem off26 : ∀ k : Fin k0_t1_loop.trips, k0_off26 k = ![128 * k.val, 128 * 25] := by decide +kernel

/-- Where chunk 26 of a trip begins. -/
theorem off27 : ∀ k : Fin k0_t1_loop.trips, k0_off27 k = ![128 * k.val, 128 * 26] := by decide +kernel

/-- Where chunk 27 of a trip begins. -/
theorem off28 : ∀ k : Fin k0_t1_loop.trips, k0_off28 k = ![128 * k.val, 128 * 27] := by decide +kernel

/-- Where chunk 28 of a trip begins. -/
theorem off29 : ∀ k : Fin k0_t1_loop.trips, k0_off29 k = ![128 * k.val, 128 * 28] := by decide +kernel

/-- Where chunk 29 of a trip begins. -/
theorem off30 : ∀ k : Fin k0_t1_loop.trips, k0_off30 k = ![128 * k.val, 128 * 29] := by decide +kernel

/-- Where chunk 30 of a trip begins. -/
theorem off31 : ∀ k : Fin k0_t1_loop.trips, k0_off31 k = ![128 * k.val, 128 * 30] := by decide +kernel

/-- Where chunk 31 of a trip begins. -/
theorem off32 : ∀ k : Fin k0_t1_loop.trips, k0_off32 k = ![128 * k.val, 128 * 31] := by decide +kernel

/-- Where the scales of a trip begin. -/
theorem off33 : ∀ k : Fin k0_t1_loop.trips, k0_off33 k = ![128 * k.val, 0] := by decide +kernel

variable (a3 : Memref sig .tc .vmem S256x4096 .bf16) (w3 : a3.IsWhole) (a4 : Memref sig .tc .vmem S1x4096 .f32) (w4 : a4.IsWhole)
variable (x : FVec Ideal S256x4096 .bf16) (g : FVec Ideal S1x4096 .f32) (k : Fin k0_t1_loop.trips) (p l : Fin 128)

/-- The token's row that row `p` of trip `k` holds. -/
abbrev xr : Fin 4096 → EReal := fun j => x (ix2 (rowAt k p) j)

/-- The gains of the layer norm. -/
abbrev gr : Fin 4096 → EReal := fun j => g (ix2 0 j)

/-- A load of chunk `c` of the trip's rows. -/
theorem load_x (off : Fin 2 → ℕ) (c : ℕ) (hc : c < 32) (h : off = ![128 * k.val, 128 * c]) (inb) :
    View.readAt (Elt Ideal) a3.view (Rect.unit (s := S256x4096) off S128x128.size inb).toLoadRect (w3.unread x) (ix2 p l)
      = xr x k p (colAt c l) := by
  subst h
  have hk : k.val < 2 := Nat.lt_of_lt_of_le k.isLt k0_t1_abs.2.1
  refine (w3.readAt_unread _ _ _).trans (congrArg x ?_)
  ext a
  fin_cases a
  · show 128 * k.val + 1 * p.val = (128 * k.val + p.val) % 256
    omega
  · show 128 * c + 1 * l.val = (128 * c + l.val) % 4096
    omega

/-- A load of chunk `c` of the gains. -/
theorem load_g (off : Fin 2 → ℕ) (c : ℕ) (hc : c < 32) (h : off = ![0, 128 * c]) (inb) :
    View.readAt (Elt Ideal) a4.view (Rect.unit (s := S1x4096) off S1x128.size inb).toLoadRect (w4.unread g) (ix2 0 l)
      = gr g (colAt c l) := by
  subst h
  refine (w4.readAt_unread _ _ _).trans (congrArg g ?_)
  ext a
  fin_cases a
  · rfl
  · show 128 * c + 1 * l.val = (128 * c + l.val) % 4096
    omega

/-- Chunk 0 of the rows, loaded. -/
theorem load_x1 : View.readAt (Elt Ideal) a3.view (Rect.unit (s := S256x4096) (k0_off1 k) S128x128.size (k0_off1_inb k)).toLoadRect
    (w3.unread x) (ix2 p l) = xr x k p (colAt 0 l) :=
  load_x a3 w3 x k p l _ 0 (by decide) (off1 k) _

/-- Chunk 1 of the rows, loaded. -/
theorem load_x2 : View.readAt (Elt Ideal) a3.view (Rect.unit (s := S256x4096) (k0_off2 k) S128x128.size (k0_off2_inb k)).toLoadRect
    (w3.unread x) (ix2 p l) = xr x k p (colAt 1 l) :=
  load_x a3 w3 x k p l _ 1 (by decide) (off2 k) _

/-- Chunk 2 of the rows, loaded. -/
theorem load_x3 : View.readAt (Elt Ideal) a3.view (Rect.unit (s := S256x4096) (k0_off3 k) S128x128.size (k0_off3_inb k)).toLoadRect
    (w3.unread x) (ix2 p l) = xr x k p (colAt 2 l) :=
  load_x a3 w3 x k p l _ 2 (by decide) (off3 k) _

/-- Chunk 3 of the rows, loaded. -/
theorem load_x4 : View.readAt (Elt Ideal) a3.view (Rect.unit (s := S256x4096) (k0_off4 k) S128x128.size (k0_off4_inb k)).toLoadRect
    (w3.unread x) (ix2 p l) = xr x k p (colAt 3 l) :=
  load_x a3 w3 x k p l _ 3 (by decide) (off4 k) _

/-- Chunk 4 of the rows, loaded. -/
theorem load_x5 : View.readAt (Elt Ideal) a3.view (Rect.unit (s := S256x4096) (k0_off5 k) S128x128.size (k0_off5_inb k)).toLoadRect
    (w3.unread x) (ix2 p l) = xr x k p (colAt 4 l) :=
  load_x a3 w3 x k p l _ 4 (by decide) (off5 k) _

/-- Chunk 5 of the rows, loaded. -/
theorem load_x6 : View.readAt (Elt Ideal) a3.view (Rect.unit (s := S256x4096) (k0_off6 k) S128x128.size (k0_off6_inb k)).toLoadRect
    (w3.unread x) (ix2 p l) = xr x k p (colAt 5 l) :=
  load_x a3 w3 x k p l _ 5 (by decide) (off6 k) _

/-- Chunk 6 of the rows, loaded. -/
theorem load_x7 : View.readAt (Elt Ideal) a3.view (Rect.unit (s := S256x4096) (k0_off7 k) S128x128.size (k0_off7_inb k)).toLoadRect
    (w3.unread x) (ix2 p l) = xr x k p (colAt 6 l) :=
  load_x a3 w3 x k p l _ 6 (by decide) (off7 k) _

/-- Chunk 7 of the rows, loaded. -/
theorem load_x8 : View.readAt (Elt Ideal) a3.view (Rect.unit (s := S256x4096) (k0_off8 k) S128x128.size (k0_off8_inb k)).toLoadRect
    (w3.unread x) (ix2 p l) = xr x k p (colAt 7 l) :=
  load_x a3 w3 x k p l _ 7 (by decide) (off8 k) _

/-- Chunk 8 of the rows, loaded. -/
theorem load_x9 : View.readAt (Elt Ideal) a3.view (Rect.unit (s := S256x4096) (k0_off9 k) S128x128.size (k0_off9_inb k)).toLoadRect
    (w3.unread x) (ix2 p l) = xr x k p (colAt 8 l) :=
  load_x a3 w3 x k p l _ 8 (by decide) (off9 k) _

/-- Chunk 9 of the rows, loaded. -/
theorem load_x10 : View.readAt (Elt Ideal) a3.view (Rect.unit (s := S256x4096) (k0_off10 k) S128x128.size (k0_off10_inb k)).toLoadRect
    (w3.unread x) (ix2 p l) = xr x k p (colAt 9 l) :=
  load_x a3 w3 x k p l _ 9 (by decide) (off10 k) _

/-- Chunk 10 of the rows, loaded. -/
theorem load_x11 : View.readAt (Elt Ideal) a3.view (Rect.unit (s := S256x4096) (k0_off11 k) S128x128.size (k0_off11_inb k)).toLoadRect
    (w3.unread x) (ix2 p l) = xr x k p (colAt 10 l) :=
  load_x a3 w3 x k p l _ 10 (by decide) (off11 k) _

/-- Chunk 11 of the rows, loaded. -/
theorem load_x12 : View.readAt (Elt Ideal) a3.view (Rect.unit (s := S256x4096) (k0_off12 k) S128x128.size (k0_off12_inb k)).toLoadRect
    (w3.unread x) (ix2 p l) = xr x k p (colAt 11 l) :=
  load_x a3 w3 x k p l _ 11 (by decide) (off12 k) _

/-- Chunk 12 of the rows, loaded. -/
theorem load_x13 : View.readAt (Elt Ideal) a3.view (Rect.unit (s := S256x4096) (k0_off13 k) S128x128.size (k0_off13_inb k)).toLoadRect
    (w3.unread x) (ix2 p l) = xr x k p (colAt 12 l) :=
  load_x a3 w3 x k p l _ 12 (by decide) (off13 k) _

/-- Chunk 13 of the rows, loaded. -/
theorem load_x14 : View.readAt (Elt Ideal) a3.view (Rect.unit (s := S256x4096) (k0_off14 k) S128x128.size (k0_off14_inb k)).toLoadRect
    (w3.unread x) (ix2 p l) = xr x k p (colAt 13 l) :=
  load_x a3 w3 x k p l _ 13 (by decide) (off14 k) _

/-- Chunk 14 of the rows, loaded. -/
theorem load_x15 : View.readAt (Elt Ideal) a3.view (Rect.unit (s := S256x4096) (k0_off15 k) S128x128.size (k0_off15_inb k)).toLoadRect
    (w3.unread x) (ix2 p l) = xr x k p (colAt 14 l) :=
  load_x a3 w3 x k p l _ 14 (by decide) (off15 k) _

/-- Chunk 15 of the rows, loaded. -/
theorem load_x16 : View.readAt (Elt Ideal) a3.view (Rect.unit (s := S256x4096) (k0_off16 k) S128x128.size (k0_off16_inb k)).toLoadRect
    (w3.unread x) (ix2 p l) = xr x k p (colAt 15 l) :=
  load_x a3 w3 x k p l _ 15 (by decide) (off16 k) _

/-- Chunk 16 of the rows, loaded. -/
theorem load_x17 : View.readAt (Elt Ideal) a3.view (Rect.unit (s := S256x4096) (k0_off17 k) S128x128.size (k0_off17_inb k)).toLoadRect
    (w3.unread x) (ix2 p l) = xr x k p (colAt 16 l) :=
  load_x a3 w3 x k p l _ 16 (by decide) (off17 k) _

/-- Chunk 17 of the rows, loaded. -/
theorem load_x18 : View.readAt (Elt Ideal) a3.view (Rect.unit (s := S256x4096) (k0_off18 k) S128x128.size (k0_off18_inb k)).toLoadRect
    (w3.unread x) (ix2 p l) = xr x k p (colAt 17 l) :=
  load_x a3 w3 x k p l _ 17 (by decide) (off18 k) _

/-- Chunk 18 of the rows, loaded. -/
theorem load_x19 : View.readAt (Elt Ideal) a3.view (Rect.unit (s := S256x4096) (k0_off19 k) S128x128.size (k0_off19_inb k)).toLoadRect
    (w3.unread x) (ix2 p l) = xr x k p (colAt 18 l) :=
  load_x a3 w3 x k p l _ 18 (by decide) (off19 k) _

/-- Chunk 19 of the rows, loaded. -/
theorem load_x20 : View.readAt (Elt Ideal) a3.view (Rect.unit (s := S256x4096) (k0_off20 k) S128x128.size (k0_off20_inb k)).toLoadRect
    (w3.unread x) (ix2 p l) = xr x k p (colAt 19 l) :=
  load_x a3 w3 x k p l _ 19 (by decide) (off20 k) _

/-- Chunk 20 of the rows, loaded. -/
theorem load_x21 : View.readAt (Elt Ideal) a3.view (Rect.unit (s := S256x4096) (k0_off21 k) S128x128.size (k0_off21_inb k)).toLoadRect
    (w3.unread x) (ix2 p l) = xr x k p (colAt 20 l) :=
  load_x a3 w3 x k p l _ 20 (by decide) (off21 k) _

/-- Chunk 21 of the rows, loaded. -/
theorem load_x22 : View.readAt (Elt Ideal) a3.view (Rect.unit (s := S256x4096) (k0_off22 k) S128x128.size (k0_off22_inb k)).toLoadRect
    (w3.unread x) (ix2 p l) = xr x k p (colAt 21 l) :=
  load_x a3 w3 x k p l _ 21 (by decide) (off22 k) _

/-- Chunk 22 of the rows, loaded. -/
theorem load_x23 : View.readAt (Elt Ideal) a3.view (Rect.unit (s := S256x4096) (k0_off23 k) S128x128.size (k0_off23_inb k)).toLoadRect
    (w3.unread x) (ix2 p l) = xr x k p (colAt 22 l) :=
  load_x a3 w3 x k p l _ 22 (by decide) (off23 k) _

/-- Chunk 23 of the rows, loaded. -/
theorem load_x24 : View.readAt (Elt Ideal) a3.view (Rect.unit (s := S256x4096) (k0_off24 k) S128x128.size (k0_off24_inb k)).toLoadRect
    (w3.unread x) (ix2 p l) = xr x k p (colAt 23 l) :=
  load_x a3 w3 x k p l _ 23 (by decide) (off24 k) _

/-- Chunk 24 of the rows, loaded. -/
theorem load_x25 : View.readAt (Elt Ideal) a3.view (Rect.unit (s := S256x4096) (k0_off25 k) S128x128.size (k0_off25_inb k)).toLoadRect
    (w3.unread x) (ix2 p l) = xr x k p (colAt 24 l) :=
  load_x a3 w3 x k p l _ 24 (by decide) (off25 k) _

/-- Chunk 25 of the rows, loaded. -/
theorem load_x26 : View.readAt (Elt Ideal) a3.view (Rect.unit (s := S256x4096) (k0_off26 k) S128x128.size (k0_off26_inb k)).toLoadRect
    (w3.unread x) (ix2 p l) = xr x k p (colAt 25 l) :=
  load_x a3 w3 x k p l _ 25 (by decide) (off26 k) _

/-- Chunk 26 of the rows, loaded. -/
theorem load_x27 : View.readAt (Elt Ideal) a3.view (Rect.unit (s := S256x4096) (k0_off27 k) S128x128.size (k0_off27_inb k)).toLoadRect
    (w3.unread x) (ix2 p l) = xr x k p (colAt 26 l) :=
  load_x a3 w3 x k p l _ 26 (by decide) (off27 k) _

/-- Chunk 27 of the rows, loaded. -/
theorem load_x28 : View.readAt (Elt Ideal) a3.view (Rect.unit (s := S256x4096) (k0_off28 k) S128x128.size (k0_off28_inb k)).toLoadRect
    (w3.unread x) (ix2 p l) = xr x k p (colAt 27 l) :=
  load_x a3 w3 x k p l _ 27 (by decide) (off28 k) _

/-- Chunk 28 of the rows, loaded. -/
theorem load_x29 : View.readAt (Elt Ideal) a3.view (Rect.unit (s := S256x4096) (k0_off29 k) S128x128.size (k0_off29_inb k)).toLoadRect
    (w3.unread x) (ix2 p l) = xr x k p (colAt 28 l) :=
  load_x a3 w3 x k p l _ 28 (by decide) (off29 k) _

/-- Chunk 29 of the rows, loaded. -/
theorem load_x30 : View.readAt (Elt Ideal) a3.view (Rect.unit (s := S256x4096) (k0_off30 k) S128x128.size (k0_off30_inb k)).toLoadRect
    (w3.unread x) (ix2 p l) = xr x k p (colAt 29 l) :=
  load_x a3 w3 x k p l _ 29 (by decide) (off30 k) _

/-- Chunk 30 of the rows, loaded. -/
theorem load_x31 : View.readAt (Elt Ideal) a3.view (Rect.unit (s := S256x4096) (k0_off31 k) S128x128.size (k0_off31_inb k)).toLoadRect
    (w3.unread x) (ix2 p l) = xr x k p (colAt 30 l) :=
  load_x a3 w3 x k p l _ 30 (by decide) (off31 k) _

/-- Chunk 31 of the rows, loaded. -/
theorem load_x32 : View.readAt (Elt Ideal) a3.view (Rect.unit (s := S256x4096) (k0_off32 k) S128x128.size (k0_off32_inb k)).toLoadRect
    (w3.unread x) (ix2 p l) = xr x k p (colAt 31 l) :=
  load_x a3 w3 x k p l _ 31 (by decide) (off32 k) _

/-- Chunk 0 of the gains, loaded. -/
theorem load_g1 : View.readAt (Elt Ideal) a4.view (Rect.unit (s := S1x4096) ![0, 0] S1x128.size inb_S1x4096_S1x128_0_0).toLoadRect
    (w4.unread g) (ix2 0 l) = gr g (colAt 0 l) :=
  load_g a4 w4 g l _ 0 (by decide) rfl _

/-- Chunk 1 of the gains, loaded. -/
theorem load_g2 : View.readAt (Elt Ideal) a4.view (Rect.unit (s := S1x4096) ![0, 128] S1x128.size inb_S1x4096_S1x128_0_128).toLoadRect
    (w4.unread g) (ix2 0 l) = gr g (colAt 1 l) :=
  load_g a4 w4 g l _ 1 (by decide) rfl _

/-- Chunk 2 of the gains, loaded. -/
theorem load_g3 : View.readAt (Elt Ideal) a4.view (Rect.unit (s := S1x4096) ![0, 256] S1x128.size inb_S1x4096_S1x128_0_256).toLoadRect
    (w4.unread g) (ix2 0 l) = gr g (colAt 2 l) :=
  load_g a4 w4 g l _ 2 (by decide) rfl _

/-- Chunk 3 of the gains, loaded. -/
theorem load_g4 : View.readAt (Elt Ideal) a4.view (Rect.unit (s := S1x4096) ![0, 384] S1x128.size inb_S1x4096_S1x128_0_384).toLoadRect
    (w4.unread g) (ix2 0 l) = gr g (colAt 3 l) :=
  load_g a4 w4 g l _ 3 (by decide) rfl _

/-- Chunk 4 of the gains, loaded. -/
theorem load_g5 : View.readAt (Elt Ideal) a4.view (Rect.unit (s := S1x4096) ![0, 512] S1x128.size inb_S1x4096_S1x128_0_512).toLoadRect
    (w4.unread g) (ix2 0 l) = gr g (colAt 4 l) :=
  load_g a4 w4 g l _ 4 (by decide) rfl _

/-- Chunk 5 of the gains, loaded. -/
theorem load_g6 : View.readAt (Elt Ideal) a4.view (Rect.unit (s := S1x4096) ![0, 640] S1x128.size inb_S1x4096_S1x128_0_640).toLoadRect
    (w4.unread g) (ix2 0 l) = gr g (colAt 5 l) :=
  load_g a4 w4 g l _ 5 (by decide) rfl _

/-- Chunk 6 of the gains, loaded. -/
theorem load_g7 : View.readAt (Elt Ideal) a4.view (Rect.unit (s := S1x4096) ![0, 768] S1x128.size inb_S1x4096_S1x128_0_768).toLoadRect
    (w4.unread g) (ix2 0 l) = gr g (colAt 6 l) :=
  load_g a4 w4 g l _ 6 (by decide) rfl _

/-- Chunk 7 of the gains, loaded. -/
theorem load_g8 : View.readAt (Elt Ideal) a4.view (Rect.unit (s := S1x4096) ![0, 896] S1x128.size inb_S1x4096_S1x128_0_896).toLoadRect
    (w4.unread g) (ix2 0 l) = gr g (colAt 7 l) :=
  load_g a4 w4 g l _ 7 (by decide) rfl _

/-- Chunk 8 of the gains, loaded. -/
theorem load_g9 : View.readAt (Elt Ideal) a4.view (Rect.unit (s := S1x4096) ![0, 1024] S1x128.size inb_S1x4096_S1x128_0_1024).toLoadRect
    (w4.unread g) (ix2 0 l) = gr g (colAt 8 l) :=
  load_g a4 w4 g l _ 8 (by decide) rfl _

/-- Chunk 9 of the gains, loaded. -/
theorem load_g10 : View.readAt (Elt Ideal) a4.view (Rect.unit (s := S1x4096) ![0, 1152] S1x128.size inb_S1x4096_S1x128_0_1152).toLoadRect
    (w4.unread g) (ix2 0 l) = gr g (colAt 9 l) :=
  load_g a4 w4 g l _ 9 (by decide) rfl _

/-- Chunk 10 of the gains, loaded. -/
theorem load_g11 : View.readAt (Elt Ideal) a4.view (Rect.unit (s := S1x4096) ![0, 1280] S1x128.size inb_S1x4096_S1x128_0_1280).toLoadRect
    (w4.unread g) (ix2 0 l) = gr g (colAt 10 l) :=
  load_g a4 w4 g l _ 10 (by decide) rfl _

/-- Chunk 11 of the gains, loaded. -/
theorem load_g12 : View.readAt (Elt Ideal) a4.view (Rect.unit (s := S1x4096) ![0, 1408] S1x128.size inb_S1x4096_S1x128_0_1408).toLoadRect
    (w4.unread g) (ix2 0 l) = gr g (colAt 11 l) :=
  load_g a4 w4 g l _ 11 (by decide) rfl _

/-- Chunk 12 of the gains, loaded. -/
theorem load_g13 : View.readAt (Elt Ideal) a4.view (Rect.unit (s := S1x4096) ![0, 1536] S1x128.size inb_S1x4096_S1x128_0_1536).toLoadRect
    (w4.unread g) (ix2 0 l) = gr g (colAt 12 l) :=
  load_g a4 w4 g l _ 12 (by decide) rfl _

/-- Chunk 13 of the gains, loaded. -/
theorem load_g14 : View.readAt (Elt Ideal) a4.view (Rect.unit (s := S1x4096) ![0, 1664] S1x128.size inb_S1x4096_S1x128_0_1664).toLoadRect
    (w4.unread g) (ix2 0 l) = gr g (colAt 13 l) :=
  load_g a4 w4 g l _ 13 (by decide) rfl _

/-- Chunk 14 of the gains, loaded. -/
theorem load_g15 : View.readAt (Elt Ideal) a4.view (Rect.unit (s := S1x4096) ![0, 1792] S1x128.size inb_S1x4096_S1x128_0_1792).toLoadRect
    (w4.unread g) (ix2 0 l) = gr g (colAt 14 l) :=
  load_g a4 w4 g l _ 14 (by decide) rfl _

/-- Chunk 15 of the gains, loaded. -/
theorem load_g16 : View.readAt (Elt Ideal) a4.view (Rect.unit (s := S1x4096) ![0, 1920] S1x128.size inb_S1x4096_S1x128_0_1920).toLoadRect
    (w4.unread g) (ix2 0 l) = gr g (colAt 15 l) :=
  load_g a4 w4 g l _ 15 (by decide) rfl _

/-- Chunk 16 of the gains, loaded. -/
theorem load_g17 : View.readAt (Elt Ideal) a4.view (Rect.unit (s := S1x4096) ![0, 2048] S1x128.size inb_S1x4096_S1x128_0_2048).toLoadRect
    (w4.unread g) (ix2 0 l) = gr g (colAt 16 l) :=
  load_g a4 w4 g l _ 16 (by decide) rfl _

/-- Chunk 17 of the gains, loaded. -/
theorem load_g18 : View.readAt (Elt Ideal) a4.view (Rect.unit (s := S1x4096) ![0, 2176] S1x128.size inb_S1x4096_S1x128_0_2176).toLoadRect
    (w4.unread g) (ix2 0 l) = gr g (colAt 17 l) :=
  load_g a4 w4 g l _ 17 (by decide) rfl _

/-- Chunk 18 of the gains, loaded. -/
theorem load_g19 : View.readAt (Elt Ideal) a4.view (Rect.unit (s := S1x4096) ![0, 2304] S1x128.size inb_S1x4096_S1x128_0_2304).toLoadRect
    (w4.unread g) (ix2 0 l) = gr g (colAt 18 l) :=
  load_g a4 w4 g l _ 18 (by decide) rfl _

/-- Chunk 19 of the gains, loaded. -/
theorem load_g20 : View.readAt (Elt Ideal) a4.view (Rect.unit (s := S1x4096) ![0, 2432] S1x128.size inb_S1x4096_S1x128_0_2432).toLoadRect
    (w4.unread g) (ix2 0 l) = gr g (colAt 19 l) :=
  load_g a4 w4 g l _ 19 (by decide) rfl _

/-- Chunk 20 of the gains, loaded. -/
theorem load_g21 : View.readAt (Elt Ideal) a4.view (Rect.unit (s := S1x4096) ![0, 2560] S1x128.size inb_S1x4096_S1x128_0_2560).toLoadRect
    (w4.unread g) (ix2 0 l) = gr g (colAt 20 l) :=
  load_g a4 w4 g l _ 20 (by decide) rfl _

/-- Chunk 21 of the gains, loaded. -/
theorem load_g22 : View.readAt (Elt Ideal) a4.view (Rect.unit (s := S1x4096) ![0, 2688] S1x128.size inb_S1x4096_S1x128_0_2688).toLoadRect
    (w4.unread g) (ix2 0 l) = gr g (colAt 21 l) :=
  load_g a4 w4 g l _ 21 (by decide) rfl _

/-- Chunk 22 of the gains, loaded. -/
theorem load_g23 : View.readAt (Elt Ideal) a4.view (Rect.unit (s := S1x4096) ![0, 2816] S1x128.size inb_S1x4096_S1x128_0_2816).toLoadRect
    (w4.unread g) (ix2 0 l) = gr g (colAt 22 l) :=
  load_g a4 w4 g l _ 22 (by decide) rfl _

/-- Chunk 23 of the gains, loaded. -/
theorem load_g24 : View.readAt (Elt Ideal) a4.view (Rect.unit (s := S1x4096) ![0, 2944] S1x128.size inb_S1x4096_S1x128_0_2944).toLoadRect
    (w4.unread g) (ix2 0 l) = gr g (colAt 23 l) :=
  load_g a4 w4 g l _ 23 (by decide) rfl _

/-- Chunk 24 of the gains, loaded. -/
theorem load_g25 : View.readAt (Elt Ideal) a4.view (Rect.unit (s := S1x4096) ![0, 3072] S1x128.size inb_S1x4096_S1x128_0_3072).toLoadRect
    (w4.unread g) (ix2 0 l) = gr g (colAt 24 l) :=
  load_g a4 w4 g l _ 24 (by decide) rfl _

/-- Chunk 25 of the gains, loaded. -/
theorem load_g26 : View.readAt (Elt Ideal) a4.view (Rect.unit (s := S1x4096) ![0, 3200] S1x128.size inb_S1x4096_S1x128_0_3200).toLoadRect
    (w4.unread g) (ix2 0 l) = gr g (colAt 25 l) :=
  load_g a4 w4 g l _ 25 (by decide) rfl _

/-- Chunk 26 of the gains, loaded. -/
theorem load_g27 : View.readAt (Elt Ideal) a4.view (Rect.unit (s := S1x4096) ![0, 3328] S1x128.size inb_S1x4096_S1x128_0_3328).toLoadRect
    (w4.unread g) (ix2 0 l) = gr g (colAt 26 l) :=
  load_g a4 w4 g l _ 26 (by decide) rfl _

/-- Chunk 27 of the gains, loaded. -/
theorem load_g28 : View.readAt (Elt Ideal) a4.view (Rect.unit (s := S1x4096) ![0, 3456] S1x128.size inb_S1x4096_S1x128_0_3456).toLoadRect
    (w4.unread g) (ix2 0 l) = gr g (colAt 27 l) :=
  load_g a4 w4 g l _ 27 (by decide) rfl _

/-- Chunk 28 of the gains, loaded. -/
theorem load_g29 : View.readAt (Elt Ideal) a4.view (Rect.unit (s := S1x4096) ![0, 3584] S1x128.size inb_S1x4096_S1x128_0_3584).toLoadRect
    (w4.unread g) (ix2 0 l) = gr g (colAt 28 l) :=
  load_g a4 w4 g l _ 28 (by decide) rfl _

/-- Chunk 29 of the gains, loaded. -/
theorem load_g30 : View.readAt (Elt Ideal) a4.view (Rect.unit (s := S1x4096) ![0, 3712] S1x128.size inb_S1x4096_S1x128_0_3712).toLoadRect
    (w4.unread g) (ix2 0 l) = gr g (colAt 29 l) :=
  load_g a4 w4 g l _ 29 (by decide) rfl _

/-- Chunk 30 of the gains, loaded. -/
theorem load_g31 : View.readAt (Elt Ideal) a4.view (Rect.unit (s := S1x4096) ![0, 3840] S1x128.size inb_S1x4096_S1x128_0_3840).toLoadRect
    (w4.unread g) (ix2 0 l) = gr g (colAt 30 l) :=
  load_g a4 w4 g l _ 30 (by decide) rfl _

/-- Chunk 31 of the gains, loaded. -/
theorem load_g32 : View.readAt (Elt Ideal) a4.view (Rect.unit (s := S1x4096) ![0, 3968] S1x128.size inb_S1x4096_S1x128_0_3968).toLoadRect
    (w4.unread g) (ix2 0 l) = gr g (colAt 31 l) :=
  load_g a4 w4 g l _ 31 (by decide) rfl _

end Cert.QkvIdeal.Blocks
end
-- ==== Proof.QkvStages.lean ====
module

public import proofs.«01_k».proof.Proof.Gen.QkvIdeal.Value
public import Idealize.ShloMosaic.Lib.Pipeline.ValueKit
public import Idealize.ShloMosaic.Lib.Pipeline.ReadBack
public import proofs.«01_k».proof.Proof.QkvLoads

@[expose] public section

set_option maxRecDepth 16384

noncomputable section

namespace Cert.QkvIdeal.Blocks

open Cert.QkvIdeal Cert.QkvIdeal.Gen Idealize.ShloMosaic Idealize.ShloMosaic.TcCoe Idealize.SL.Sem
open Idealize.ShloMosaic.Pipeline (Dat)
open Cert.GateUpIdeal.Blocks (abs' abs'_nonneg scaleOf)

variable (p l : Fin 128)

/-! ## The stages of a trip, read at an element -/

/-- Stage 2 of a trip at an element. -/
theorem pay2_at (v834 v837 v841 v845 v849 v853 v857 v861 v865 v869 v873 : Vec Ideal S128x128 .bf16) :
    k0_pay2 (F := Ideal) v834 v837 v841 v845 v849 v853 v857 v861 v865 v869 v873 (ix2 p l) = (((((((((((v834 (ix2 p l) + v837 (ix2 p l)) + v841 (ix2 p l)) + v845 (ix2 p l)) + v849 (ix2 p l)) + v853 (ix2 p l)) + v857 (ix2 p l)) + v861 (ix2 p l)) + v865 (ix2 p l)) + v869 (ix2 p l)) + v873 (ix2 p l)) : EReal) := rfl

/-- Stage 3 of a trip at an element. -/
theorem pay3_at (v875 : FVec Ideal S128x128 .f32) (v877 v881 v885 v889 v893 v897 v901 v905 v909 v913 v917 v921 : Vec Ideal S128x128 .bf16) :
    k0_pay3 (F := Ideal) v875 v877 v881 v885 v889 v893 v897 v901 v905 v909 v913 v917 v921 (ix2 p l) = (((((((((((((v875 (ix2 p l) + v877 (ix2 p l)) + v881 (ix2 p l)) + v885 (ix2 p l)) + v889 (ix2 p l)) + v893 (ix2 p l)) + v897 (ix2 p l)) + v901 (ix2 p l)) + v905 (ix2 p l)) + v909 (ix2 p l)) + v913 (ix2 p l)) + v917 (ix2 p l)) + v921 (ix2 p l)) : EReal) := rfl

/-- Stage 4 of a trip at an element. -/
theorem pay4_at (v : FVec Ideal S128x128 .f32) (u1 u2 u3 u4 u5 u6 u7 u8 u9 : Vec Ideal S128x128 .bf16) :
    k0_pay4 (F := Ideal) v u1 u2 u3 u4 u5 u6 u7 u8 u9 (ix2 p l)
      = Ideal.div (∑ l, (v (ix2 p l) + u1 (ix2 p l) + u2 (ix2 p l) + u3 (ix2 p l) + u4 (ix2 p l) + u5 (ix2 p l) + u6 (ix2 p l)
          + u7 (ix2 p l) + u8 (ix2 p l) + u9 (ix2 p l))) cols := by
  unfold_payloads
  pointwise
  rfl

/-- Stage 5 of a trip at an element. -/
theorem pay5_at (v923 : FVec Ideal S128x128 .f32) (v925 v929 v933 v937 v941 v945 v949 v953 v957 v969 : Vec Ideal S128x128 .bf16) :
    k0_pay5 (F := Ideal) v923 v925 v929 v933 v937 v941 v945 v949 v953 v957 v969 (ix2 p l) = ((v969 (ix2 p l) - k0_pay4 v923 v925 v929 v933 v937 v941 v945 v949 v953 v957 (ix2 p l)) : EReal) := rfl

/-- Stage 6 of a trip at an element. -/
theorem pay6_at (v967 v971 : FVec Ideal S128x128 .f32) (v973 v978 v982 v988 v992 v998 v1002 v1008 v1012 : Vec Ideal S128x128 .bf16) :
    k0_pay6 (F := Ideal) v967 v971 v973 v978 v982 v988 v992 v998 v1002 v1008 v1012 (ix2 p l) = ((((((v971 (ix2 p l) * (v973 (ix2 p l) - v967 (ix2 p l))) + ((v978 (ix2 p l) - v967 (ix2 p l)) * (v982 (ix2 p l) - v967 (ix2 p l)))) + ((v988 (ix2 p l) - v967 (ix2 p l)) * (v992 (ix2 p l) - v967 (ix2 p l)))) + ((v998 (ix2 p l) - v967 (ix2 p l)) * (v1002 (ix2 p l) - v967 (ix2 p l)))) + ((v1008 (ix2 p l) - v967 (ix2 p l)) * (v1012 (ix2 p l) - v967 (ix2 p l)))) : EReal) := rfl

/-- Stage 7 of a trip at an element. -/
theorem pay7_at (v967 : FVec Ideal S128x128 .f32) (v1018 : Vec Ideal S128x128 .bf16) :
    k0_pay7 (F := Ideal) v967 v1018 (ix2 p l) = ((v1018 (ix2 p l) - v967 (ix2 p l)) : EReal) := rfl

/-- Stage 8 of a trip at an element. -/
theorem pay8_at (v1022 : Vec Ideal S128x128 .bf16) :
    k0_pay8 (F := Ideal) v1022 (ix2 p l) = (v1022 (ix2 p l) : EReal) := rfl

/-- Stage 9 of a trip at an element. -/
theorem pay9_at (v967 v1016 v1020 v1023 : FVec Ideal S128x128 .f32) (v1028 v1032 v1038 v1042 v1048 v1052 v1058 v1062 : Vec Ideal S128x128 .bf16) :
    k0_pay9 (F := Ideal) v967 v1016 v1020 v1023 v1028 v1032 v1038 v1042 v1048 v1052 v1058 v1062 (ix2 p l) = ((((((v1016 (ix2 p l) + (v1020 (ix2 p l) * (v1023 (ix2 p l) - v967 (ix2 p l)))) + ((v1028 (ix2 p l) - v967 (ix2 p l)) * (v1032 (ix2 p l) - v967 (ix2 p l)))) + ((v1038 (ix2 p l) - v967 (ix2 p l)) * (v1042 (ix2 p l) - v967 (ix2 p l)))) + ((v1048 (ix2 p l) - v967 (ix2 p l)) * (v1052 (ix2 p l) - v967 (ix2 p l)))) + ((v1058 (ix2 p l) - v967 (ix2 p l)) * (v1062 (ix2 p l) - v967 (ix2 p l)))) : EReal) := rfl

/-- Stage 10 of a trip at an element. -/
theorem pay10_at (v967 : FVec Ideal S128x128 .f32) (v1068 : Vec Ideal S128x128 .bf16) :
    k0_pay10 (F := Ideal) v967 v1068 (ix2 p l) = ((v1068 (ix2 p l) - v967 (ix2 p l)) : EReal) := rfl

/-- Stage 11 of a trip at an element. -/
theorem pay11_at (v1072 : Vec Ideal S128x128 .bf16) :
    k0_pay11 (F := Ideal) v1072 (ix2 p l) = (v1072 (ix2 p l) : EReal) := rfl

/-- Stage 12 of a trip at an element. -/
theorem pay12_at (v967 v1066 v1070 v1073 : FVec Ideal S128x128 .f32) (v1078 v1082 v1088 v1092 v1098 v1102 v1108 v1112 : Vec Ideal S128x128 .bf16) :
    k0_pay12 (F := Ideal) v967 v1066 v1070 v1073 v1078 v1082 v1088 v1092 v1098 v1102 v1108 v1112 (ix2 p l) = ((((((v1066 (ix2 p l) + (v1070 (ix2 p l) * (v1073 (ix2 p l) - v967 (ix2 p l)))) + ((v1078 (ix2 p l) - v967 (ix2 p l)) * (v1082 (ix2 p l) - v967 (ix2 p l)))) + ((v1088 (ix2 p l) - v967 (ix2 p l)) * (v1092 (ix2 p l) - v967 (ix2 p l)))) + ((v1098 (ix2 p l) - v967 (ix2 p l)) * (v1102 (ix2 p l) - v967 (ix2 p l)))) + ((v1108 (ix2 p l) - v967 (ix2 p l)) * (v1112 (ix2 p l) - v967 (ix2 p l)))) : EReal) := rfl

/-- Stage 13 of a trip at an element. -/
theorem pay13_at (v967 : FVec Ideal S128x128 .f32) (v1118 : Vec Ideal S128x128 .bf16) :
    k0_pay13 (F := Ideal) v967 v1118 (ix2 p l) = ((v1118 (ix2 p l) - v967 (ix2 p l)) : EReal) := rfl

/-- Stage 14 of a trip at an element. -/
theorem pay14_at (v1122 : Vec Ideal S128x128 .bf16) :
    k0_pay14 (F := Ideal) v1122 (ix2 p l) = (v1122 (ix2 p l) : EReal) := rfl

/-- Stage 15 of a trip at an element. -/
theorem pay15_at (v967 v1116 v1120 v1123 : FVec Ideal S128x128 .f32) (v1128 v1132 v1138 v1142 v1148 v1152 v1158 v1162 : Vec Ideal S128x128 .bf16) :
    k0_pay15 (F := Ideal) v967 v1116 v1120 v1123 v1128 v1132 v1138 v1142 v1148 v1152 v1158 v1162 (ix2 p l) = ((((((v1116 (ix2 p l) + (v1120 (ix2 p l) * (v1123 (ix2 p l) - v967 (ix2 p l)))) + ((v1128 (ix2 p l) - v967 (ix2 p l)) * (v1132 (ix2 p l) - v967 (ix2 p l)))) + ((v1138 (ix2 p l) - v967 (ix2 p l)) * (v1142 (ix2 p l) - v967 (ix2 p l)))) + ((v1148 (ix2 p l) - v967 (ix2 p l)) * (v1152 (ix2 p l) - v967 (ix2 p l)))) + ((v1158 (ix2 p l) - v967 (ix2 p l)) * (v1162 (ix2 p l) - v967 (ix2 p l)))) : EReal) := rfl

/-- Stage 16 of a trip at an element. -/
theorem pay16_at (v967 : FVec Ideal S128x128 .f32) (v1168 : Vec Ideal S128x128 .bf16) :
    k0_pay16 (F := Ideal) v967 v1168 (ix2 p l) = ((v1168 (ix2 p l) - v967 (ix2 p l)) : EReal) := rfl

/-- Stage 17 of a trip at an element. -/
theorem pay17_at (v1172 : Vec Ideal S128x128 .bf16) :
    k0_pay17 (F := Ideal) v1172 (ix2 p l) = (v1172 (ix2 p l) : EReal) := rfl

/-- Stage 18 of a trip at an element. -/
theorem pay18_at (v967 v1166 v1170 v1173 : FVec Ideal S128x128 .f32) (v1178 v1182 v1188 v1192 v1198 v1202 v1208 v1212 : Vec Ideal S128x128 .bf16) :
    k0_pay18 (F := Ideal) v967 v1166 v1170 v1173 v1178 v1182 v1188 v1192 v1198 v1202 v1208 v1212 (ix2 p l) = ((((((v1166 (ix2 p l) + (v1170 (ix2 p l) * (v1173 (ix2 p l) - v967 (ix2 p l)))) + ((v1178 (ix2 p l) - v967 (ix2 p l)) * (v1182 (ix2 p l) - v967 (ix2 p l)))) + ((v1188 (ix2 p l) - v967 (ix2 p l)) * (v1192 (ix2 p l) - v967 (ix2 p l)))) + ((v1198 (ix2 p l) - v967 (ix2 p l)) * (v1202 (ix2 p l) - v967 (ix2 p l)))) + ((v1208 (ix2 p l) - v967 (ix2 p l)) * (v1212 (ix2 p l) - v967 (ix2 p l)))) : EReal) := rfl

/-- Stage 19 of a trip at an element. -/
theorem pay19_at (v967 : FVec Ideal S128x128 .f32) (v1218 : Vec Ideal S128x128 .bf16) :
    k0_pay19 (F := Ideal) v967 v1218 (ix2 p l) = ((v1218 (ix2 p l) - v967 (ix2 p l)) : EReal) := rfl

/-- Stage 20 of a trip at an element. -/
theorem pay20_at (v1222 : Vec Ideal S128x128 .bf16) :
    k0_pay20 (F := Ideal) v1222 (ix2 p l) = (v1222 (ix2 p l) : EReal) := rfl

/-- Stage 21 of a trip at an element. -/
theorem pay21_at (v967 v1216 v1220 v1223 : FVec Ideal S128x128 .f32) (v1228 v1232 v1238 v1242 v1248 v1252 v1258 v1262 : Vec Ideal S128x128 .bf16) :
    k0_pay21 (F := Ideal) v967 v1216 v1220 v1223 v1228 v1232 v1238 v1242 v1248 v1252 v1258 v1262 (ix2 p l) = ((((((v1216 (ix2 p l) + (v1220 (ix2 p l) * (v1223 (ix2 p l) - v967 (ix2 p l)))) + ((v1228 (ix2 p l) - v967 (ix2 p l)) * (v1232 (ix2 p l) - v967 (ix2 p l)))) + ((v1238 (ix2 p l) - v967 (ix2 p l)) * (v1242 (ix2 p l) - v967 (ix2 p l)))) + ((v1248 (ix2 p l) - v967 (ix2 p l)) * (v1252 (ix2 p l) - v967 (ix2 p l)))) + ((v1258 (ix2 p l) - v967 (ix2 p l)) * (v1262 (ix2 p l) - v967 (ix2 p l)))) : EReal) := rfl

/-- Stage 22 of a trip at an element. -/
theorem pay22_at (v967 : FVec Ideal S128x128 .f32) (v1268 : Vec Ideal S128x128 .bf16) :
    k0_pay22 (F := Ideal) v967 v1268 (ix2 p l) = ((v1268 (ix2 p l) - v967 (ix2 p l)) : EReal) := rfl

/-- Stage 23 of a trip at an element. -/
theorem pay23_at (v1272 : Vec Ideal S128x128 .bf16) :
    k0_pay23 (F := Ideal) v1272 (ix2 p l) = (v1272 (ix2 p l) : EReal) := rfl

/-- Stage 24 of a trip at an element. -/
theorem pay24_at (m v u1 u2 : FVec Ideal S128x128 .f32) (u3 u4 : Vec Ideal S128x128 .bf16) :
    k0_pay24 (F := Ideal) m v u1 u2 u3 u4 (ix2 p l)
      = Ideal.sqrt (Ideal.div (∑ l, (v (ix2 p l) + u1 (ix2 p l) * (u2 (ix2 p l) - m (ix2 p l))
          + (u3 (ix2 p l) - m (ix2 p l)) * (u4 (ix2 p l) - m (ix2 p l)))) cols + eps) := by
  unfold_payloads
  pointwise
  rfl

/-- Stage 25 of a trip at an element. -/
theorem pay25_at (v967 v1266 v1270 v1273 : FVec Ideal S128x128 .f32) (v1278 v1282 v1299 v1309 : Vec Ideal S128x128 .bf16) (v1303 v1313 : Vec Ideal S1x128 .f32) :
    k0_pay25 (F := Ideal) v967 v1266 v1270 v1273 v1278 v1282 v1299 v1303 v1309 v1313 (ix2 p l) = ((max ((abs' (((Ideal.div ((v1299 (ix2 p l) - v967 (ix2 p l))) (k0_pay24 v967 v1266 v1270 v1273 v1278 v1282 (ix2 p l))) * v1303 (ix2 0 l))))) ((abs' (((Ideal.div ((v1309 (ix2 p l) - v967 (ix2 p l))) (k0_pay24 v967 v1266 v1270 v1273 v1278 v1282 (ix2 p l))) * v1313 (ix2 0 l)))))) : EReal) := by
  unfold k0_pay25
  pointwise <;> rfl

/-- Stage 26 of a trip at an element. -/
theorem pay26_at (v1320 : Vec Ideal S128x128 .bf16) :
    k0_pay26 (F := Ideal) v1320 (ix2 p l) = (v1320 (ix2 p l) : EReal) := rfl

/-- Stage 27 of a trip at an element. -/
theorem pay27_at (v967 v1297 v1318 v1321 : FVec Ideal S128x128 .f32) (v1324 v1335 v1346 v1357 : Vec Ideal S1x128 .f32) (v1331 v1342 v1353 : Vec Ideal S128x128 .bf16) :
    k0_pay27 (F := Ideal) v967 v1297 v1318 v1321 v1324 v1331 v1335 v1342 v1346 v1353 v1357 (ix2 p l) = ((max ((max ((max ((max (v1318 (ix2 p l)) ((abs' (((Ideal.div ((v1321 (ix2 p l) - v967 (ix2 p l))) (v1297 (ix2 p l))) * v1324 (ix2 0 l))))))) ((abs' (((Ideal.div ((v1331 (ix2 p l) - v967 (ix2 p l))) (v1297 (ix2 p l))) * v1335 (ix2 0 l))))))) ((abs' (((Ideal.div ((v1342 (ix2 p l) - v967 (ix2 p l))) (v1297 (ix2 p l))) * v1346 (ix2 0 l))))))) ((abs' (((Ideal.div ((v1353 (ix2 p l) - v967 (ix2 p l))) (v1297 (ix2 p l))) * v1357 (ix2 0 l)))))) : EReal) := by
  unfold k0_pay27
  pointwise <;> rfl

/-- Stage 28 of a trip at an element. -/
theorem pay28_at (v967 v1297 : FVec Ideal S128x128 .f32) (v1364 : Vec Ideal S128x128 .bf16) :
    k0_pay28 (F := Ideal) v967 v1297 v1364 (ix2 p l) = ((Ideal.div ((v1364 (ix2 p l) - v967 (ix2 p l))) (v1297 (ix2 p l))) : EReal) := rfl

/-- Stage 29 of a trip at an element. -/
theorem pay29_at (v967 v1297 v1362 v1367 : FVec Ideal S128x128 .f32) (v1368 v1379 v1390 v1401 : Vec Ideal S1x128 .f32) (v1375 v1386 v1397 : Vec Ideal S128x128 .bf16) :
    k0_pay29 (F := Ideal) v967 v1297 v1362 v1367 v1368 v1375 v1379 v1386 v1390 v1397 v1401 (ix2 p l) = ((max ((max ((max ((max (v1362 (ix2 p l)) ((abs' ((v1367 (ix2 p l) * v1368 (ix2 0 l))))))) ((abs' (((Ideal.div ((v1375 (ix2 p l) - v967 (ix2 p l))) (v1297 (ix2 p l))) * v1379 (ix2 0 l))))))) ((abs' (((Ideal.div ((v1386 (ix2 p l) - v967 (ix2 p l))) (v1297 (ix2 p l))) * v1390 (ix2 0 l))))))) ((abs' (((Ideal.div ((v1397 (ix2 p l) - v967 (ix2 p l))) (v1297 (ix2 p l))) * v1401 (ix2 0 l)))))) : EReal) := by
  unfold k0_pay29
  pointwise <;> rfl

/-- Stage 30 of a trip at an element. -/
theorem pay30_at (v967 v1297 : FVec Ideal S128x128 .f32) (v1408 : Vec Ideal S128x128 .bf16) (v1412 : Vec Ideal S1x128 .f32) :
    k0_pay30 (F := Ideal) v967 v1297 v1408 v1412 (ix2 p l) = (((Ideal.div ((v1408 (ix2 p l) - v967 (ix2 p l))) (v1297 (ix2 p l))) * v1412 (ix2 0 l)) : EReal) := by
  unfold k0_pay30
  pointwise <;> rfl

/-- Stage 31 of a trip at an element. -/
theorem pay31_at (v967 v1297 v1406 v1415 : FVec Ideal S128x128 .f32) (v1419 v1430 v1441 v1452 : Vec Ideal S128x128 .bf16) (v1423 v1434 v1445 v1456 : Vec Ideal S1x128 .f32) :
    k0_pay31 (F := Ideal) v967 v1297 v1406 v1415 v1419 v1423 v1430 v1434 v1441 v1445 v1452 v1456 (ix2 p l) = ((max ((max ((max ((max ((max (v1406 (ix2 p l)) ((abs' (v1415 (ix2 p l)))))) ((abs' (((Ideal.div ((v1419 (ix2 p l) - v967 (ix2 p l))) (v1297 (ix2 p l))) * v1423 (ix2 0 l))))))) ((abs' (((Ideal.div ((v1430 (ix2 p l) - v967 (ix2 p l))) (v1297 (ix2 p l))) * v1434 (ix2 0 l))))))) ((abs' (((Ideal.div ((v1441 (ix2 p l) - v967 (ix2 p l))) (v1297 (ix2 p l))) * v1445 (ix2 0 l))))))) ((abs' (((Ideal.div ((v1452 (ix2 p l) - v967 (ix2 p l))) (v1297 (ix2 p l))) * v1456 (ix2 0 l)))))) : EReal) := by
  unfold k0_pay31
  pointwise <;> rfl

/-- Stage 32 of a trip at an element. -/
theorem pay32_at (v967 v1297 v1461 : FVec Ideal S128x128 .f32) (v1463 v1474 v1485 v1496 : Vec Ideal S128x128 .bf16) (v1467 v1478 v1489 v1500 : Vec Ideal S1x128 .f32) :
    k0_pay32 (F := Ideal) v967 v1297 v1461 v1463 v1467 v1474 v1478 v1485 v1489 v1496 v1500 (ix2 p l) = ((max ((max ((max ((max (v1461 (ix2 p l)) ((abs' (((Ideal.div ((v1463 (ix2 p l) - v967 (ix2 p l))) (v1297 (ix2 p l))) * v1467 (ix2 0 l))))))) ((abs' (((Ideal.div ((v1474 (ix2 p l) - v967 (ix2 p l))) (v1297 (ix2 p l))) * v1478 (ix2 0 l))))))) ((abs' (((Ideal.div ((v1485 (ix2 p l) - v967 (ix2 p l))) (v1297 (ix2 p l))) * v1489 (ix2 0 l))))))) ((abs' (((Ideal.div ((v1496 (ix2 p l) - v967 (ix2 p l))) (v1297 (ix2 p l))) * v1500 (ix2 0 l)))))) : EReal) := by
  unfold k0_pay32
  pointwise <;> rfl

/-- Stage 33 of a trip at an element. -/
theorem pay33_at (v967 v1297 : FVec Ideal S128x128 .f32) (v1507 : Vec Ideal S128x128 .bf16) :
    k0_pay33 (F := Ideal) v967 v1297 v1507 (ix2 p l) = ((Ideal.div ((v1507 (ix2 p l) - v967 (ix2 p l))) (v1297 (ix2 p l))) : EReal) := rfl

/-- Stage 34 of a trip at an element. -/
theorem pay34_at (v967 v1297 v1505 v1510 : FVec Ideal S128x128 .f32) (v1511 v1522 v1533 v1544 : Vec Ideal S1x128 .f32) (v1518 v1529 v1540 : Vec Ideal S128x128 .bf16) :
    k0_pay34 (F := Ideal) v967 v1297 v1505 v1510 v1511 v1518 v1522 v1529 v1533 v1540 v1544 (ix2 p l) = ((max ((max ((max ((max (v1505 (ix2 p l)) ((abs' ((v1510 (ix2 p l) * v1511 (ix2 0 l))))))) ((abs' (((Ideal.div ((v1518 (ix2 p l) - v967 (ix2 p l))) (v1297 (ix2 p l))) * v1522 (ix2 0 l))))))) ((abs' (((Ideal.div ((v1529 (ix2 p l) - v967 (ix2 p l))) (v1297 (ix2 p l))) * v1533 (ix2 0 l))))))) ((abs' (((Ideal.div ((v1540 (ix2 p l) - v967 (ix2 p l))) (v1297 (ix2 p l))) * v1544 (ix2 0 l)))))) : EReal) := by
  unfold k0_pay34
  pointwise <;> rfl

/-- Stage 35 of a trip at an element. -/
theorem pay35_at (v967 v1297 : FVec Ideal S128x128 .f32) (v1551 : Vec Ideal S128x128 .bf16) :
    k0_pay35 (F := Ideal) v967 v1297 v1551 (ix2 p l) = ((Ideal.div ((v1551 (ix2 p l) - v967 (ix2 p l))) (v1297 (ix2 p l))) : EReal) := rfl

/-- Stage 36 of a trip at an element. -/
theorem pay36_at (v1555 : Vec Ideal S1x128 .f32) :
    k0_pay36 (F := Ideal) v1555 (ix2 0 l) = (v1555 (ix2 0 l) : EReal) := by
  unfold k0_pay36
  pointwise <;> rfl

/-- Stage 37 of a trip at an element. -/
theorem pay37_at (v967 v1297 v1549 v1554 : FVec Ideal S128x128 .f32) (v1556 : FVec Ideal S1x128 .f32) (v1562 v1573 v1584 v1595 : Vec Ideal S128x128 .bf16) (v1566 v1577 v1588 v1599 : Vec Ideal S1x128 .f32) :
    k0_pay37 (F := Ideal) v967 v1297 v1549 v1554 v1556 v1562 v1566 v1573 v1577 v1584 v1588 v1595 v1599 (ix2 p l) = ((max ((max ((max ((max ((max (v1549 (ix2 p l)) ((abs' ((v1554 (ix2 p l) * v1556 (ix2 0 l))))))) ((abs' (((Ideal.div ((v1562 (ix2 p l) - v967 (ix2 p l))) (v1297 (ix2 p l))) * v1566 (ix2 0 l))))))) ((abs' (((Ideal.div ((v1573 (ix2 p l) - v967 (ix2 p l))) (v1297 (ix2 p l))) * v1577 (ix2 0 l))))))) ((abs' (((Ideal.div ((v1584 (ix2 p l) - v967 (ix2 p l))) (v1297 (ix2 p l))) * v1588 (ix2 0 l))))))) ((abs' (((Ideal.div ((v1595 (ix2 p l) - v967 (ix2 p l))) (v1297 (ix2 p l))) * v1599 (ix2 0 l)))))) : EReal) := by
  unfold k0_pay37
  pointwise <;> rfl

/-- Stage 38 of a trip at an element. -/
theorem pay38_at (m v u1 : FVec Ideal S128x128 .f32) (u2 u3 u4 u5 : Vec Ideal S128x128 .bf16) (g2 g3 g4 g5 : Vec Ideal S1x128 .f32) :
    k0_pay38 (F := Ideal) m v u1 u2 g2 u3 g3 u4 g4 u5 g5 (ix2 p 0)
      = Finset.fold max (Ideal.ofBits FTy.f32 4286578688#32) (fun l : Fin 128 => max (max (max (max (u1 (ix2 p l))
          (abs' (Ideal.div (u2 (ix2 p l) - m (ix2 p l)) (v (ix2 p l)) * g2 (ix2 0 l))))
          (abs' (Ideal.div (u3 (ix2 p l) - m (ix2 p l)) (v (ix2 p l)) * g3 (ix2 0 l))))
          (abs' (Ideal.div (u4 (ix2 p l) - m (ix2 p l)) (v (ix2 p l)) * g4 (ix2 0 l))))
          (abs' (Ideal.div (u5 (ix2 p l) - m (ix2 p l)) (v (ix2 p l)) * g5 (ix2 0 l)))) Finset.univ := by
  unfold_payloads
  pointwise
  rfl

/-- Stage 39 of a trip at an element. -/
theorem pay39_at (m : FVec Ideal S128x1 .f32) : k0_pay39 (F := Ideal) m (trip_k0_t1.sl.cst_509 (F := Ideal)) (ix2 p 0) = scaleOf (m (ix2 p 0)) := by
  unfold trip_k0_t1.sl.cst_509
  unfold_payloads
  pointwise
  rfl

/-- Stage 40 of a trip at an element. -/
theorem pay40_at (v967 v1297 : FVec Ideal S128x128 .f32) (v1650 : FVec Ideal S128x1 .f32) (cst_509 : Ideal .f32) (v1660 : Vec Ideal S128x128 .bf16) (v1664 : Vec Ideal S1x128 .f32) :
    k0_pay40 (F := Ideal) v967 v1297 v1650 cst_509 v1660 v1664 (ix2 p l) = ((min (top) ((max (bot) ((Ideal.div (((Ideal.div ((v1660 (ix2 p l) - v967 (ix2 p l))) (v1297 (ix2 p l))) * v1664 (ix2 0 l))) (k0_pay39 v1650 cst_509 (ix2 p 0))))))) : EReal) := by
  unfold k0_pay40
  pointwise <;> rfl

/-- Stage 41 of a trip at an element. -/
theorem pay41_at (v967 v1297 : FVec Ideal S128x128 .f32) (v1650 : FVec Ideal S128x1 .f32) (cst_509 : Ideal .f32) (v1678 : Vec Ideal S128x128 .bf16) (v1682 : Vec Ideal S1x128 .f32) :
    k0_pay41 (F := Ideal) v967 v1297 v1650 cst_509 v1678 v1682 (ix2 p l) = ((min (top) ((max (bot) ((Ideal.div (((Ideal.div ((v1678 (ix2 p l) - v967 (ix2 p l))) (v1297 (ix2 p l))) * v1682 (ix2 0 l))) (k0_pay39 v1650 cst_509 (ix2 p 0))))))) : EReal) := by
  unfold k0_pay41
  pointwise <;> rfl

/-- Stage 42 of a trip at an element. -/
theorem pay42_at (v967 v1297 : FVec Ideal S128x128 .f32) (v1656 : FVec Ideal S128x1 .f32) (v1696 : Vec Ideal S128x128 .bf16) (v1700 : Vec Ideal S1x128 .f32) :
    k0_pay42 (F := Ideal) v967 v1297 v1656 v1696 v1700 (ix2 p l) = ((min (top) ((max (bot) ((Ideal.div (((Ideal.div ((v1696 (ix2 p l) - v967 (ix2 p l))) (v1297 (ix2 p l))) * v1700 (ix2 0 l))) (v1656 (ix2 p 0))))))) : EReal) := by
  unfold k0_pay42
  pointwise <;> rfl

/-- Stage 43 of a trip at an element. -/
theorem pay43_at (v967 v1297 : FVec Ideal S128x128 .f32) (v1656 : FVec Ideal S128x1 .f32) (v1714 : Vec Ideal S128x128 .bf16) (v1718 : Vec Ideal S1x128 .f32) :
    k0_pay43 (F := Ideal) v967 v1297 v1656 v1714 v1718 (ix2 p l) = ((min (top) ((max (bot) ((Ideal.div (((Ideal.div ((v1714 (ix2 p l) - v967 (ix2 p l))) (v1297 (ix2 p l))) * v1718 (ix2 0 l))) (v1656 (ix2 p 0))))))) : EReal) := by
  unfold k0_pay43
  pointwise <;> rfl

/-- Stage 44 of a trip at an element. -/
theorem pay44_at (v967 v1297 : FVec Ideal S128x128 .f32) (v1732 : Vec Ideal S128x128 .bf16) :
    k0_pay44 (F := Ideal) v967 v1297 v1732 (ix2 p l) = ((Ideal.div ((v1732 (ix2 p l) - v967 (ix2 p l))) (v1297 (ix2 p l))) : EReal) := rfl

/-- Stage 45 of a trip at an element. -/
theorem pay45_at (v1656 : FVec Ideal S128x1 .f32) (v1735 : FVec Ideal S128x128 .f32) (v1736 : Vec Ideal S1x128 .f32) :
    k0_pay45 (F := Ideal) v1656 v1735 v1736 (ix2 p l) = ((min (top) ((max (bot) ((Ideal.div ((v1735 (ix2 p l) * v1736 (ix2 0 l))) (v1656 (ix2 p 0))))))) : EReal) := by
  unfold k0_pay45
  pointwise <;> rfl

/-- Stage 46 of a trip at an element. -/
theorem pay46_at (v967 v1297 : FVec Ideal S128x128 .f32) (v1656 : FVec Ideal S128x1 .f32) (v1750 : Vec Ideal S128x128 .bf16) (v1754 : Vec Ideal S1x128 .f32) :
    k0_pay46 (F := Ideal) v967 v1297 v1656 v1750 v1754 (ix2 p l) = ((min (top) ((max (bot) ((Ideal.div (((Ideal.div ((v1750 (ix2 p l) - v967 (ix2 p l))) (v1297 (ix2 p l))) * v1754 (ix2 0 l))) (v1656 (ix2 p 0))))))) : EReal) := by
  unfold k0_pay46
  pointwise <;> rfl

/-- Stage 47 of a trip at an element. -/
theorem pay47_at (v967 v1297 : FVec Ideal S128x128 .f32) (v1656 : FVec Ideal S128x1 .f32) (v1768 : Vec Ideal S128x128 .bf16) (v1772 : Vec Ideal S1x128 .f32) :
    k0_pay47 (F := Ideal) v967 v1297 v1656 v1768 v1772 (ix2 p l) = ((max (bot) ((Ideal.div (((Ideal.div ((v1768 (ix2 p l) - v967 (ix2 p l))) (v1297 (ix2 p l))) * v1772 (ix2 0 l))) (v1656 (ix2 p 0))))) : EReal) := by
  unfold k0_pay47
  pointwise <;> rfl

/-- Stage 48 of a trip at an element. -/
theorem pay48_at (cst_553 : Ideal .f32) (v1779 : FVec Ideal S128x128 .f32) :
    k0_pay48 (F := Ideal) cst_553 v1779 (ix2 p l) = ((min (cst_553) (v1779 (ix2 p l))) : EReal) := by
  unfold k0_pay48
  pointwise <;> rfl

/-- Stage 49 of a trip at an element. -/
theorem pay49_at (v967 v1297 : FVec Ideal S128x128 .f32) (v1656 : FVec Ideal S128x1 .f32) (v1786 : Vec Ideal S128x128 .bf16) (v1790 : Vec Ideal S1x128 .f32) :
    k0_pay49 (F := Ideal) v967 v1297 v1656 v1786 v1790 (ix2 p l) = ((min (top) ((max (bot) ((Ideal.div (((Ideal.div ((v1786 (ix2 p l) - v967 (ix2 p l))) (v1297 (ix2 p l))) * v1790 (ix2 0 l))) (v1656 (ix2 p 0))))))) : EReal) := by
  unfold k0_pay49
  pointwise <;> rfl

/-- Stage 50 of a trip at an element. -/
theorem pay50_at (v967 v1297 : FVec Ideal S128x128 .f32) (v1656 : FVec Ideal S128x1 .f32) (v1804 : Vec Ideal S128x128 .bf16) (v1808 : Vec Ideal S1x128 .f32) :
    k0_pay50 (F := Ideal) v967 v1297 v1656 v1804 v1808 (ix2 p l) = ((min (top) ((max (bot) ((Ideal.div (((Ideal.div ((v1804 (ix2 p l) - v967 (ix2 p l))) (v1297 (ix2 p l))) * v1808 (ix2 0 l))) (v1656 (ix2 p 0))))))) : EReal) := by
  unfold k0_pay50
  pointwise <;> rfl

/-- Stage 51 of a trip at an element. -/
theorem pay51_at (v967 v1297 : FVec Ideal S128x128 .f32) (v1656 : FVec Ideal S128x1 .f32) (v1822 : Vec Ideal S128x128 .bf16) (v1826 : Vec Ideal S1x128 .f32) :
    k0_pay51 (F := Ideal) v967 v1297 v1656 v1822 v1826 (ix2 p l) = ((min (top) ((max (bot) ((Ideal.div (((Ideal.div ((v1822 (ix2 p l) - v967 (ix2 p l))) (v1297 (ix2 p l))) * v1826 (ix2 0 l))) (v1656 (ix2 p 0))))))) : EReal) := by
  unfold k0_pay51
  pointwise <;> rfl

/-- Stage 52 of a trip at an element. -/
theorem pay52_at (v967 v1297 : FVec Ideal S128x128 .f32) (v1656 : FVec Ideal S128x1 .f32) (v1840 : Vec Ideal S128x128 .bf16) (v1844 : Vec Ideal S1x128 .f32) :
    k0_pay52 (F := Ideal) v967 v1297 v1656 v1840 v1844 (ix2 p l) = ((min (top) ((max (bot) ((Ideal.div (((Ideal.div ((v1840 (ix2 p l) - v967 (ix2 p l))) (v1297 (ix2 p l))) * v1844 (ix2 0 l))) (v1656 (ix2 p 0))))))) : EReal) := by
  unfold k0_pay52
  pointwise <;> rfl

/-- Stage 53 of a trip at an element. -/
theorem pay53_at (v967 v1297 : FVec Ideal S128x128 .f32) (v1858 : Vec Ideal S128x128 .bf16) (v1862 : Vec Ideal S1x128 .f32) :
    k0_pay53 (F := Ideal) v967 v1297 v1858 v1862 (ix2 p l) = (((Ideal.div ((v1858 (ix2 p l) - v967 (ix2 p l))) (v1297 (ix2 p l))) * v1862 (ix2 0 l)) : EReal) := by
  unfold k0_pay53
  pointwise <;> rfl

/-- Stage 54 of a trip at an element. -/
theorem pay54_at (v : FVec Ideal S128x1 .f32) : k0_pay54 (F := Ideal) v (ix2 p l) = v (ix2 p 0) := by
  unfold k0_pay54
  pointwise <;> rfl

/-- Stage 55 of a trip at an element. -/
theorem pay55_at (v1865 v1866 : FVec Ideal S128x128 .f32) :
    k0_pay55 (F := Ideal) v1865 v1866 (ix2 p l) = ((min (top) ((max (bot) ((Ideal.div (v1865 (ix2 p l)) (v1866 (ix2 p l))))))) : EReal) := rfl

/-- Stage 56 of a trip at an element. -/
theorem pay56_at (v967 v1297 : FVec Ideal S128x128 .f32) (v1656 : FVec Ideal S128x1 .f32) (v1876 : Vec Ideal S128x128 .bf16) (v1880 : Vec Ideal S1x128 .f32) :
    k0_pay56 (F := Ideal) v967 v1297 v1656 v1876 v1880 (ix2 p l) = ((min (top) ((max (bot) ((Ideal.div (((Ideal.div ((v1876 (ix2 p l) - v967 (ix2 p l))) (v1297 (ix2 p l))) * v1880 (ix2 0 l))) (v1656 (ix2 p 0))))))) : EReal) := by
  unfold k0_pay56
  pointwise <;> rfl

/-- Stage 57 of a trip at an element. -/
theorem pay57_at (v967 v1297 : FVec Ideal S128x128 .f32) (v1656 : FVec Ideal S128x1 .f32) (v1894 : Vec Ideal S128x128 .bf16) (v1898 : Vec Ideal S1x128 .f32) :
    k0_pay57 (F := Ideal) v967 v1297 v1656 v1894 v1898 (ix2 p l) = ((min (top) ((max (bot) ((Ideal.div (((Ideal.div ((v1894 (ix2 p l) - v967 (ix2 p l))) (v1297 (ix2 p l))) * v1898 (ix2 0 l))) (v1656 (ix2 p 0))))))) : EReal) := by
  unfold k0_pay57
  pointwise <;> rfl

/-- Stage 58 of a trip at an element. -/
theorem pay58_at (v967 v1297 : FVec Ideal S128x128 .f32) (v1656 : FVec Ideal S128x1 .f32) (v1912 : Vec Ideal S128x128 .bf16) (v1916 : Vec Ideal S1x128 .f32) :
    k0_pay58 (F := Ideal) v967 v1297 v1656 v1912 v1916 (ix2 p l) = ((min (top) ((max (bot) ((Ideal.div (((Ideal.div ((v1912 (ix2 p l) - v967 (ix2 p l))) (v1297 (ix2 p l))) * v1916 (ix2 0 l))) (v1656 (ix2 p 0))))))) : EReal) := by
  unfold k0_pay58
  pointwise <;> rfl

/-- Stage 59 of a trip at an element. -/
theorem pay59_at (v967 v1297 : FVec Ideal S128x128 .f32) (v1656 : FVec Ideal S128x1 .f32) (v1930 : Vec Ideal S128x128 .bf16) (v1934 : Vec Ideal S1x128 .f32) :
    k0_pay59 (F := Ideal) v967 v1297 v1656 v1930 v1934 (ix2 p l) = ((min (top) ((max (bot) ((Ideal.div (((Ideal.div ((v1930 (ix2 p l) - v967 (ix2 p l))) (v1297 (ix2 p l))) * v1934 (ix2 0 l))) (v1656 (ix2 p 0))))))) : EReal) := by
  unfold k0_pay59
  pointwise <;> rfl

/-- Stage 60 of a trip at an element. -/
theorem pay60_at (v967 v1297 : FVec Ideal S128x128 .f32) (v1948 : Vec Ideal S128x128 .bf16) :
    k0_pay60 (F := Ideal) v967 v1297 v1948 (ix2 p l) = ((Ideal.div ((v1948 (ix2 p l) - v967 (ix2 p l))) (v1297 (ix2 p l))) : EReal) := rfl

/-- Stage 61 of a trip at an element. -/
theorem pay61_at (v1656 : FVec Ideal S128x1 .f32) (v1951 : FVec Ideal S128x128 .f32) (v1952 : Vec Ideal S1x128 .f32) :
    k0_pay61 (F := Ideal) v1656 v1951 v1952 (ix2 p l) = ((min (top) ((max (bot) ((Ideal.div ((v1951 (ix2 p l) * v1952 (ix2 0 l))) (v1656 (ix2 p 0))))))) : EReal) := by
  unfold k0_pay61
  pointwise <;> rfl

/-- Stage 62 of a trip at an element. -/
theorem pay62_at (v967 v1297 : FVec Ideal S128x128 .f32) (v1656 : FVec Ideal S128x1 .f32) (v1966 : Vec Ideal S128x128 .bf16) (v1970 : Vec Ideal S1x128 .f32) :
    k0_pay62 (F := Ideal) v967 v1297 v1656 v1966 v1970 (ix2 p l) = ((min (top) ((max (bot) ((Ideal.div (((Ideal.div ((v1966 (ix2 p l) - v967 (ix2 p l))) (v1297 (ix2 p l))) * v1970 (ix2 0 l))) (v1656 (ix2 p 0))))))) : EReal) := by
  unfold k0_pay62
  pointwise <;> rfl

/-- Stage 63 of a trip at an element. -/
theorem pay63_at (v967 v1297 : FVec Ideal S128x128 .f32) (v1656 : FVec Ideal S128x1 .f32) (v1984 : Vec Ideal S128x128 .bf16) (v1988 : Vec Ideal S1x128 .f32) :
    k0_pay63 (F := Ideal) v967 v1297 v1656 v1984 v1988 (ix2 p l) = ((max (bot) ((Ideal.div (((Ideal.div ((v1984 (ix2 p l) - v967 (ix2 p l))) (v1297 (ix2 p l))) * v1988 (ix2 0 l))) (v1656 (ix2 p 0))))) : EReal) := by
  unfold k0_pay63
  pointwise <;> rfl

/-- Stage 64 of a trip at an element. -/
theorem pay64_at (cst_625 : Ideal .f32) (v1995 : FVec Ideal S128x128 .f32) :
    k0_pay64 (F := Ideal) cst_625 v1995 (ix2 p l) = ((min (cst_625) (v1995 (ix2 p l))) : EReal) := by
  unfold k0_pay64
  pointwise <;> rfl

/-- Stage 65 of a trip at an element. -/
theorem pay65_at (v967 v1297 : FVec Ideal S128x128 .f32) (v1656 : FVec Ideal S128x1 .f32) (v2002 : Vec Ideal S128x128 .bf16) (v2006 : Vec Ideal S1x128 .f32) :
    k0_pay65 (F := Ideal) v967 v1297 v1656 v2002 v2006 (ix2 p l) = ((min (top) ((max (bot) ((Ideal.div (((Ideal.div ((v2002 (ix2 p l) - v967 (ix2 p l))) (v1297 (ix2 p l))) * v2006 (ix2 0 l))) (v1656 (ix2 p 0))))))) : EReal) := by
  unfold k0_pay65
  pointwise <;> rfl

/-- Stage 66 of a trip at an element. -/
theorem pay66_at (v967 v1297 : FVec Ideal S128x128 .f32) (v1656 : FVec Ideal S128x1 .f32) (v2020 : Vec Ideal S128x128 .bf16) (v2024 : Vec Ideal S1x128 .f32) :
    k0_pay66 (F := Ideal) v967 v1297 v1656 v2020 v2024 (ix2 p l) = ((min (top) ((max (bot) ((Ideal.div (((Ideal.div ((v2020 (ix2 p l) - v967 (ix2 p l))) (v1297 (ix2 p l))) * v2024 (ix2 0 l))) (v1656 (ix2 p 0))))))) : EReal) := by
  unfold k0_pay66
  pointwise <;> rfl

/-- Stage 67 of a trip at an element. -/
theorem pay67_at (v967 v1297 : FVec Ideal S128x128 .f32) (v1656 : FVec Ideal S128x1 .f32) (v2038 : Vec Ideal S128x128 .bf16) (v2042 : Vec Ideal S1x128 .f32) :
    k0_pay67 (F := Ideal) v967 v1297 v1656 v2038 v2042 (ix2 p l) = ((min (top) ((max (bot) ((Ideal.div (((Ideal.div ((v2038 (ix2 p l) - v967 (ix2 p l))) (v1297 (ix2 p l))) * v2042 (ix2 0 l))) (v1656 (ix2 p 0))))))) : EReal) := by
  unfold k0_pay67
  pointwise <;> rfl

/-- Stage 68 of a trip at an element. -/
theorem pay68_at (v967 v1297 : FVec Ideal S128x128 .f32) (v1656 : FVec Ideal S128x1 .f32) (v2056 : Vec Ideal S128x128 .bf16) (v2060 : Vec Ideal S1x128 .f32) :
    k0_pay68 (F := Ideal) v967 v1297 v1656 v2056 v2060 (ix2 p l) = ((min (top) ((max (bot) ((Ideal.div (((Ideal.div ((v2056 (ix2 p l) - v967 (ix2 p l))) (v1297 (ix2 p l))) * v2060 (ix2 0 l))) (v1656 (ix2 p 0))))))) : EReal) := by
  unfold k0_pay68
  pointwise <;> rfl

/-- Stage 69 of a trip at an element. -/
theorem pay69_at (v967 v1297 : FVec Ideal S128x128 .f32) (v2074 : Vec Ideal S128x128 .bf16) (v2078 : Vec Ideal S1x128 .f32) :
    k0_pay69 (F := Ideal) v967 v1297 v2074 v2078 (ix2 p l) = (((Ideal.div ((v2074 (ix2 p l) - v967 (ix2 p l))) (v1297 (ix2 p l))) * v2078 (ix2 0 l)) : EReal) := by
  unfold k0_pay69
  pointwise <;> rfl

/-- Stage 70 of a trip at an element. -/
theorem pay70_at (v : FVec Ideal S128x1 .f32) : k0_pay70 (F := Ideal) v (ix2 p l) = v (ix2 p 0) := by
  unfold k0_pay70
  pointwise <;> rfl

/-- Stage 71 of a trip at an element. -/
theorem pay71_at (v2081 v2082 : FVec Ideal S128x128 .f32) :
    k0_pay71 (F := Ideal) v2081 v2082 (ix2 p l) = ((min (top) ((max (bot) ((Ideal.div (v2081 (ix2 p l)) (v2082 (ix2 p l))))))) : EReal) := rfl

/-- Stage 72 of a trip at an element. -/
theorem pay72_at (v967 v1297 : FVec Ideal S128x128 .f32) (v1656 : FVec Ideal S128x1 .f32) (v2092 : Vec Ideal S128x128 .bf16) (v2096 : Vec Ideal S1x128 .f32) :
    k0_pay72 (F := Ideal) v967 v1297 v1656 v2092 v2096 (ix2 p l) = ((min (top) ((max (bot) ((Ideal.div (((Ideal.div ((v2092 (ix2 p l) - v967 (ix2 p l))) (v1297 (ix2 p l))) * v2096 (ix2 0 l))) (v1656 (ix2 p 0))))))) : EReal) := by
  unfold k0_pay72
  pointwise <;> rfl

/-- Stage 73 of a trip at an element. -/
theorem pay73_at (v967 v1297 : FVec Ideal S128x128 .f32) (v1656 : FVec Ideal S128x1 .f32) (v2110 : Vec Ideal S128x128 .bf16) (v2114 : Vec Ideal S1x128 .f32) :
    k0_pay73 (F := Ideal) v967 v1297 v1656 v2110 v2114 (ix2 p l) = ((min (top) ((max (bot) ((Ideal.div (((Ideal.div ((v2110 (ix2 p l) - v967 (ix2 p l))) (v1297 (ix2 p l))) * v2114 (ix2 0 l))) (v1656 (ix2 p 0))))))) : EReal) := by
  unfold k0_pay73
  pointwise <;> rfl

/-- Stage 74 of a trip at an element. -/
theorem pay74_at (v967 v1297 : FVec Ideal S128x128 .f32) (v1656 : FVec Ideal S128x1 .f32) (v2128 : Vec Ideal S128x128 .bf16) (v2132 : Vec Ideal S1x128 .f32) :
    k0_pay74 (F := Ideal) v967 v1297 v1656 v2128 v2132 (ix2 p l) = ((min (top) ((max (bot) ((Ideal.div (((Ideal.div ((v2128 (ix2 p l) - v967 (ix2 p l))) (v1297 (ix2 p l))) * v2132 (ix2 0 l))) (v1656 (ix2 p 0))))))) : EReal) := by
  unfold k0_pay74
  pointwise <;> rfl

/-- Stage 75 of a trip at an element. -/
theorem pay75_at (v967 v1297 : FVec Ideal S128x128 .f32) (v1656 : FVec Ideal S128x1 .f32) (v2146 : Vec Ideal S128x128 .bf16) (v2150 : Vec Ideal S1x128 .f32) :
    k0_pay75 (F := Ideal) v967 v1297 v1656 v2146 v2150 (ix2 p l) = ((min (top) ((max (bot) ((Ideal.div (((Ideal.div ((v2146 (ix2 p l) - v967 (ix2 p l))) (v1297 (ix2 p l))) * v2150 (ix2 0 l))) (v1656 (ix2 p 0))))))) : EReal) := by
  unfold k0_pay75
  pointwise <;> rfl

/-- Stage 76 of a trip at an element. -/
theorem pay76_at (v967 v1297 : FVec Ideal S128x128 .f32) (v2164 : Vec Ideal S128x128 .bf16) :
    k0_pay76 (F := Ideal) v967 v1297 v2164 (ix2 p l) = ((Ideal.div ((v2164 (ix2 p l) - v967 (ix2 p l))) (v1297 (ix2 p l))) : EReal) := rfl

/-- Stage 77 of a trip at an element. -/
theorem pay77_at (v1656 : FVec Ideal S128x1 .f32) (v2167 : FVec Ideal S128x128 .f32) (v2168 : Vec Ideal S1x128 .f32) :
    k0_pay77 (F := Ideal) v1656 v2167 v2168 (ix2 p l) = ((min (top) ((max (bot) ((Ideal.div ((v2167 (ix2 p l) * v2168 (ix2 0 l))) (v1656 (ix2 p 0))))))) : EReal) := by
  unfold k0_pay77
  pointwise <;> rfl

/-- Stage 78 of a trip at an element. -/
theorem pay78_at (v967 v1297 : FVec Ideal S128x128 .f32) (v1656 : FVec Ideal S128x1 .f32) (v2182 : Vec Ideal S128x128 .bf16) (v2186 : Vec Ideal S1x128 .f32) :
    k0_pay78 (F := Ideal) v967 v1297 v1656 v2182 v2186 (ix2 p l) = ((min (top) ((max (bot) ((Ideal.div (((Ideal.div ((v2182 (ix2 p l) - v967 (ix2 p l))) (v1297 (ix2 p l))) * v2186 (ix2 0 l))) (v1656 (ix2 p 0))))))) : EReal) := by
  unfold k0_pay78
  pointwise <;> rfl

/-- Stage 79 of a trip at an element. -/
theorem pay79_at (v967 v1297 : FVec Ideal S128x128 .f32) (v1656 : FVec Ideal S128x1 .f32) (v2200 : Vec Ideal S128x128 .bf16) (v2204 : Vec Ideal S1x128 .f32) :
    k0_pay79 (F := Ideal) v967 v1297 v1656 v2200 v2204 (ix2 p l) = ((max (bot) ((Ideal.div (((Ideal.div ((v2200 (ix2 p l) - v967 (ix2 p l))) (v1297 (ix2 p l))) * v2204 (ix2 0 l))) (v1656 (ix2 p 0))))) : EReal) := by
  unfold k0_pay79
  pointwise <;> rfl

/-- Stage 80 of a trip at an element. -/
theorem pay80_at (cst_697 : Ideal .f32) (v2211 : FVec Ideal S128x128 .f32) :
    k0_pay80 (F := Ideal) cst_697 v2211 (ix2 p l) = ((min (cst_697) (v2211 (ix2 p l))) : EReal) := by
  unfold k0_pay80
  pointwise <;> rfl

/-- Stage 81 of a trip at an element. -/
theorem pay81_at (v967 v1297 : FVec Ideal S128x128 .f32) (v1656 : FVec Ideal S128x1 .f32) (v2218 : Vec Ideal S128x128 .bf16) (v2222 : Vec Ideal S1x128 .f32) :
    k0_pay81 (F := Ideal) v967 v1297 v1656 v2218 v2222 (ix2 p l) = ((min (top) ((max (bot) ((Ideal.div (((Ideal.div ((v2218 (ix2 p l) - v967 (ix2 p l))) (v1297 (ix2 p l))) * v2222 (ix2 0 l))) (v1656 (ix2 p 0))))))) : EReal) := by
  unfold k0_pay81
  pointwise <;> rfl

end Cert.QkvIdeal.Blocks
end
-- ==== Proof.QkvTrip.lean ====
module

public import proofs.«01_k».proof.Proof.Gen.QkvIdeal.Value
public import Idealize.ShloMosaic.Lib.Pipeline.ValueKit
public import Idealize.ShloMosaic.Lib.Pipeline.ReadBack
public import proofs.«01_k».proof.Proof.QkvStages

@[expose] public section

set_option maxRecDepth 16384

noncomputable section

namespace Cert.QkvIdeal.Blocks

open Cert.QkvIdeal Cert.QkvIdeal.Gen Idealize.ShloMosaic Idealize.ShloMosaic.TcCoe Idealize.SL.Sem
open Idealize.ShloMosaic.Pipeline (Dat)
open Cert.GateUpIdeal.Blocks (abs' abs'_nonneg scaleOf)

variable (a3 : Memref sig .tc .vmem S256x4096 .bf16) (w3 : a3.IsWhole) (a4 : Memref sig .tc .vmem S1x4096 .f32) (w4 : a4.IsWhole)
variable (x : FVec Ideal S256x4096 .bf16) (g : FVec Ideal S1x4096 .f32) (k : Fin k0_t1_loop.trips) (p l : Fin 128)

/-! ## One trip of the loop over a block's rows: the mean, the deviation and the scale of each row -/

/-- Column `j` of the row, less the row's mean. -/
abbrev cen (j : Fin 4096) : EReal := xr x k p j - mean cols (xr x k p)

/-- Column `j` of the row after the layer norm. -/
abbrev nrm (j : Fin 4096) : EReal := normRow cols (xr x k p) (gr g) j

/-- The root of the row's variance and `eps`. -/
abbrev dev : EReal := Ideal.sqrt (mean cols (fun j => cen x k p j * cen x k p j) + eps)

/-- The sum of the first 11 chunks. -/
theorem r_at : trip_k0_t1.sl.r (F := Ideal) a3 (w3.unread x) k (ix2 p l) = ∑ c ∈ Finset.range 11, xr x k p (colAt c l) := by
  unfold trip_k0_t1.sl.r
  rw [pay2_at]
  rw [load_x1, load_x2, load_x3, load_x4, load_x5, load_x6, load_x7, load_x8, load_x9, load_x10, load_x11]
  simp only [Finset.sum_range_succ, Finset.sum_range_zero, zero_add]

/-- Chunk 11. -/
theorem r_1_at : trip_k0_t1.sl.r_1 (F := Ideal) a3 (w3.unread x) k (ix2 p l) = xr x k p (colAt 11 l) := by
  unfold trip_k0_t1.sl.r_1
  rw [load_x12]

/-- The sum of the first 23 chunks. -/
theorem r_2_at : trip_k0_t1.sl.r_2 (F := Ideal) a3 (w3.unread x) k (ix2 p l) = ∑ c ∈ Finset.range 23, xr x k p (colAt c l) := by
  unfold trip_k0_t1.sl.r_2
  rw [pay3_at]
  rw [r_at, r_1_at, load_x13, load_x14, load_x15, load_x16, load_x17, load_x18, load_x19, load_x20, load_x21, load_x22, load_x23]
  simp only [Finset.sum_range_succ, Finset.sum_range_zero, zero_add]

/-- Chunk 23. -/
theorem r_3_at : trip_k0_t1.sl.r_3 (F := Ideal) a3 (w3.unread x) k (ix2 p l) = xr x k p (colAt 23 l) := by
  unfold trip_k0_t1.sl.r_3
  rw [load_x24]

/-- The row's mean, in every lane. -/
theorem r_4_at : trip_k0_t1.sl.r_4 (F := Ideal) a3 (w3.unread x) k (ix2 p l) = mean cols (xr x k p) := by
  unfold trip_k0_t1.sl.r_4
  rw [pay4_at]
  unfold mean
  refine congrArg (fun z => Ideal.div z cols) (Eq.trans (Finset.sum_congr rfl fun l _ => ?_) (sum_chunks (xr x k p)))
  rw [r_2_at, r_3_at, load_x25, load_x26, load_x27, load_x28, load_x29, load_x30, load_x31, load_x32]
  simp only [Finset.sum_range_succ, Finset.sum_range_zero, zero_add]

/-- Chunk 0, less the mean. -/
theorem r_5_at : trip_k0_t1.sl.r_5 (F := Ideal) a3 (w3.unread x) k (ix2 p l) = cen x k p (colAt 0 l) := by
  unfold trip_k0_t1.sl.r_5
  rw [pay5_at]
  rw [show k0_pay4 (F := Ideal) _ _ _ _ _ _ _ _ _ _ = trip_k0_t1.sl.r_4 (F := Ideal) a3 (w3.unread x) k from rfl, r_4_at]
  rw [load_x1]

/-- Chunk 0. -/
theorem r_6_at : trip_k0_t1.sl.r_6 (F := Ideal) a3 (w3.unread x) k (ix2 p l) = xr x k p (colAt 0 l) := by
  unfold trip_k0_t1.sl.r_6
  rw [load_x1]

/-- The squares of the first 5 chunks. -/
theorem r_7_at : trip_k0_t1.sl.r_7 (F := Ideal) a3 (w3.unread x) k (ix2 p l) = ∑ c ∈ Finset.range 5, cen x k p (colAt c l) * cen x k p (colAt c l) := by
  unfold trip_k0_t1.sl.r_7
  rw [pay6_at]
  rw [r_4_at, r_5_at, r_6_at, load_x2, load_x3, load_x4, load_x5]
  simp only [Finset.sum_range_succ, Finset.sum_range_zero, zero_add]

/-- Chunk 5, less the mean. -/
theorem r_8_at : trip_k0_t1.sl.r_8 (F := Ideal) a3 (w3.unread x) k (ix2 p l) = cen x k p (colAt 5 l) := by
  unfold trip_k0_t1.sl.r_8
  rw [pay7_at]
  rw [r_4_at, load_x6]

/-- Chunk 5. -/
theorem r_9_at : trip_k0_t1.sl.r_9 (F := Ideal) a3 (w3.unread x) k (ix2 p l) = xr x k p (colAt 5 l) := by
  unfold trip_k0_t1.sl.r_9
  rw [pay8_at]
  rw [load_x6]

/-- The squares of the first 10 chunks. -/
theorem r_10_at : trip_k0_t1.sl.r_10 (F := Ideal) a3 (w3.unread x) k (ix2 p l) = ∑ c ∈ Finset.range 10, cen x k p (colAt c l) * cen x k p (colAt c l) := by
  unfold trip_k0_t1.sl.r_10
  rw [pay9_at]
  rw [r_4_at, r_7_at, r_8_at, r_9_at, load_x7, load_x8, load_x9, load_x10]
  simp only [Finset.sum_range_succ, Finset.sum_range_zero, zero_add]

/-- Chunk 10, less the mean. -/
theorem r_11_at : trip_k0_t1.sl.r_11 (F := Ideal) a3 (w3.unread x) k (ix2 p l) = cen x k p (colAt 10 l) := by
  unfold trip_k0_t1.sl.r_11
  rw [pay10_at]
  rw [r_4_at, load_x11]

/-- Chunk 10. -/
theorem r_12_at : trip_k0_t1.sl.r_12 (F := Ideal) a3 (w3.unread x) k (ix2 p l) = xr x k p (colAt 10 l) := by
  unfold trip_k0_t1.sl.r_12
  rw [pay11_at]
  rw [load_x11]

/-- The squares of the first 15 chunks. -/
theorem r_13_at : trip_k0_t1.sl.r_13 (F := Ideal) a3 (w3.unread x) k (ix2 p l) = ∑ c ∈ Finset.range 15, cen x k p (colAt c l) * cen x k p (colAt c l) := by
  unfold trip_k0_t1.sl.r_13
  rw [pay12_at]
  rw [r_4_at, r_10_at, r_11_at, r_12_at, load_x12, load_x13, load_x14, load_x15]
  simp only [Finset.sum_range_succ, Finset.sum_range_zero, zero_add]

/-- Chunk 15, less the mean. -/
theorem r_14_at : trip_k0_t1.sl.r_14 (F := Ideal) a3 (w3.unread x) k (ix2 p l) = cen x k p (colAt 15 l) := by
  unfold trip_k0_t1.sl.r_14
  rw [pay13_at]
  rw [r_4_at, load_x16]

/-- Chunk 15. -/
theorem r_15_at : trip_k0_t1.sl.r_15 (F := Ideal) a3 (w3.unread x) k (ix2 p l) = xr x k p (colAt 15 l) := by
  unfold trip_k0_t1.sl.r_15
  rw [pay14_at]
  rw [load_x16]

/-- The squares of the first 20 chunks. -/
theorem r_16_at : trip_k0_t1.sl.r_16 (F := Ideal) a3 (w3.unread x) k (ix2 p l) = ∑ c ∈ Finset.range 20, cen x k p (colAt c l) * cen x k p (colAt c l) := by
  unfold trip_k0_t1.sl.r_16
  rw [pay15_at]
  rw [r_4_at, r_13_at, r_14_at, r_15_at, load_x17, load_x18, load_x19, load_x20]
  simp only [Finset.sum_range_succ, Finset.sum_range_zero, zero_add]

/-- Chunk 20, less the mean. -/
theorem r_17_at : trip_k0_t1.sl.r_17 (F := Ideal) a3 (w3.unread x) k (ix2 p l) = cen x k p (colAt 20 l) := by
  unfold trip_k0_t1.sl.r_17
  rw [pay16_at]
  rw [r_4_at, load_x21]

/-- Chunk 20. -/
theorem r_18_at : trip_k0_t1.sl.r_18 (F := Ideal) a3 (w3.unread x) k (ix2 p l) = xr x k p (colAt 20 l) := by
  unfold trip_k0_t1.sl.r_18
  rw [pay17_at]
  rw [load_x21]

/-- The squares of the first 25 chunks. -/
theorem r_19_at : trip_k0_t1.sl.r_19 (F := Ideal) a3 (w3.unread x) k (ix2 p l) = ∑ c ∈ Finset.range 25, cen x k p (colAt c l) * cen x k p (colAt c l) := by
  unfold trip_k0_t1.sl.r_19
  rw [pay18_at]
  rw [r_4_at, r_16_at, r_17_at, r_18_at, load_x22, load_x23, load_x24, load_x25]
  simp only [Finset.sum_range_succ, Finset.sum_range_zero, zero_add]

/-- Chunk 25, less the mean. -/
theorem r_20_at : trip_k0_t1.sl.r_20 (F := Ideal) a3 (w3.unread x) k (ix2 p l) = cen x k p (colAt 25 l) := by
  unfold trip_k0_t1.sl.r_20
  rw [pay19_at]
  rw [r_4_at, load_x26]

/-- Chunk 25. -/
theorem r_21_at : trip_k0_t1.sl.r_21 (F := Ideal) a3 (w3.unread x) k (ix2 p l) = xr x k p (colAt 25 l) := by
  unfold trip_k0_t1.sl.r_21
  rw [pay20_at]
  rw [load_x26]

/-- The squares of the first 30 chunks. -/
theorem r_22_at : trip_k0_t1.sl.r_22 (F := Ideal) a3 (w3.unread x) k (ix2 p l) = ∑ c ∈ Finset.range 30, cen x k p (colAt c l) * cen x k p (colAt c l) := by
  unfold trip_k0_t1.sl.r_22
  rw [pay21_at]
  rw [r_4_at, r_19_at, r_20_at, r_21_at, load_x27, load_x28, load_x29, load_x30]
  simp only [Finset.sum_range_succ, Finset.sum_range_zero, zero_add]

/-- Chunk 30, less the mean. -/
theorem r_23_at : trip_k0_t1.sl.r_23 (F := Ideal) a3 (w3.unread x) k (ix2 p l) = cen x k p (colAt 30 l) := by
  unfold trip_k0_t1.sl.r_23
  rw [pay22_at]
  rw [r_4_at, load_x31]

/-- Chunk 30. -/
theorem r_24_at : trip_k0_t1.sl.r_24 (F := Ideal) a3 (w3.unread x) k (ix2 p l) = xr x k p (colAt 30 l) := by
  unfold trip_k0_t1.sl.r_24
  rw [pay23_at]
  rw [load_x31]

/-- The row's deviation, in every lane. -/
theorem r_25_at : trip_k0_t1.sl.r_25 (F := Ideal) a3 (w3.unread x) k (ix2 p l) = dev x k p := by
  unfold trip_k0_t1.sl.r_25
  rw [pay24_at]
  unfold dev mean
  refine congrArg (fun z => Ideal.sqrt (Ideal.div z cols + eps))
    (Eq.trans (Finset.sum_congr rfl fun l _ => ?_) (sum_chunks fun j => cen x k p j * cen x k p j))
  rw [r_22_at, r_23_at, r_24_at, r_4_at, load_x32]
  simp only [Finset.sum_range_succ, Finset.sum_range_zero, zero_add]

/-- The largest absolute value in the first 2 chunks. -/
theorem r_26_at : trip_k0_t1.sl.r_26 (F := Ideal) a3 a4 (w3.unread x) (w4.unread g) k (ix2 p l) = supTo (fun c => abs' (nrm x g k p (colAt c l))) 2 := by
  unfold trip_k0_t1.sl.r_26
  rw [pay25_at]
  rw [show k0_pay24 (F := Ideal) _ _ _ _ _ _ = trip_k0_t1.sl.r_25 (F := Ideal) a3 (w3.unread x) k from rfl, r_25_at]
  rw [r_4_at, load_x1, load_g1, load_x2, load_g2]
  simp only [supTo]
  rw [max_eq_right bot_le]
  rfl

/-- Chunk 2. -/
theorem r_27_at : trip_k0_t1.sl.r_27 (F := Ideal) a3 (w3.unread x) k (ix2 p l) = xr x k p (colAt 2 l) := by
  unfold trip_k0_t1.sl.r_27
  rw [pay26_at]
  rw [load_x3]

/-- The largest absolute value in the first 6 chunks. -/
theorem r_28_at : trip_k0_t1.sl.r_28 (F := Ideal) a3 a4 (w3.unread x) (w4.unread g) k (ix2 p l) = supTo (fun c => abs' (nrm x g k p (colAt c l))) 6 := by
  unfold trip_k0_t1.sl.r_28
  rw [pay27_at]
  rw [r_4_at, r_25_at, r_26_at, r_27_at, load_g3, load_x4, load_g4, load_x5, load_g5, load_x6, load_g6]
  rfl

/-- Chunk 6, less the mean. -/
theorem r_29_at : trip_k0_t1.sl.r_29 (F := Ideal) a3 (w3.unread x) k (ix2 p l) = Ideal.div (cen x k p (colAt 6 l)) (dev x k p) := by
  unfold trip_k0_t1.sl.r_29
  rw [pay28_at]
  rw [r_4_at, r_25_at, load_x7]

/-- The largest absolute value in the first 10 chunks. -/
theorem r_30_at : trip_k0_t1.sl.r_30 (F := Ideal) a3 a4 (w3.unread x) (w4.unread g) k (ix2 p l) = supTo (fun c => abs' (nrm x g k p (colAt c l))) 10 := by
  unfold trip_k0_t1.sl.r_30
  rw [pay29_at]
  rw [r_4_at, r_25_at, r_28_at, r_29_at, load_g7, load_x8, load_g8, load_x9, load_g9, load_x10, load_g10]
  rfl

/-- Chunk 10, as far as this stage takes it. -/
theorem r_31_at : trip_k0_t1.sl.r_31 (F := Ideal) a3 a4 (w3.unread x) (w4.unread g) k (ix2 p l) = nrm x g k p (colAt 10 l) := by
  unfold trip_k0_t1.sl.r_31
  rw [pay30_at]
  rw [r_4_at, r_25_at, load_x11, load_g11]
  rfl

/-- The largest absolute value in the first 15 chunks. -/
theorem r_32_at : trip_k0_t1.sl.r_32 (F := Ideal) a3 a4 (w3.unread x) (w4.unread g) k (ix2 p l) = supTo (fun c => abs' (nrm x g k p (colAt c l))) 15 := by
  unfold trip_k0_t1.sl.r_32
  rw [pay31_at]
  rw [r_4_at, r_25_at, r_30_at, r_31_at, load_x12, load_g12, load_x13, load_g13, load_x14, load_g14, load_x15, load_g15]
  rfl

/-- The largest absolute value in the first 19 chunks. -/
theorem r_33_at : trip_k0_t1.sl.r_33 (F := Ideal) a3 a4 (w3.unread x) (w4.unread g) k (ix2 p l) = supTo (fun c => abs' (nrm x g k p (colAt c l))) 19 := by
  unfold trip_k0_t1.sl.r_33
  rw [pay32_at]
  rw [r_4_at, r_25_at, r_32_at, load_x16, load_g16, load_x17, load_g17, load_x18, load_g18, load_x19, load_g19]
  rfl

/-- Chunk 19, as far as this stage takes it. -/
theorem r_34_at : trip_k0_t1.sl.r_34 (F := Ideal) a3 (w3.unread x) k (ix2 p l) = Ideal.div (cen x k p (colAt 19 l)) (dev x k p) := by
  unfold trip_k0_t1.sl.r_34
  rw [pay33_at]
  rw [r_4_at, r_25_at, load_x20]

/-- The largest absolute value in the first 23 chunks. -/
theorem r_35_at : trip_k0_t1.sl.r_35 (F := Ideal) a3 a4 (w3.unread x) (w4.unread g) k (ix2 p l) = supTo (fun c => abs' (nrm x g k p (colAt c l))) 23 := by
  unfold trip_k0_t1.sl.r_35
  rw [pay34_at]
  rw [r_4_at, r_25_at, r_33_at, r_34_at, load_g20, load_x21, load_g21, load_x22, load_g22, load_x23, load_g23]
  rfl

/-- Chunk 23, as far as this stage takes it. -/
theorem r_36_at : trip_k0_t1.sl.r_36 (F := Ideal) a3 (w3.unread x) k (ix2 p l) = Ideal.div (cen x k p (colAt 23 l)) (dev x k p) := by
  unfold trip_k0_t1.sl.r_36
  rw [pay35_at]
  rw [r_4_at, r_25_at, load_x24]

/-- The gains of chunk 23. -/
theorem r_37_at : trip_k0_t1.sl.r_37 (F := Ideal) a4 (w4.unread g) (ix2 0 l) = gr g (colAt 23 l) := by
  unfold trip_k0_t1.sl.r_37
  rw [pay36_at]
  rw [load_g24]

/-- The largest absolute value in the first 28 chunks. -/
theorem r_38_at : trip_k0_t1.sl.r_38 (F := Ideal) a3 a4 (w3.unread x) (w4.unread g) k (ix2 p l) = supTo (fun c => abs' (nrm x g k p (colAt c l))) 28 := by
  unfold trip_k0_t1.sl.r_38
  rw [pay37_at]
  rw [r_4_at, r_25_at, r_35_at, r_36_at, r_37_at, load_x25, load_g25, load_x26, load_g26, load_x27, load_g27, load_x28, load_g28]
  rfl

/-- The row's largest absolute value. -/
theorem r_39_at : trip_k0_t1.sl.r_39 (F := Ideal) a3 a4 (w3.unread x) (w4.unread g) k (ix2 p 0) = rowTop (nrm x g k p) := by
  unfold trip_k0_t1.sl.r_39
  rw [pay38_at]
  refine Eq.trans (Finset.fold_congr fun l _ => ?_) (max_chunks fun j => abs' (nrm x g k p j))
  rw [r_38_at, r_4_at, r_25_at, load_x29, load_x30, load_x31, load_x32, load_g29, load_g30, load_g31, load_g32]
  rfl

/-- The row's scale. -/
theorem r_40_at : trip_k0_t1.sl.r_40 (F := Ideal) a3 a4 (w3.unread x) (w4.unread g) k (ix2 p 0) = tokScale (xr x k p) (gr g) := by
  unfold trip_k0_t1.sl.r_40
  rw [pay39_at, r_39_at]
  rfl

end Cert.QkvIdeal.Blocks
end
-- ==== Proof.QkvBlock.lean ====
module

public import proofs.«01_k».proof.Proof.Gen.QkvIdeal.Value
public import Idealize.ShloMosaic.Lib.Pipeline.ValueKit
public import Idealize.ShloMosaic.Lib.Pipeline.ReadBack
public import proofs.«01_k».proof.Proof.QkvTrip

@[expose] public section

set_option maxRecDepth 16384

noncomputable section

namespace Cert.QkvIdeal.Blocks

open Cert.QkvIdeal Cert.QkvIdeal.Gen Idealize.ShloMosaic Idealize.ShloMosaic.TcCoe Idealize.SL.Sem
open Idealize.ShloMosaic.Pipeline (Dat)
open Cert.GateUpIdeal.Blocks (abs' abs'_nonneg scaleOf)

variable (c : Dev nD) (i : grid0.Coords) (a1 : Memref sig .tc .smem S1x4 .f32) (w1 : a1.IsWhole) (a2 : Memref sig .tc .smem S1x4 .f32) (w2 : a2.IsWhole)
variable (a3 : Memref sig .tc .vmem S256x4096 .bf16) (w3 : a3.IsWhole) (a4 : Memref sig .tc .vmem S1x4096 .f32) (w4 : a4.IsWhole)
variable (a5 : Memref sig .tc .vmem S4096x3072 .fp8e4m3) (w5 : a5.IsWhole) (a6 : Memref sig .tc .vmem S1x3072 .f32) (w6 : a6.IsWhole) (a7 : Memref sig .tc .vmem S1x2048 .f32) (w7 : a7.IsWhole) (a8 : Memref sig .tc .vmem S1x512 .f32) (w8 : a8.IsWhole) (a9 : Memref sig .tc .vmem S256x64 .f32) (w9 : a9.IsWhole) (a10 : Memref sig .tc .vmem S256x64 .f32) (w10 : a10.IsWhole) (a11 : Memref sig .tc .vmem S256x4096 .fp8e4m3) (w11 : a11.IsWhole) (a12 : Memref sig .tc .vmem S256x1 .f32) (w12 : a12.IsWhole) (a13 : Memref sig .tc .vmem S256x2048 .bf16) (w13 : a13.IsWhole) (a14 : Memref sig .tc .vmem S256x512 .fp8e4m3) (w14 : a14.IsWhole) (a15 : Memref sig .tc .vmem S256x512 .fp8e4m3) (w15 : a15.IsWhole)
variable (x : FVec Ideal S256x4096 .bf16) (g : FVec Ideal S1x4096 .f32) (k : Fin k0_t1_loop.trips)

/-! ## The codes and the scales of a block of 256 rows -/

/-- The block's codes. -/
def blkCode : FVec Ideal S256x4096 .fp8e4m3 := fun y => tokCode (fun j => x (ix2 (y 0) j)) (gr g) (y 1)

/-- The block's scales. -/
def blkScale : FVec Ideal S256x1 .f32 := fun y => tokScale (fun j => x (ix2 (y 0) j)) (gr g)

/-- Every code a trip stores in one chunk is the block's code there. -/
theorem piece_of (off : Fin 2 → ℕ) (n : ℕ) (hn : n < 32) (h : off = ![128 * k.val, 128 * n]) (inb)
    (P : FVec Ideal S128x128 .fp8e4m3) (hP : ∀ p l, P (ix2 p l) = tokCode (xr x k p) (gr g) (colAt n l)) :
    ∀ y : (Rect.unit (s := S256x4096) off S128x128.size inb).shape.Idx,
      P y = blkCode x g ((Rect.unit (s := S256x4096) off S128x128.size inb).emb y) := by
  subst h
  intro y
  obtain ⟨p, l, rfl⟩ : ∃ (p : Fin 128) (l : Fin 128), y = ix2 p l := ⟨y 0, y 1, by ext a; fin_cases a <;> rfl⟩
  have hk : k.val < 2 := Nat.lt_of_lt_of_le k.isLt k0_t1_abs.2.1
  have e : (Rect.unit (s := S256x4096) ![128 * k.val, 128 * n] S128x128.size inb).emb (ix2 p l) = ix2 (rowAt k p) (colAt n l) := by
    ext a
    fin_cases a
    · show 128 * k.val + 1 * p.val = (128 * k.val + p.val) % 256
      omega
    · show 128 * n + 1 * l.val = (128 * n + l.val) % 4096
      omega
  rw [hP, e]
  rfl

/-- Every code that trip `k` stores is the block's code at its place. -/
theorem trip_codes : ∀ q ∈ (tripL_k0_t1 (F := Ideal) Variants.none c none i a1 w1 a2 w2 a3 w3 a4 w4 a5 w5 a6 w6 a7 w7 a8 w8 a9 w9 a10 w10 a11 w11 a12 w12 a13 w13 a14 w14 a15 w15
    (w3.unread x) (w4.unread g) k).1, ∀ y, q.2 y = blkCode x g (q.1.emb y) := by
  unfold tripL_k0_t1 trip_k0_t1
  dsimp only
  refine List.forall_mem_cons.2 ⟨?_, ?_⟩
  · refine piece_of x g k _ 31 (by decide) (off32 k) (k0_off32_inb k) _ fun p l => ?_
    dsimp only
    unfold trip_k0_t1.sl.r_56
    rw [pay81_at, r_4_at, r_25_at, r_40_at, load_x32, load_g32]
    rfl
  refine List.forall_mem_cons.2 ⟨?_, ?_⟩
  · refine piece_of x g k _ 30 (by decide) (off31 k) (k0_off31_inb k) _ fun p l => ?_
    dsimp only
    unfold trip_k0_t1.sl.r_55
    rw [pay80_at, pay79_at, r_4_at, r_25_at, r_40_at, load_x31, load_g31]
    rfl
  refine List.forall_mem_cons.2 ⟨?_, ?_⟩
  · refine piece_of x g k _ 29 (by decide) (off30 k) (k0_off30_inb k) _ fun p l => ?_
    dsimp only
    rw [pay78_at, r_4_at, r_25_at, r_40_at, load_x30, load_g30]
    rfl
  refine List.forall_mem_cons.2 ⟨?_, ?_⟩
  · refine piece_of x g k _ 28 (by decide) (off29 k) (k0_off29_inb k) _ fun p l => ?_
    dsimp only
    unfold trip_k0_t1.sl.r_54
    rw [pay77_at, r_40_at, pay76_at, r_4_at, r_25_at, load_x29, load_g29]
    rfl
  refine List.forall_mem_cons.2 ⟨?_, ?_⟩
  · refine piece_of x g k _ 27 (by decide) (off28 k) (k0_off28_inb k) _ fun p l => ?_
    dsimp only
    rw [pay75_at, r_4_at, r_25_at, r_40_at, load_x28, load_g28]
    rfl
  refine List.forall_mem_cons.2 ⟨?_, ?_⟩
  · refine piece_of x g k _ 26 (by decide) (off27 k) (k0_off27_inb k) _ fun p l => ?_
    dsimp only
    rw [pay74_at, r_4_at, r_25_at, r_40_at, load_x27, load_g27]
    rfl
  refine List.forall_mem_cons.2 ⟨?_, ?_⟩
  · refine piece_of x g k _ 25 (by decide) (off26 k) (k0_off26_inb k) _ fun p l => ?_
    dsimp only
    unfold trip_k0_t1.sl.r_53
    rw [pay73_at, r_4_at, r_25_at, r_40_at, load_x26, load_g26]
    rfl
  refine List.forall_mem_cons.2 ⟨?_, ?_⟩
  · refine piece_of x g k _ 24 (by decide) (off25 k) (k0_off25_inb k) _ fun p l => ?_
    dsimp only
    rw [pay72_at, r_4_at, r_25_at, r_40_at, load_x25, load_g25]
    rfl
  refine List.forall_mem_cons.2 ⟨?_, ?_⟩
  · refine piece_of x g k _ 23 (by decide) (off24 k) (k0_off24_inb k) _ fun p l => ?_
    dsimp only
    unfold trip_k0_t1.sl.r_51 trip_k0_t1.sl.r_52
    rw [pay71_at, pay69_at, r_4_at, r_25_at, load_x24, load_g24, pay70_at, r_40_at]
    rfl
  refine List.forall_mem_cons.2 ⟨?_, ?_⟩
  · refine piece_of x g k _ 22 (by decide) (off23 k) (k0_off23_inb k) _ fun p l => ?_
    dsimp only
    rw [pay68_at, r_4_at, r_25_at, r_40_at, load_x23, load_g23]
    rfl
  refine List.forall_mem_cons.2 ⟨?_, ?_⟩
  · refine piece_of x g k _ 21 (by decide) (off22 k) (k0_off22_inb k) _ fun p l => ?_
    dsimp only
    unfold trip_k0_t1.sl.r_50
    rw [pay67_at, r_4_at, r_25_at, r_40_at, load_x22, load_g22]
    rfl
  refine List.forall_mem_cons.2 ⟨?_, ?_⟩
  · refine piece_of x g k _ 20 (by decide) (off21 k) (k0_off21_inb k) _ fun p l => ?_
    dsimp only
    rw [pay66_at, r_4_at, r_25_at, r_40_at, load_x21, load_g21]
    rfl
  refine List.forall_mem_cons.2 ⟨?_, ?_⟩
  · refine piece_of x g k _ 19 (by decide) (off20 k) (k0_off20_inb k) _ fun p l => ?_
    dsimp only
    rw [pay65_at, r_4_at, r_25_at, r_40_at, load_x20, load_g20]
    rfl
  refine List.forall_mem_cons.2 ⟨?_, ?_⟩
  · refine piece_of x g k _ 18 (by decide) (off19 k) (k0_off19_inb k) _ fun p l => ?_
    dsimp only
    unfold trip_k0_t1.sl.r_49
    rw [pay64_at, pay63_at, r_4_at, r_25_at, r_40_at, load_x19, load_g19]
    rfl
  refine List.forall_mem_cons.2 ⟨?_, ?_⟩
  · refine piece_of x g k _ 17 (by decide) (off18 k) (k0_off18_inb k) _ fun p l => ?_
    dsimp only
    rw [pay62_at, r_4_at, r_25_at, r_40_at, load_x18, load_g18]
    rfl
  refine List.forall_mem_cons.2 ⟨?_, ?_⟩
  · refine piece_of x g k _ 16 (by decide) (off17 k) (k0_off17_inb k) _ fun p l => ?_
    dsimp only
    unfold trip_k0_t1.sl.r_48
    rw [pay61_at, r_40_at, pay60_at, r_4_at, r_25_at, load_x17, load_g17]
    rfl
  refine List.forall_mem_cons.2 ⟨?_, ?_⟩
  · refine piece_of x g k _ 15 (by decide) (off16 k) (k0_off16_inb k) _ fun p l => ?_
    dsimp only
    rw [pay59_at, r_4_at, r_25_at, r_40_at, load_x16, load_g16]
    rfl
  refine List.forall_mem_cons.2 ⟨?_, ?_⟩
  · refine piece_of x g k _ 14 (by decide) (off15 k) (k0_off15_inb k) _ fun p l => ?_
    dsimp only
    rw [pay58_at, r_4_at, r_25_at, r_40_at, load_x15, load_g15]
    rfl
  refine List.forall_mem_cons.2 ⟨?_, ?_⟩
  · refine piece_of x g k _ 13 (by decide) (off14 k) (k0_off14_inb k) _ fun p l => ?_
    dsimp only
    unfold trip_k0_t1.sl.r_47
    rw [pay57_at, r_4_at, r_25_at, r_40_at, load_x14, load_g14]
    rfl
  refine List.forall_mem_cons.2 ⟨?_, ?_⟩
  · refine piece_of x g k _ 12 (by decide) (off13 k) (k0_off13_inb k) _ fun p l => ?_
    dsimp only
    rw [pay56_at, r_4_at, r_25_at, r_40_at, load_x13, load_g13]
    rfl
  refine List.forall_mem_cons.2 ⟨?_, ?_⟩
  · refine piece_of x g k _ 11 (by decide) (off12 k) (k0_off12_inb k) _ fun p l => ?_
    dsimp only
    unfold trip_k0_t1.sl.r_45 trip_k0_t1.sl.r_46
    rw [pay55_at, pay53_at, r_4_at, r_25_at, load_x12, load_g12, pay54_at, r_40_at]
    rfl
  refine List.forall_mem_cons.2 ⟨?_, ?_⟩
  · refine piece_of x g k _ 10 (by decide) (off11 k) (k0_off11_inb k) _ fun p l => ?_
    dsimp only
    rw [pay52_at, r_4_at, r_25_at, r_40_at, load_x11, load_g11]
    rfl
  refine List.forall_mem_cons.2 ⟨?_, ?_⟩
  · refine piece_of x g k _ 9 (by decide) (off10 k) (k0_off10_inb k) _ fun p l => ?_
    dsimp only
    unfold trip_k0_t1.sl.r_44
    rw [pay51_at, r_4_at, r_25_at, r_40_at, load_x10, load_g10]
    rfl
  refine List.forall_mem_cons.2 ⟨?_, ?_⟩
  · refine piece_of x g k _ 8 (by decide) (off9 k) (k0_off9_inb k) _ fun p l => ?_
    dsimp only
    rw [pay50_at, r_4_at, r_25_at, r_40_at, load_x9, load_g9]
    rfl
  refine List.forall_mem_cons.2 ⟨?_, ?_⟩
  · refine piece_of x g k _ 7 (by decide) (off8 k) (k0_off8_inb k) _ fun p l => ?_
    dsimp only
    rw [pay49_at, r_4_at, r_25_at, r_40_at, load_x8, load_g8]
    rfl
  refine List.forall_mem_cons.2 ⟨?_, ?_⟩
  · refine piece_of x g k _ 6 (by decide) (off7 k) (k0_off7_inb k) _ fun p l => ?_
    dsimp only
    unfold trip_k0_t1.sl.r_43
    rw [pay48_at, pay47_at, r_4_at, r_25_at, r_40_at, load_x7, load_g7]
    rfl
  refine List.forall_mem_cons.2 ⟨?_, ?_⟩
  · refine piece_of x g k _ 5 (by decide) (off6 k) (k0_off6_inb k) _ fun p l => ?_
    dsimp only
    rw [pay46_at, r_4_at, r_25_at, r_40_at, load_x6, load_g6]
    rfl
  refine List.forall_mem_cons.2 ⟨?_, ?_⟩
  · refine piece_of x g k _ 4 (by decide) (off5 k) (k0_off5_inb k) _ fun p l => ?_
    dsimp only
    unfold trip_k0_t1.sl.r_42
    rw [pay45_at, r_40_at, pay44_at, r_4_at, r_25_at, load_x5, load_g5]
    rfl
  refine List.forall_mem_cons.2 ⟨?_, ?_⟩
  · refine piece_of x g k _ 3 (by decide) (off4 k) (k0_off4_inb k) _ fun p l => ?_
    dsimp only
    rw [pay43_at, r_4_at, r_25_at, r_40_at, load_x4, load_g4]
    rfl
  refine List.forall_mem_cons.2 ⟨?_, ?_⟩
  · refine piece_of x g k _ 2 (by decide) (off3 k) (k0_off3_inb k) _ fun p l => ?_
    dsimp only
    rw [pay42_at, r_4_at, r_25_at, r_40_at, load_x3, load_g3]
    rfl
  refine List.forall_mem_cons.2 ⟨?_, ?_⟩
  · refine piece_of x g k _ 1 (by decide) (off2 k) (k0_off2_inb k) _ fun p l => ?_
    dsimp only
    unfold trip_k0_t1.sl.r_41
    rw [pay41_at, show k0_pay39 (F := Ideal) _ _ = trip_k0_t1.sl.r_40 (F := Ideal) a3 a4 (w3.unread x) (w4.unread g) k from rfl, r_4_at, r_25_at, load_x2, load_g2, r_40_at]
    rfl
  refine List.forall_mem_cons.2 ⟨?_, ?_⟩
  · refine piece_of x g k _ 0 (by decide) (off1 k) (k0_off1_inb k) _ fun p l => ?_
    dsimp only
    rw [pay40_at, show k0_pay39 (F := Ideal) _ _ = trip_k0_t1.sl.r_40 (F := Ideal) a3 a4 (w3.unread x) (w4.unread g) k from rfl, r_4_at, r_25_at, load_x1, load_g1, r_40_at]
    rfl
  exact List.forall_mem_nil _

/-- Every scale that trip `k` stores is the block's scale of its row. -/
theorem trip_scales : ∀ q ∈ (tripL_k0_t1 (F := Ideal) Variants.none c none i a1 w1 a2 w2 a3 w3 a4 w4 a5 w5 a6 w6 a7 w7 a8 w8 a9 w9 a10 w10 a11 w11 a12 w12 a13 w13 a14 w14 a15 w15
    (w3.unread x) (w4.unread g) k).2, ∀ y, q.2 y = blkScale x g (q.1.emb y) := by
  unfold tripL_k0_t1 trip_k0_t1
  dsimp only
  refine List.forall_mem_cons.2 ⟨?_, List.forall_mem_nil _⟩
  have hk : k.val < 2 := Nat.lt_of_lt_of_le k.isLt k0_t1_abs.2.1
  intro y
  obtain ⟨p, l, rfl⟩ : ∃ (p : Fin 128) (l : Fin 1), y = ix2 p l := ⟨y 0, y 1, by ext a; fin_cases a <;> rfl⟩
  obtain rfl : l = 0 := Subsingleton.elim _ _
  refine Eq.trans (b := tokScale (xr x k p) (gr g)) ?_ ?_
  · have e : k0_pay39 (F := Ideal) (trip_k0_t1.sl.r_39 (F := Ideal) a3 a4 (w3.unread x) (w4.unread g) k) (trip_k0_t1.sl.cst_509 (F := Ideal))
        = trip_k0_t1.sl.r_40 (F := Ideal) a3 a4 (w3.unread x) (w4.unread g) k := rfl
    dsimp only
    rw [e, r_40_at]
  · show _ = tokScale (fun j => x (ix2 _ j)) (gr g)
    refine congrArg (fun r => tokScale (fun j => x (ix2 r j)) (gr g)) (Fin.ext ?_)
    show (128 * k.val + p.val) % 256 = k0_off33 k 0 + 1 * p.val
    rw [off33 k]
    show (128 * k.val + p.val) % 256 = 128 * k.val + 1 * p.val
    omega

/-- So is everything the first `n` trips store. -/
theorem pieces : ∀ n ≤ k0_t1_loop.trips,
    (∀ q ∈ (pb_k0_t1 (F := Ideal) Variants.none c none i a1 w1 a2 w2 a3 w3 a4 w4 a5 w5 a6 w6 a7 w7 a8 w8 a9 w9 a10 w10 a11 w11 a12 w12 a13 w13 a14 w14 a15 w15
      (w3.unread x) (w4.unread g) n).1, ∀ y, q.2 y = blkCode x g (q.1.emb y))
    ∧ (∀ q ∈ (pb_k0_t1 (F := Ideal) Variants.none c none i a1 w1 a2 w2 a3 w3 a4 w4 a5 w5 a6 w6 a7 w7 a8 w8 a9 w9 a10 w10 a11 w11 a12 w12 a13 w13 a14 w14 a15 w15
      (w3.unread x) (w4.unread g) n).2, ∀ y, q.2 y = blkScale x g (q.1.emb y)) := by
  intro n
  induction n with
  | zero => exact fun _ => ⟨List.forall_mem_nil _, List.forall_mem_nil _⟩
  | succ n ih =>
    intro hn
    obtain ⟨h1, h2⟩ := ih (by omega)
    have e := pb_k0_t1_succ (F := Ideal) Variants.none c none i a1 w1 a2 w2 a3 w3 a4 w4 a5 w5 a6 w6 a7 w7 a8 w8 a9 w9 a10 w10 a11 w11 a12 w12 a13 w13 a14 w14 a15 w15
      (w3.unread x) (w4.unread g) ⟨n, hn⟩
    refine ⟨fun q hq => ?_, fun q hq => ?_⟩
    · rw [show (⟨n, hn⟩ : Fin k0_t1_loop.trips).val + 1 = n + 1 from rfl] at e
      rw [e] at hq
      rcases List.mem_append.1 hq with h | h
      · exact trip_codes c i a1 w1 a2 w2 a3 w3 a4 w4 a5 w5 a6 w6 a7 w7 a8 w8 a9 w9 a10 w10 a11 w11 a12 w12 a13 w13 a14 w14 a15 w15 x g _ q h
      · exact h1 q h
    · rw [show (⟨n, hn⟩ : Fin k0_t1_loop.trips).val + 1 = n + 1 from rfl] at e
      rw [e] at hq
      rcases List.mem_append.1 hq with h | h
      · exact trip_scales c i a1 w1 a2 w2 a3 w3 a4 w4 a5 w5 a6 w6 a7 w7 a8 w8 a9 w9 a10 w10 a11 w11 a12 w12 a13 w13 a14 w14 a15 w15 x g _ q h
      · exact h2 q h

/-- What the loop leaves in the codes' block. -/
theorem canon_codes : View.canon (pb_k0_t1 (F := Ideal) Variants.none c none i a1 w1 a2 w2 a3 w3 a4 w4 a5 w5 a6 w6 a7 w7 a8 w8 a9 w9 a10 w10 a11 w11 a12 w12 a13 w13 a14 w14 a15 w15
    (w3.unread x) (w4.unread g) (Scf.trips 0#32 (Scalar.addi 0#32 2#32) 1#32)).1 = blkCode x g := by
  funext y
  refine View.canon_apply_of_pieces _ _ (pieces c i a1 w1 a2 w2 a3 w3 a4 w4 a5 w5 a6 w6 a7 w7 a8 w8 a9 w9 a10 w10 a11 w11 a12 w12 a13 w13 a14 w14 a15 w15 x g _ le_rfl).1 y ?_
  have h := cover0_A_10 (F := Ideal) c i a1 w1 a2 w2 a3 w3 a4 w4 a5 w5 a6 w6 a7 w7 a8 w8 a9 w9 a10 w10 a11 w11 a12 w12 a13 w13 a14 w14 a15 w15 (fun _ => 0) (fun _ => 0) x g (fun _ => 0) (fun _ => 0) (fun _ => 0) (fun _ => 0) (fun _ => 0) (fun _ => 0) y
  unfold kernelRun0_A at h
  exact h

/-- What the loop leaves in the scales' block. -/
theorem canon_scales : View.canon (pb_k0_t1 (F := Ideal) Variants.none c none i a1 w1 a2 w2 a3 w3 a4 w4 a5 w5 a6 w6 a7 w7 a8 w8 a9 w9 a10 w10 a11 w11 a12 w12 a13 w13 a14 w14 a15 w15
    (w3.unread x) (w4.unread g) (Scf.trips 0#32 (Scalar.addi 0#32 2#32) 1#32)).2 = blkScale x g := by
  funext y
  refine View.canon_apply_of_pieces _ _ (pieces c i a1 w1 a2 w2 a3 w3 a4 w4 a5 w5 a6 w6 a7 w7 a8 w8 a9 w9 a10 w10 a11 w11 a12 w12 a13 w13 a14 w14 a15 w15 x g _ le_rfl).2 y ?_
  have h := cover0_A_11 (F := Ideal) c i a1 w1 a2 w2 a3 w3 a4 w4 a5 w5 a6 w6 a7 w7 a8 w8 a9 w9 a10 w10 a11 w11 a12 w12 a13 w13 a14 w14 a15 w15 (fun _ => 0) (fun _ => 0) x g (fun _ => 0) (fun _ => 0) (fun _ => 0) (fun _ => 0) (fun _ => 0) (fun _ => 0) y
  unfold kernelRun0_A at h
  exact h

end Cert.QkvIdeal.Blocks
end
-- ==== Proof.QkvHeads.lean ====
module

public import proofs.«01_k».proof.Proof.Gen.QkvIdeal.Value
public import Idealize.ShloMosaic.Lib.Pipeline.ValueKit
public import Idealize.ShloMosaic.Lib.Pipeline.ReadBack
public import proofs.«01_k».proof.Proof.QkvSpec

@[expose] public section

set_option maxRecDepth 16384

noncomputable section

namespace Cert.QkvIdeal.Blocks

open Cert.QkvIdeal Cert.QkvIdeal.Gen Idealize.ShloMosaic Idealize.ShloMosaic.TcCoe Idealize.SL.Sem
open Idealize.ShloMosaic.Pipeline (Dat)
open Cert.GateUpIdeal.Blocks (abs' abs'_nonneg scaleOf)

/-! ## The stages of one head -/

/-- The layer norm of a head's 256 rows of 128 lanes. -/
def headNorm (H : FVec Ideal S256x128 .f32) (g : Vec Ideal S1x128 .f32) : FVec Ideal S256x128 .f32 :=
  have v80 : FVec Ideal S1x128 .f32 := shapeCast S1x128 g shapeCasts_S1x128_S1x128
  have v81 : FVec Ideal S256 .f32 := multiReduction .add [1] S256 H 0x00000000#32 reduces_S256x128_S256 (.inl rfl) rfl
  have v82 : FVec Ideal S256x1 .f32 := shapeCast S256x1 v81 shapeCasts_S256_S256x1
  have cst_34 : Ideal .f32 := Scalar.ofBits (F := Ideal) .f32 0x43000000#32
  have v83 : FVec Ideal S256x1 .f32 := broadcast S256x1 cst_34
  have v84 : FVec Ideal S256x1 .f32 := divf v82 v83
  have v85 : FVec Ideal S256x128 .f32 := broadcastTo S256x128 v84 broadcasts_S256x1_S256x128
  have v86 : FVec Ideal S256x128 .f32 := subf H v85
  have v87 : FVec Ideal S256x128 .f32 := mulf v86 v86
  have v88 : FVec Ideal S256 .f32 := multiReduction .add [1] S256 v87 0x00000000#32 reduces_S256x128_S256 (.inl rfl) rfl
  have v89 : FVec Ideal S256x1 .f32 := shapeCast S256x1 v88 shapeCasts_S256_S256x1
  have cst_36 : Ideal .f32 := Scalar.ofBits (F := Ideal) .f32 0x43000000#32
  have v90 : FVec Ideal S256x1 .f32 := broadcast S256x1 cst_36
  have v91 : FVec Ideal S256x1 .f32 := divf v89 v90
  have cst_37 : Ideal .f32 := Scalar.ofBits (F := Ideal) .f32 0x3727C5AC#32
  have v92 : FVec Ideal S256x1 .f32 := broadcast S256x1 cst_37
  have v93 : FVec Ideal S256x1 .f32 := addf v91 v92
  have v94 : FVec Ideal S256x1 .f32 := sqrt v93
  have v95 : FVec Ideal S256x128 .f32 := broadcastTo S256x128 v94 broadcasts_S256x1_S256x128
  have v96 : FVec Ideal S256x128 .f32 := divf v86 v95
  have v97 : FVec Ideal S256x128 .f32 := broadcastTo S256x128 v80 broadcasts_S1x128_S256x128
  have v98 : FVec Ideal S256x128 .f32 := mulf v96 v97
  v98

/-- The rotation by position of a head's rows, by cosines `cs` and signed sines `sn`. -/
def headTurn (cs sn T : FVec Ideal S256x128 .f32) : FVec Ideal S256x128 .f32 :=
  have v99 : FVec Ideal S256x128 .f32 := mulf T cs
  have v100 : IVec S256x128 32 := iota .tc S256x128 32 [1] iota_S256x128_d1_w32
  have v101 : IVec S256x128 32 := broadcast S256x128 1#32
  have v102 : IVec S256x128 32 := andi v100 v101
  have v103 : IVec S256x128 32 := broadcast S256x128 0#32
  have v104 : IVec S256x128 1 := cmpi .eq v102 v103
  have v105 : FVec Ideal S256x128 .f32 := dynamicRotate 1 127#32 none T rotates_S256x128_d1
  have v106 : FVec Ideal S256x128 .f32 := dynamicRotate 1 1#32 none T rotates_S256x128_d1
  have v107 : FVec Ideal S256x128 .f32 := select v104 v105 v106
  have v108 : FVec Ideal S256x128 .f32 := mulf v107 sn
  have v109 : FVec Ideal S256x128 .f32 := addf v99 v108
  v109

/-- A head of queries: normalised, rotated, rounded. -/
def qHead (cs sn H : FVec Ideal S256x128 .f32) (g : Vec Ideal S1x128 .f32) : FVec Ideal S256x128 .bf16 :=
  truncf .bf16 (headTurn cs sn (headNorm H g)) bitsLt_bf16_f32

/-- Codes at one scale of a head's rows. -/
def codesAt (T : FVec Ideal S256x128 .f32) (s : EReal) : FVec Ideal S256x128 .fp8e4m3 :=
  truncf .fp8e4m3 (minimumf (broadcast S256x128 (Scalar.ofBits (F := Ideal) .f32 0x43E00000#32)) (maximumf (broadcast S256x128 (Scalar.ofBits (F := Ideal) .f32 0xC3E00000#32)) (divf T (broadcast S256x128 s)))) bitsLt_fp8e4m3_f32

/-- A head of keys: normalised, rotated, coded. -/
def kHead (cs sn H : FVec Ideal S256x128 .f32) (g : Vec Ideal S1x128 .f32) (s : EReal) : FVec Ideal S256x128 .fp8e4m3 :=
  codesAt (headTurn cs sn (headNorm H g)) s

/-- Head `0`, `1`, `2`, `3` of a tile of four heads. -/
def head0 (Y : FVec Ideal S256x512 .f32) : FVec Ideal S256x128 .f32 := extractStridedSlice S256x128 ![0, 0] Y slices_S256x512_o0_0_S256x128
/-- The second head. -/
def head1 (Y : FVec Ideal S256x512 .f32) : FVec Ideal S256x128 .f32 := extractStridedSlice S256x128 ![0, 128] Y slices_S256x512_o0_128_S256x128
/-- The third head. -/
def head2 (Y : FVec Ideal S256x512 .f32) : FVec Ideal S256x128 .f32 := extractStridedSlice S256x128 ![0, 256] Y slices_S256x512_o0_256_S256x128
/-- The fourth head. -/
def head3 (Y : FVec Ideal S256x512 .f32) : FVec Ideal S256x128 .f32 := extractStridedSlice S256x128 ![0, 384] Y slices_S256x512_o0_384_S256x128

/-! ## Each payload is one of these -/

variable (c2 : FVec Ideal S256x4096 .fp8e4m3) (s2 : FVec Ideal S256x1 .f32) (cs sn : FVec Ideal S256x128 .f32) (W : Vec Ideal S4096x512 .fp8e4m3) (WS : Vec Ideal S1x512 .f32)
variable (Y : FVec Ideal S256x512 .f32) (g : Vec Ideal S1x128 .f32) (s : EReal)

theorem tile99 : k0_pay99 (F := Ideal) c2 s2 W WS = k0_pay88 (F := Ideal) c2 s2 W WS := rfl

theorem tile129 : k0_pay129 (F := Ideal) c2 s2 W WS = k0_pay88 (F := Ideal) c2 s2 W WS := rfl

theorem tile140 : k0_pay140 (F := Ideal) c2 s2 W WS = k0_pay88 (F := Ideal) c2 s2 W WS := rfl

theorem tile113 : k0_pay113 (F := Ideal) (k0_pay111 c2 s2 W) (k0_pay112 WS) = k0_pay88 (F := Ideal) c2 s2 W WS := rfl

theorem q0_eq : k0_pay89 (F := Ideal) c2 s2 cs sn W WS g = qHead cs sn (head0 (k0_pay88 (F := Ideal) c2 s2 W WS)) g := rfl

theorem q1_eq : k0_pay90 (F := Ideal) cs sn Y g = qHead cs sn (head1 Y) g := rfl

theorem q2_eq : k0_pay94 (F := Ideal) cs sn (k0_pay91 Y) (k0_pay92 g) (k0_pay93 Y) = qHead cs sn (head2 Y) g := rfl

theorem q3_eq : k0_pay98 (F := Ideal) cs sn (k0_pay95 g) (k0_pay96 Y) (k0_pay97 Y) = qHead cs sn (head3 Y) g := rfl

theorem q4_eq : k0_pay103 (F := Ideal) cs sn (k0_pay100 g) (k0_pay101 c2 s2 W WS) (k0_pay102 c2 s2 W WS) = qHead cs sn (head0 (k0_pay88 (F := Ideal) c2 s2 W WS)) g := rfl

theorem q5_eq : k0_pay108 (F := Ideal) sn (k0_pay104 Y g) (k0_pay105 cs Y g) k0_pay106 k0_pay107 = qHead cs sn (head1 Y) g := rfl

theorem q6_eq : k0_pay109 (F := Ideal) cs sn Y g = qHead cs sn (head2 Y) g := rfl

theorem q7_eq : k0_pay110 (F := Ideal) cs sn Y g = qHead cs sn (head3 Y) g := rfl

theorem q8_eq : k0_pay114 (F := Ideal) cs sn (k0_pay111 c2 s2 W) (k0_pay112 WS) g = qHead cs sn (head0 (k0_pay88 (F := Ideal) c2 s2 W WS)) g := rfl

theorem q9_eq : k0_pay119 (F := Ideal) cs sn (k0_pay115 (k0_pay111 c2 s2 W) (k0_pay112 WS)) (k0_pay116 g) (k0_pay117 (k0_pay111 c2 s2 W) (k0_pay112 WS)) k0_pay118 = qHead cs sn (head1 (k0_pay88 (F := Ideal) c2 s2 W WS)) g := rfl

theorem q10_eq : k0_pay124 (F := Ideal) cs sn (k0_pay120 g) (k0_pay121 Y) (k0_pay122 Y) k0_pay123 = qHead cs sn (head2 Y) g := rfl

theorem q11_eq : k0_pay128 (F := Ideal) sn (k0_pay125 Y g) (k0_pay126 cs Y g) k0_pay127 0#32 = qHead cs sn (head3 Y) g := rfl

theorem q12_eq : k0_pay133 (F := Ideal) sn (k0_pay130 c2 s2 W WS g) (k0_pay131 c2 s2 cs W WS g) k0_pay132 = qHead cs sn (head0 (k0_pay88 (F := Ideal) c2 s2 W WS)) g := rfl

theorem q13_eq : k0_pay134 (F := Ideal) cs sn Y g = qHead cs sn (head1 Y) g := rfl

theorem q14_eq : k0_pay135 (F := Ideal) cs sn Y g = qHead cs sn (head2 Y) g := rfl

theorem q15_eq : k0_pay139 (F := Ideal) cs sn (k0_pay136 Y) (k0_pay137 g) (k0_pay138 Y) (FloatOps.ofBits FTy.f32 1124073472#32) = qHead cs sn (head3 Y) g := rfl

theorem k0_eq : k0_pay144 (F := Ideal) cs sn (k0_pay141 c2 s2 W WS) (k0_pay142 g) (k0_pay143 c2 s2 W WS) s = kHead cs sn (head0 (k0_pay88 (F := Ideal) c2 s2 W WS)) g s := rfl

theorem k1_eq : k0_pay148 (F := Ideal) cs sn (k0_pay145 Y) (k0_pay146 g) (k0_pay147 Y) (FloatOps.ofBits FTy.f32 1124073472#32) s = kHead cs sn (head1 Y) g s := rfl

theorem k2_eq : k0_pay153 (F := Ideal) cs sn (k0_pay149 Y) (k0_pay150 g) (k0_pay151 Y) k0_pay152 s = kHead cs sn (head2 Y) g s := rfl

theorem k3_eq : k0_pay157 (F := Ideal) cs sn (k0_pay154 Y) (k0_pay155 g) (k0_pay156 Y) s = kHead cs sn (head3 Y) g s := rfl

theorem v0_eq : k0_pay161 (F := Ideal) (k0_pay158 c2 s2 W) (k0_pay159 WS) s = codesAt (head0 (k0_pay88 (F := Ideal) c2 s2 W WS)) s := rfl

theorem v1_eq : k0_pay162 (F := Ideal) (k0_pay158 c2 s2 W) (k0_pay159 WS) s = codesAt (head1 (k0_pay88 (F := Ideal) c2 s2 W WS)) s := rfl

theorem v2_eq : k0_pay163 (F := Ideal) (k0_pay158 c2 s2 W) (k0_pay159 WS) s = codesAt (head2 (k0_pay88 (F := Ideal) c2 s2 W WS)) s := rfl

theorem v3_eq : k0_pay1 (F := Ideal) (k0_pay164 (k0_pay158 c2 s2 W) (k0_pay159 WS) s) (FloatOps.ofBits FTy.f32 3286237184#32) (FloatOps.ofBits FTy.f32 1138753536#32) = codesAt (head3 (k0_pay88 (F := Ideal) c2 s2 W WS)) s := rfl

end Cert.QkvIdeal.Blocks
end
-- ==== Proof.QkvTurn.lean ====
module

public import proofs.«01_k».proof.Proof.Gen.QkvIdeal.Value
public import Idealize.ShloMosaic.Lib.Pipeline.ValueKit
public import Idealize.ShloMosaic.Lib.Pipeline.ReadBack
public import proofs.«01_k».proof.Proof.QkvHeads

@[expose] public section

set_option maxRecDepth 16384

noncomputable section

namespace Cert.QkvIdeal.Blocks

open Cert.QkvIdeal Cert.QkvIdeal.Gen Idealize.ShloMosaic Idealize.ShloMosaic.TcCoe Idealize.SL.Sem
open Idealize.ShloMosaic.Pipeline (Dat)
open Cert.GateUpIdeal.Blocks (abs' abs'_nonneg scaleOf)

/-! ## The stages of one head, read at an entry -/

/-- The layer norm of a head, read at an entry. -/
theorem headNorm_at (H : FVec Ideal S256x128 .f32) (g : Vec Ideal S1x128 .f32) (p : Fin 256) (d : Fin 128) :
    headNorm H g (ix2 p d) = normRow dims (fun e => H (ix2 p e)) (fun e => g (ix2 0 e)) d := by
  unfold headNorm
  pointwise
  rfl

/-- A code, read at an entry. -/
theorem codesAt_at (H : FVec Ideal S256x128 .f32) (s : EReal) (p : Fin 256) (d : Fin 128) :
    codesAt H s (ix2 p d) = codeOf (H (ix2 p d)) s := by
  unfold codesAt
  pointwise
  rfl

/-- A tile of the input projection, read at an entry. -/
theorem tile_at (C : FVec Ideal S256x4096 .fp8e4m3) (s : FVec Ideal S256x1 .f32) (W : Vec Ideal S4096x512 .fp8e4m3) (WS : Vec Ideal S1x512 .f32)
    (p : Fin 256) (j : Fin 512) :
    k0_pay88 (F := Ideal) C s W WS (ix2 p j) = (∑ k : Fin 4096, C (ix2 p k) * W (ix2 k j)) * s (ix2 p 0) * WS (ix2 0 j) := by
  unfold k0_pay88
  pointwise

/-- Head `0` of a tile is its lanes from `0` on. -/
theorem head0_at (Y : FVec Ideal S256x512 .f32) (p : Fin 256) (d : Fin 128) :
    head0 Y (ix2 p d) = Y (ix2 p ⟨0 + d.val, by omega⟩) := by
  unfold head0
  pointwise
  try rfl

/-- Head `1` of a tile is its lanes from `128` on. -/
theorem head1_at (Y : FVec Ideal S256x512 .f32) (p : Fin 256) (d : Fin 128) :
    head1 Y (ix2 p d) = Y (ix2 p ⟨128 + d.val, by omega⟩) := by
  unfold head1
  pointwise
  try rfl

/-- Head `2` of a tile is its lanes from `256` on. -/
theorem head2_at (Y : FVec Ideal S256x512 .f32) (p : Fin 256) (d : Fin 128) :
    head2 Y (ix2 p d) = Y (ix2 p ⟨256 + d.val, by omega⟩) := by
  unfold head2
  pointwise
  try rfl

/-- Head `3` of a tile is its lanes from `384` on. -/
theorem head3_at (Y : FVec Ideal S256x512 .f32) (p : Fin 256) (d : Fin 128) :
    head3 Y (ix2 p d) = Y (ix2 p ⟨384 + d.val, by omega⟩) := by
  unfold head3
  pointwise
  try rfl

/-- The lane that lane `d` reads its angle from. -/
theorem lane_half : ∀ d : Fin 128,
    (Scalar.select (IntOp.cmpi CmpIPredicate.slt (IntOp.shrsi ArithUnit.vector (BitVec.ofNat 32 d.val) 1#32) 0#32)
      (IntOp.addi (IntOp.shrsi ArithUnit.vector (BitVec.ofNat 32 d.val) 1#32) 128#32)
      (IntOp.shrsi ArithUnit.vector (BitVec.ofNat 32 d.val) 1#32)).toNat % 128 = d.val / 2 := by decide +kernel

/-- The test for an even lane. -/
theorem lane_even : ∀ d : Fin 128,
    IntOp.cmpi CmpIPredicate.eq (IntOp.andi (BitVec.ofNat 32 d.val) 1#32) 0#32 = if d.val % 2 = 0 then 1#1 else 0#1 := by decide +kernel

/-- The cosine of a lane. -/
theorem cos_at (c : Vec Ideal S256x64 .f32) (p : Fin 256) (d : Fin 128) :
    k0_pay86 (F := Ideal) c (ix2 p d) = c (ix2 p ⟨d.val / 2, by omega⟩) := by
  unfold_payloads
  pointwise
  rw [dif_pos (by rw [lane_half]; omega)]
  exact congrArg (fun m => c (ix2 p m)) (Fin.ext (lane_half d))

/-- The sine of a lane, with its sign: negative on even lanes. -/
theorem sin_at (c : Vec Ideal S256x64 .f32) (p : Fin 256) (d : Fin 128) :
    k0_pay87 (F := Ideal) c (ix2 p d) = if d.val % 2 = 0 then -c (ix2 p ⟨d.val / 2, by omega⟩) else c (ix2 p ⟨d.val / 2, by omega⟩) := by
  unfold_payloads
  pointwise
  rw [dif_pos (by rw [lane_half]; omega), lane_even]
  have e : ∀ (n : ℕ) (_ : n = d.val / 2) (h : n < 64), c (ix2 p ⟨n, h⟩) = c (ix2 p ⟨d.val / 2, by omega⟩) := by
    rintro _ rfl h
    rfl
  rw [e _ (lane_half d)]
  split_ifs
  · show 0 - _ = - _
    rw [zero_sub]
  · rfl

/-- The rotation of a row of a head, read at a lane. -/
theorem turn_at (c s : Vec Ideal S256x64 .f32) (T : FVec Ideal S256x128 .f32) (p : Fin 256) (d : Fin 128) :
    headTurn (k0_pay86 (F := Ideal) c) (k0_pay87 (F := Ideal) s) T (ix2 p d)
      = rotOf (fun e => T (ix2 p e)) (fun m => c (ix2 p m)) (fun m => s (ix2 p m)) d := by
  unfold headTurn
  pointwise
  rw [lane_even, cos_at, sin_at]
  unfold rotOf
  split_ifs
  · show _ + T (ix2 p ⟨(d.val + 128 - 127) % 128, _⟩) * -_ = _
    rw [mul_neg, ← sub_eq_add_neg]
    refine congrArg (fun m => _ - T (ix2 p m) * _) (Fin.ext ?_)
    show (d.val + 128 - 127) % 128 = (d.val + 1) % 128
    omega
  · show _ + T (ix2 p ⟨(d.val + 128 - 1) % 128, _⟩) * _ = _
    rw [add_comm]
    refine congrArg (fun m => T (ix2 p m) * _ + _) (Fin.ext ?_)
    show (d.val + 128 - 1) % 128 = (d.val + 127) % 128
    omega

/-- A head of queries, read at an entry. -/
theorem qHead_at (c s : Vec Ideal S256x64 .f32) (H : FVec Ideal S256x128 .f32) (g : Vec Ideal S1x128 .f32) (p : Fin 256) (d : Fin 128) :
    qHead (k0_pay86 (F := Ideal) c) (k0_pay87 (F := Ideal) s) H g (ix2 p d)
      = rotOf (normRow dims (fun e => H (ix2 p e)) (fun e => g (ix2 0 e))) (fun m => c (ix2 p m)) (fun m => s (ix2 p m)) d := by
  refine (turn_at c s (headNorm H g) p d).trans ?_
  exact congrArg (fun v => rotOf v _ _ d) (funext fun e => headNorm_at H g p e)

/-- A head of keys, read at an entry. -/
theorem kHead_at (c s : Vec Ideal S256x64 .f32) (H : FVec Ideal S256x128 .f32) (g : Vec Ideal S1x128 .f32) (k : EReal) (p : Fin 256) (d : Fin 128) :
    kHead (k0_pay86 (F := Ideal) c) (k0_pay87 (F := Ideal) s) H g k (ix2 p d)
      = codeOf (rotOf (normRow dims (fun e => H (ix2 p e)) (fun e => g (ix2 0 e))) (fun m => c (ix2 p m)) (fun m => s (ix2 p m)) d) k := by
  unfold kHead
  rw [codesAt_at, turn_at]
  exact congrArg (fun v => codeOf (rotOf v _ _ d) k) (funext fun e => headNorm_at H g p e)

end Cert.QkvIdeal.Blocks
end
-- ==== Proof.QkvRows.lean ====
module

public import proofs.«01_k».proof.Proof.Gen.QkvIdeal.Value
public import Idealize.ShloMosaic.Lib.Pipeline.ValueKit
public import Idealize.ShloMosaic.Lib.Pipeline.ReadBack
public import proofs.«01_k».proof.Proof.QkvBlock
public import proofs.«01_k».proof.Proof.QkvTurn

@[expose] public section

set_option maxRecDepth 16384

noncomputable section

namespace Cert.QkvIdeal.Blocks

open Cert.QkvIdeal Cert.QkvIdeal.Gen Idealize.ShloMosaic Idealize.ShloMosaic.TcCoe Idealize.SL.Sem
open Idealize.ShloMosaic.Pipeline (Dat)
open Cert.GateUpIdeal.Blocks (abs' abs'_nonneg scaleOf)

/-! ## The projections of a block of 256 rows, head by head -/

variable (x : Vec Ideal S256x4096 .bf16) (g : Vec Ideal S1x4096 .f32) (w : Vec Ideal S4096x3072 .fp8e4m3) (ws : Vec Ideal S1x3072 .f32)
variable (qg : Vec Ideal S1x2048 .f32) (kg : Vec Ideal S1x512 .f32) (cs sn : Vec Ideal S256x64 .f32) (ks vs : Vec Ideal S1x4 .f32)

/-- Column `n` of the projection of row `p`. -/
def blkProj (p : Fin 256) (n : Fin 3072) : EReal :=
  projOf (fun j => x (ix2 p j)) (gr g) (fun k => w (ix2 k n)) (ws (ix2 0 n))

/-- The 128 columns of the projection of row `p` from column `n` on. -/
def projFrom (p : Fin 256) (n : ℕ) (e : Fin 128) : EReal := blkProj x g w ws p ⟨(n + e.val) % 3072, Nat.mod_lt _ (by decide)⟩

/-- The 128 gains from column `n` on. -/
def gainFrom {N : ℕ} [NeZero N] (a : (⟨2, ![1, N]⟩ : Shape).Idx → EReal) (n : ℕ) (e : Fin 128) : EReal := a (ix2 0 ⟨(n + e.val) % N, Nat.mod_lt _ (NeZero.pos N)⟩)

/-- A rotated head of row `p`: of the projection from column `n` on, with gains `v`. -/
def rotated (p : Fin 256) (n : ℕ) (v : Fin 128 → EReal) (d : Fin 128) : EReal :=
  rotOf (normRow dims (projFrom x g w ws p n) v) (fun m => cs (ix2 p m)) (fun m => sn (ix2 p m)) d

/-- The block's queries. -/
def blkQ : FVec Ideal S256x2048 .bf16 := fun y =>
  rotated x g w ws cs sn (y 0) (128 * ((y 1).val / 128)) (gainFrom qg (128 * ((y 1).val / 128))) ⟨(y 1).val % 128, Nat.mod_lt _ (by decide)⟩

/-- The block's key codes. -/
def blkK : FVec Ideal S256x512 .fp8e4m3 := fun y =>
  codeOf (rotated x g w ws cs sn (y 0) (2048 + 128 * ((y 1).val / 128)) (gainFrom kg (128 * ((y 1).val / 128))) ⟨(y 1).val % 128, Nat.mod_lt _ (by decide)⟩)
    (ks (ix2 0 ⟨(y 1).val / 128 % 4, Nat.mod_lt _ (by decide)⟩))

/-- The block's value codes. -/
def blkV : FVec Ideal S256x512 .fp8e4m3 := fun y =>
  codeOf (projFrom x g w ws (y 0) (2560 + 128 * ((y 1).val / 128)) ⟨(y 1).val % 128, Nat.mod_lt _ (by decide)⟩)
    (vs (ix2 0 ⟨(y 1).val / 128 % 4, Nat.mod_lt _ (by decide)⟩))

/-- A query of head `n`. -/
theorem blkQ_at (n : ℕ) (p : Fin 256) (d : Fin 128) (e : Fin 2048) (he : e.val = 128 * n + d.val) :
    blkQ x g w ws qg cs sn (ix2 p e) = rotated x g w ws cs sn p (128 * n) (gainFrom qg (128 * n)) d := by
  show rotated x g w ws cs sn p (128 * (e.val / 128)) (gainFrom qg (128 * (e.val / 128))) ⟨e.val % 128, _⟩ = _
  have h : e.val / 128 = n := by omega
  have h' : (⟨e.val % 128, Nat.mod_lt _ (by decide)⟩ : Fin 128) = d := Fin.ext (by show e.val % 128 = d.val; omega)
  rw [h, h']

/-- A key code of head `n`. -/
theorem blkK_at (n : Fin 4) (p : Fin 256) (d : Fin 128) (e : Fin 512) (he : e.val = 128 * n.val + d.val) :
    blkK x g w ws kg cs sn ks (ix2 p e) = codeOf (rotated x g w ws cs sn p (2048 + 128 * n.val) (gainFrom kg (128 * n.val)) d) (ks (ix2 0 n)) := by
  show codeOf (rotated x g w ws cs sn p (2048 + 128 * (e.val / 128)) (gainFrom kg (128 * (e.val / 128))) ⟨e.val % 128, _⟩) (ks (ix2 0 ⟨e.val / 128 % 4, _⟩)) = _
  have h : e.val / 128 = n.val := by omega
  have h' : (⟨e.val % 128, Nat.mod_lt _ (by decide)⟩ : Fin 128) = d := Fin.ext (by show e.val % 128 = d.val; omega)
  have h'' : (⟨e.val / 128 % 4, Nat.mod_lt _ (by decide)⟩ : Fin 4) = n := Fin.ext (by show e.val / 128 % 4 = n.val; omega)
  rw [h'', h, h']

/-- A value code of head `n`. -/
theorem blkV_at (n : Fin 4) (p : Fin 256) (d : Fin 128) (e : Fin 512) (he : e.val = 128 * n.val + d.val) :
    blkV x g w ws vs (ix2 p e) = codeOf (projFrom x g w ws p (2560 + 128 * n.val) d) (vs (ix2 0 n)) := by
  show codeOf (projFrom x g w ws p (2560 + 128 * (e.val / 128)) ⟨e.val % 128, _⟩) (vs (ix2 0 ⟨e.val / 128 % 4, _⟩)) = _
  have h : e.val / 128 = n.val := by omega
  have h' : (⟨e.val % 128, Nat.mod_lt _ (by decide)⟩ : Fin 128) = d := Fin.ext (by show e.val % 128 = d.val; omega)
  have h'' : (⟨e.val / 128 % 4, Nat.mod_lt _ (by decide)⟩ : Fin 4) = n := Fin.ext (by show e.val / 128 % 4 = n.val; omega)
  rw [h'', h, h']

/-- A tile of four heads, from column `o` on. -/
theorem tile_blk (p : Fin 256) (o : ℕ) (ho : o + 512 ≤ 3072) (iw is) (j : Fin 512) :
    k0_pay88 (F := Ideal) (blkCode x g) (blkScale x g) (View.ld w (Rect.unit (s := S4096x3072) ![0, o] S4096x512.size iw))
      (View.ld ws (Rect.unit (s := S1x3072) ![0, o] S1x512.size is)) (ix2 p j) = blkProj x g w ws p ⟨o + j.val, by omega⟩ := by
  rw [tile_at]
  have hw : ∀ k : Fin 4096, View.ld w (Rect.unit (s := S4096x3072) ![0, o] S4096x512.size iw) (ix2 k j) = w (ix2 k ⟨o + j.val, by omega⟩) :=
    fun k => View.ld_unit_apply_of _ _ _ _ _ _ fun a => by fin_cases a <;> simp
  have hs : View.ld ws (Rect.unit (s := S1x3072) ![0, o] S1x512.size is) (ix2 0 j) = ws (ix2 0 ⟨o + j.val, by omega⟩) :=
    View.ld_unit_apply_of _ _ _ _ _ _ fun a => by fin_cases a <;> simp
  rw [hs]
  simp only [hw]
  rfl

/-- Head `0` of the tile from column `o` on: a row of the projection. -/
theorem headproj0 (p : Fin 256) (o : ℕ) (ho : o + 512 ≤ 3072) (iw is) :
    (fun e : Fin 128 => head0 (k0_pay88 (F := Ideal) (blkCode x g) (blkScale x g) (View.ld w (Rect.unit (s := S4096x3072) ![0, o] S4096x512.size iw))
      (View.ld ws (Rect.unit (s := S1x3072) ![0, o] S1x512.size is))) (ix2 p e)) = projFrom x g w ws p (o + 0) := by
  funext e
  rw [head0_at, tile_blk x g w ws p o ho]
  refine congrArg (blkProj x g w ws p) (Fin.ext ?_)
  show o + (0 + e.val) = (o + 0 + e.val) % 3072
  omega

/-- Head `1` of the tile from column `o` on: a row of the projection. -/
theorem headproj1 (p : Fin 256) (o : ℕ) (ho : o + 512 ≤ 3072) (iw is) :
    (fun e : Fin 128 => head1 (k0_pay88 (F := Ideal) (blkCode x g) (blkScale x g) (View.ld w (Rect.unit (s := S4096x3072) ![0, o] S4096x512.size iw))
      (View.ld ws (Rect.unit (s := S1x3072) ![0, o] S1x512.size is))) (ix2 p e)) = projFrom x g w ws p (o + 128) := by
  funext e
  rw [head1_at, tile_blk x g w ws p o ho]
  refine congrArg (blkProj x g w ws p) (Fin.ext ?_)
  show o + (128 + e.val) = (o + 128 + e.val) % 3072
  omega

/-- Head `2` of the tile from column `o` on: a row of the projection. -/
theorem headproj2 (p : Fin 256) (o : ℕ) (ho : o + 512 ≤ 3072) (iw is) :
    (fun e : Fin 128 => head2 (k0_pay88 (F := Ideal) (blkCode x g) (blkScale x g) (View.ld w (Rect.unit (s := S4096x3072) ![0, o] S4096x512.size iw))
      (View.ld ws (Rect.unit (s := S1x3072) ![0, o] S1x512.size is))) (ix2 p e)) = projFrom x g w ws p (o + 256) := by
  funext e
  rw [head2_at, tile_blk x g w ws p o ho]
  refine congrArg (blkProj x g w ws p) (Fin.ext ?_)
  show o + (256 + e.val) = (o + 256 + e.val) % 3072
  omega

/-- Head `3` of the tile from column `o` on: a row of the projection. -/
theorem headproj3 (p : Fin 256) (o : ℕ) (ho : o + 512 ≤ 3072) (iw is) :
    (fun e : Fin 128 => head3 (k0_pay88 (F := Ideal) (blkCode x g) (blkScale x g) (View.ld w (Rect.unit (s := S4096x3072) ![0, o] S4096x512.size iw))
      (View.ld ws (Rect.unit (s := S1x3072) ![0, o] S1x512.size is))) (ix2 p e)) = projFrom x g w ws p (o + 384) := by
  funext e
  rw [head3_at, tile_blk x g w ws p o ho]
  refine congrArg (blkProj x g w ws p) (Fin.ext ?_)
  show o + (384 + e.val) = (o + 384 + e.val) % 3072
  omega

/-- The gains of a query head, as loaded. -/
theorem qgain (n : ℕ) (hn : n + 128 ≤ 2048) (ig) :
    (fun e : Fin 128 => View.ld qg (Rect.unit (s := S1x2048) ![0, n] S1x128.size ig) (ix2 0 e)) = gainFrom qg n := by
  funext e
  refine View.ld_unit_apply_of _ _ _ _ _ _ fun a => ?_
  fin_cases a
  · rfl
  · show (n + e.val) % 2048 = n + e.val
    omega

/-- The gains of a key head, as loaded. -/
theorem kgain (n : ℕ) (hn : n + 128 ≤ 512) (ig) :
    (fun e : Fin 128 => View.ld kg (Rect.unit (s := S1x512) ![0, n] S1x128.size ig) (ix2 0 e)) = gainFrom kg n := by
  funext e
  refine View.ld_unit_apply_of _ _ _ _ _ _ fun a => ?_
  fin_cases a
  · rfl
  · show (n + e.val) % 512 = n + e.val
    omega

/-- A head's scale, as loaded. -/
theorem hscale (n : Fin 4) (ig h) : View.ld ks (Rect.unit (s := S1x4) ![0, n.val] S1x1.size ig) (Shape.Idx.first h) = ks (ix2 0 n) :=
  View.ld_unit_apply_of _ _ _ _ _ _ fun a => by fin_cases a <;> simp

end Cert.QkvIdeal.Blocks
end
-- ==== Proof.QkvOuts.lean ====
module

public import proofs.«01_k».proof.Proof.Gen.QkvIdeal.Value
public import Idealize.ShloMosaic.Lib.Pipeline.ValueKit
public import Idealize.ShloMosaic.Lib.Pipeline.ReadBack
public import proofs.«01_k».proof.Proof.QkvRows

@[expose] public section

set_option maxRecDepth 16384

noncomputable section

namespace Cert.QkvIdeal.Blocks

open Cert.QkvIdeal Cert.QkvIdeal.Gen Idealize.ShloMosaic Idealize.ShloMosaic.TcCoe Idealize.SL.Sem
open Idealize.ShloMosaic.Pipeline (Dat)
open Cert.GateUpIdeal.Blocks (abs' abs'_nonneg scaleOf)

/-! ## What one run of the kernel leaves in its five blocks -/

variable (c : Dev nD) (i : grid0.Coords) (a1 : Memref sig .tc .smem S1x4 .f32) (w1 : a1.IsWhole) (a2 : Memref sig .tc .smem S1x4 .f32) (w2 : a2.IsWhole) (a3 : Memref sig .tc .vmem S256x4096 .bf16) (w3 : a3.IsWhole) (a4 : Memref sig .tc .vmem S1x4096 .f32) (w4 : a4.IsWhole) (a5 : Memref sig .tc .vmem S4096x3072 .fp8e4m3) (w5 : a5.IsWhole) (a6 : Memref sig .tc .vmem S1x3072 .f32) (w6 : a6.IsWhole) (a7 : Memref sig .tc .vmem S1x2048 .f32) (w7 : a7.IsWhole) (a8 : Memref sig .tc .vmem S1x512 .f32) (w8 : a8.IsWhole) (a9 : Memref sig .tc .vmem S256x64 .f32) (w9 : a9.IsWhole) (a10 : Memref sig .tc .vmem S256x64 .f32) (w10 : a10.IsWhole) (a11 : Memref sig .tc .vmem S256x4096 .fp8e4m3) (w11 : a11.IsWhole) (a12 : Memref sig .tc .vmem S256x1 .f32) (w12 : a12.IsWhole) (a13 : Memref sig .tc .vmem S256x2048 .bf16) (w13 : a13.IsWhole) (a14 : Memref sig .tc .vmem S256x512 .fp8e4m3) (w14 : a14.IsWhole) (a15 : Memref sig .tc .vmem S256x512 .fp8e4m3) (w15 : a15.IsWhole)
variable (x0 x1 : Vec Ideal S1x4 .f32) (x2 : Vec Ideal S256x4096 .bf16) (x3 : Vec Ideal S1x4096 .f32) (x4 : Vec Ideal S4096x3072 .fp8e4m3) (x5 : Vec Ideal S1x3072 .f32)
variable (x6 : Vec Ideal S1x2048 .f32) (x7 : Vec Ideal S1x512 .f32) (x8 x9 : Vec Ideal S256x64 .f32)

/-- The codes that the projections read back. -/
theorem codes_read : k0_pay82 (F := Ideal) (a11.view.readCov (pb_k0_t1 (F := Ideal) Variants.none c none i a1 w1 a2 w2 a3 w3 a4 w4 a5 w5 a6 w6 a7 w7 a8 w8 a9 w9 a10 w10 a11 w11 a12 w12 a13 w13 a14 w14 a15 w15
      (w3.unread x2) (w4.unread x3) (Scf.trips 0#32 (Scalar.addi 0#32 2#32) 1#32)).1
    (Rect.unit (s := S256x4096) ![0, 0] ![256, 4096] inb_S256x4096_S256x4096_0_0).toLoadRect) = blkCode x2 x3 := by
  rw [View.readCov_eq_canon', canon_codes c i a1 w1 a2 w2 a3 w3 a4 w4 a5 w5 a6 w6 a7 w7 a8 w8 a9 w9 a10 w10 a11 w11 a12 w12 a13 w13 a14 w14 a15 w15 x2 x3]
  funext y
  obtain ⟨p, l, rfl⟩ : ∃ (p : Fin 256) (l : Fin 4096), y = ix2 p l := ⟨y 0, y 1, by ext a; fin_cases a <;> rfl⟩
  unfold k0_pay82
  pointwise
  try rfl

/-- The scales that the projections read back. -/
theorem scales_read : k0_pay83 (F := Ideal) (a12.view.readCov (pb_k0_t1 (F := Ideal) Variants.none c none i a1 w1 a2 w2 a3 w3 a4 w4 a5 w5 a6 w6 a7 w7 a8 w8 a9 w9 a10 w10 a11 w11 a12 w12 a13 w13 a14 w14 a15 w15
      (w3.unread x2) (w4.unread x3) (Scf.trips 0#32 (Scalar.addi 0#32 2#32) 1#32)).2
    (Rect.unit (s := S256x1) ![0, 0] ![256, 1] inb_S256x1_S256x1_0_0).toLoadRect) = blkScale x2 x3 := by
  rw [View.readCov_eq_canon', canon_scales c i a1 w1 a2 w2 a3 w3 a4 w4 a5 w5 a6 w6 a7 w7 a8 w8 a9 w9 a10 w10 a11 w11 a12 w12 a13 w13 a14 w14 a15 w15 x2 x3]
  funext y
  obtain ⟨p, l, rfl⟩ : ∃ (p : Fin 256) (l : Fin 1), y = ix2 p l := ⟨y 0, y 1, by ext a; fin_cases a <;> rfl⟩
  obtain rfl : l = 0 := Subsingleton.elim _ _
  unfold k0_pay83
  pointwise
  try rfl

/-- The codes' block. -/
theorem out_10 : out0_A_10 (F := Ideal) c i a1 w1 a2 w2 a3 w3 a4 w4 a5 w5 a6 w6 a7 w7 a8 w8 a9 w9 a10 w10 a11 w11 a12 w12 a13 w13 a14 w14 a15 w15 x0 x1 x2 x3 x4 x5 x6 x7 x8 x9
    = blkCode x2 x3 := by
  funext y
  frame_out
  exact congrFun (canon_codes c i a1 w1 a2 w2 a3 w3 a4 w4 a5 w5 a6 w6 a7 w7 a8 w8 a9 w9 a10 w10 a11 w11 a12 w12 a13 w13 a14 w14 a15 w15 x2 x3) y

/-- The scales' block. -/
theorem out_11 : out0_A_11 (F := Ideal) c i a1 w1 a2 w2 a3 w3 a4 w4 a5 w5 a6 w6 a7 w7 a8 w8 a9 w9 a10 w10 a11 w11 a12 w12 a13 w13 a14 w14 a15 w15 x0 x1 x2 x3 x4 x5 x6 x7 x8 x9
    = blkScale x2 x3 := by
  funext y
  frame_out
  exact congrFun (canon_scales c i a1 w1 a2 w2 a3 w3 a4 w4 a5 w5 a6 w6 a7 w7 a8 w8 a9 w9 a10 w10 a11 w11 a12 w12 a13 w13 a14 w14 a15 w15 x2 x3) y

/-- The queries' block. -/
theorem out_12 : out0_A_12 (F := Ideal) c i a1 w1 a2 w2 a3 w3 a4 w4 a5 w5 a6 w6 a7 w7 a8 w8 a9 w9 a10 w10 a11 w11 a12 w12 a13 w13 a14 w14 a15 w15 x0 x1 x2 x3 x4 x5 x6 x7 x8 x9
    = blkQ x2 x3 x4 x5 x6 x8 x9 := by
  funext y
  obtain ⟨r, e, rfl⟩ : ∃ (r : Fin 256) (e : Fin 2048), y = ix2 r e := ⟨y 0, y 1, by ext a; fin_cases a <;> rfl⟩
  frame_out
  rw [codes_read c i a1 w1 a2 w2 a3 w3 a4 w4 a5 w5 a6 w6 a7 w7 a8 w8 a9 w9 a10 w10 a11 w11 a12 w12 a13 w13 a14 w14 a15 w15 x2 x3, scales_read c i a1 w1 a2 w2 a3 w3 a4 w4 a5 w5 a6 w6 a7 w7 a8 w8 a9 w9 a10 w10 a11 w11 a12 w12 a13 w13 a14 w14 a15 w15 x2 x3]
  canon_tiles x h
  all_goals
    obtain ⟨p, d, rfl⟩ : ∃ (p : Fin 256) (d : Fin 128), x = ix2 p d := ⟨x 0, x 1, by ext a; fin_cases a <;> rfl⟩
    change r.val = p.val at h0
    obtain rfl := Fin.ext h0
  · change e.val = 1920 + d.val at h1
    refine (congrFun (q15_eq _ _ _ _) _).trans ?_
    rw [qHead_at, blkQ_at x2 x3 x4 x5 x6 x8 x9 15 r d e (by omega)]
    exact congrArg₂ (fun v u => rotOf (normRow dims v u) (fun m => x8 (ix2 r m)) (fun m => x9 (ix2 r m)) d) (headproj3 x2 x3 x4 x5 r 1536 (by decide) _ _) (qgain x6 1920 (by decide) _)
  · change e.val = 1792 + d.val at h1
    refine (congrFun (q14_eq _ _ _ _) _).trans ?_
    rw [qHead_at, blkQ_at x2 x3 x4 x5 x6 x8 x9 14 r d e (by omega)]
    exact congrArg₂ (fun v u => rotOf (normRow dims v u) (fun m => x8 (ix2 r m)) (fun m => x9 (ix2 r m)) d) (headproj2 x2 x3 x4 x5 r 1536 (by decide) _ _) (qgain x6 1792 (by decide) _)
  · change e.val = 1664 + d.val at h1
    refine (congrFun (q13_eq _ _ _ _) _).trans ?_
    rw [qHead_at, blkQ_at x2 x3 x4 x5 x6 x8 x9 13 r d e (by omega)]
    exact congrArg₂ (fun v u => rotOf (normRow dims v u) (fun m => x8 (ix2 r m)) (fun m => x9 (ix2 r m)) d) (headproj1 x2 x3 x4 x5 r 1536 (by decide) _ _) (qgain x6 1664 (by decide) _)
  · change e.val = 1536 + d.val at h1
    refine (congrFun (q12_eq _ _ _ _ _ _ _) _).trans ?_
    rw [qHead_at, blkQ_at x2 x3 x4 x5 x6 x8 x9 12 r d e (by omega)]
    exact congrArg₂ (fun v u => rotOf (normRow dims v u) (fun m => x8 (ix2 r m)) (fun m => x9 (ix2 r m)) d) (headproj0 x2 x3 x4 x5 r 1536 (by decide) _ _) (qgain x6 1536 (by decide) _)
  · change e.val = 1408 + d.val at h1
    refine (congrFun (q11_eq _ _ _ _) _).trans ?_
    rw [qHead_at, blkQ_at x2 x3 x4 x5 x6 x8 x9 11 r d e (by omega)]
    exact congrArg₂ (fun v u => rotOf (normRow dims v u) (fun m => x8 (ix2 r m)) (fun m => x9 (ix2 r m)) d) (headproj3 x2 x3 x4 x5 r 1024 (by decide) _ _) (qgain x6 1408 (by decide) _)
  · change e.val = 1280 + d.val at h1
    refine (congrFun (q10_eq _ _ _ _) _).trans ?_
    rw [qHead_at, blkQ_at x2 x3 x4 x5 x6 x8 x9 10 r d e (by omega)]
    exact congrArg₂ (fun v u => rotOf (normRow dims v u) (fun m => x8 (ix2 r m)) (fun m => x9 (ix2 r m)) d) (headproj2 x2 x3 x4 x5 r 1024 (by decide) _ _) (qgain x6 1280 (by decide) _)
  · change e.val = 1152 + d.val at h1
    refine (congrFun (q9_eq _ _ _ _ _ _ _) _).trans ?_
    rw [qHead_at, blkQ_at x2 x3 x4 x5 x6 x8 x9 9 r d e (by omega)]
    exact congrArg₂ (fun v u => rotOf (normRow dims v u) (fun m => x8 (ix2 r m)) (fun m => x9 (ix2 r m)) d) (headproj1 x2 x3 x4 x5 r 1024 (by decide) _ _) (qgain x6 1152 (by decide) _)
  · change e.val = 1024 + d.val at h1
    refine (congrFun (q8_eq _ _ _ _ _ _ _) _).trans ?_
    rw [qHead_at, blkQ_at x2 x3 x4 x5 x6 x8 x9 8 r d e (by omega)]
    exact congrArg₂ (fun v u => rotOf (normRow dims v u) (fun m => x8 (ix2 r m)) (fun m => x9 (ix2 r m)) d) (headproj0 x2 x3 x4 x5 r 1024 (by decide) _ _) (qgain x6 1024 (by decide) _)
  · change e.val = 896 + d.val at h1
    refine (congrFun (q7_eq _ _ _ _) _).trans ?_
    rw [qHead_at, blkQ_at x2 x3 x4 x5 x6 x8 x9 7 r d e (by omega)]
    exact congrArg₂ (fun v u => rotOf (normRow dims v u) (fun m => x8 (ix2 r m)) (fun m => x9 (ix2 r m)) d) (headproj3 x2 x3 x4 x5 r 512 (by decide) _ _) (qgain x6 896 (by decide) _)
  · change e.val = 768 + d.val at h1
    refine (congrFun (q6_eq _ _ _ _) _).trans ?_
    rw [qHead_at, blkQ_at x2 x3 x4 x5 x6 x8 x9 6 r d e (by omega)]
    exact congrArg₂ (fun v u => rotOf (normRow dims v u) (fun m => x8 (ix2 r m)) (fun m => x9 (ix2 r m)) d) (headproj2 x2 x3 x4 x5 r 512 (by decide) _ _) (qgain x6 768 (by decide) _)
  · change e.val = 640 + d.val at h1
    refine (congrFun (q5_eq _ _ _ _) _).trans ?_
    rw [qHead_at, blkQ_at x2 x3 x4 x5 x6 x8 x9 5 r d e (by omega)]
    exact congrArg₂ (fun v u => rotOf (normRow dims v u) (fun m => x8 (ix2 r m)) (fun m => x9 (ix2 r m)) d) (headproj1 x2 x3 x4 x5 r 512 (by decide) _ _) (qgain x6 640 (by decide) _)
  · change e.val = 512 + d.val at h1
    refine (congrFun (q4_eq _ _ _ _ _ _ _) _).trans ?_
    rw [qHead_at, blkQ_at x2 x3 x4 x5 x6 x8 x9 4 r d e (by omega)]
    exact congrArg₂ (fun v u => rotOf (normRow dims v u) (fun m => x8 (ix2 r m)) (fun m => x9 (ix2 r m)) d) (headproj0 x2 x3 x4 x5 r 512 (by decide) _ _) (qgain x6 512 (by decide) _)
  · change e.val = 384 + d.val at h1
    refine (congrFun (q3_eq _ _ _ _) _).trans ?_
    rw [qHead_at, blkQ_at x2 x3 x4 x5 x6 x8 x9 3 r d e (by omega)]
    exact congrArg₂ (fun v u => rotOf (normRow dims v u) (fun m => x8 (ix2 r m)) (fun m => x9 (ix2 r m)) d) (headproj3 x2 x3 x4 x5 r 0 (by decide) _ _) (qgain x6 384 (by decide) _)
  · change e.val = 256 + d.val at h1
    refine (congrFun (q2_eq _ _ _ _) _).trans ?_
    rw [qHead_at, blkQ_at x2 x3 x4 x5 x6 x8 x9 2 r d e (by omega)]
    exact congrArg₂ (fun v u => rotOf (normRow dims v u) (fun m => x8 (ix2 r m)) (fun m => x9 (ix2 r m)) d) (headproj2 x2 x3 x4 x5 r 0 (by decide) _ _) (qgain x6 256 (by decide) _)
  · change e.val = 128 + d.val at h1
    refine (congrFun (q1_eq _ _ _ _) _).trans ?_
    rw [qHead_at, blkQ_at x2 x3 x4 x5 x6 x8 x9 1 r d e (by omega)]
    exact congrArg₂ (fun v u => rotOf (normRow dims v u) (fun m => x8 (ix2 r m)) (fun m => x9 (ix2 r m)) d) (headproj1 x2 x3 x4 x5 r 0 (by decide) _ _) (qgain x6 128 (by decide) _)
  · change e.val = d.val at h1
    refine (congrFun (q0_eq _ _ _ _ _ _ _) _).trans ?_
    rw [qHead_at, blkQ_at x2 x3 x4 x5 x6 x8 x9 0 r d e (by omega)]
    exact congrArg₂ (fun v u => rotOf (normRow dims v u) (fun m => x8 (ix2 r m)) (fun m => x9 (ix2 r m)) d) (headproj0 x2 x3 x4 x5 r 0 (by decide) _ _) (qgain x6 0 (by decide) _)

/-- The key codes' block. -/
theorem out_13 : out0_A_13 (F := Ideal) c i a1 w1 a2 w2 a3 w3 a4 w4 a5 w5 a6 w6 a7 w7 a8 w8 a9 w9 a10 w10 a11 w11 a12 w12 a13 w13 a14 w14 a15 w15 x0 x1 x2 x3 x4 x5 x6 x7 x8 x9
    = blkK x2 x3 x4 x5 x7 x8 x9 x0 := by
  funext y
  obtain ⟨r, e, rfl⟩ : ∃ (r : Fin 256) (e : Fin 512), y = ix2 r e := ⟨y 0, y 1, by ext a; fin_cases a <;> rfl⟩
  frame_out
  rw [codes_read c i a1 w1 a2 w2 a3 w3 a4 w4 a5 w5 a6 w6 a7 w7 a8 w8 a9 w9 a10 w10 a11 w11 a12 w12 a13 w13 a14 w14 a15 w15 x2 x3, scales_read c i a1 w1 a2 w2 a3 w3 a4 w4 a5 w5 a6 w6 a7 w7 a8 w8 a9 w9 a10 w10 a11 w11 a12 w12 a13 w13 a14 w14 a15 w15 x2 x3]
  canon_tiles x h
  all_goals
    obtain ⟨p, d, rfl⟩ : ∃ (p : Fin 256) (d : Fin 128), x = ix2 p d := ⟨x 0, x 1, by ext a; fin_cases a <;> rfl⟩
    change r.val = p.val at h0
    obtain rfl := Fin.ext h0
  · change e.val = 384 + d.val at h1
    refine (congrFun (k3_eq _ _ _ _ _) _).trans ?_
    rw [kHead_at, blkK_at x2 x3 x4 x5 x7 x8 x9 x0 3 r d e (by show e.val = 128 * 3 + d.val; omega)]
    exact congrArg₂ codeOf (congrArg₂ (fun v u => rotOf (normRow dims v u) (fun m => x8 (ix2 r m)) (fun m => x9 (ix2 r m)) d) (headproj3 x2 x3 x4 x5 r 2048 (by decide) _ _) (kgain x7 384 (by decide) _)) (hscale x0 3 _ _)
  · change e.val = 256 + d.val at h1
    refine (congrFun (k2_eq _ _ _ _ _) _).trans ?_
    rw [kHead_at, blkK_at x2 x3 x4 x5 x7 x8 x9 x0 2 r d e (by show e.val = 128 * 2 + d.val; omega)]
    exact congrArg₂ codeOf (congrArg₂ (fun v u => rotOf (normRow dims v u) (fun m => x8 (ix2 r m)) (fun m => x9 (ix2 r m)) d) (headproj2 x2 x3 x4 x5 r 2048 (by decide) _ _) (kgain x7 256 (by decide) _)) (hscale x0 2 _ _)
  · change e.val = 128 + d.val at h1
    refine (congrFun (k1_eq _ _ _ _ _) _).trans ?_
    rw [kHead_at, blkK_at x2 x3 x4 x5 x7 x8 x9 x0 1 r d e (by show e.val = 128 * 1 + d.val; omega)]
    exact congrArg₂ codeOf (congrArg₂ (fun v u => rotOf (normRow dims v u) (fun m => x8 (ix2 r m)) (fun m => x9 (ix2 r m)) d) (headproj1 x2 x3 x4 x5 r 2048 (by decide) _ _) (kgain x7 128 (by decide) _)) (hscale x0 1 _ _)
  · change e.val = d.val at h1
    refine (congrFun (k0_eq _ _ _ _ _ _ _ _) _).trans ?_
    rw [kHead_at, blkK_at x2 x3 x4 x5 x7 x8 x9 x0 0 r d e (by show e.val = 128 * 0 + d.val; omega)]
    exact congrArg₂ codeOf (congrArg₂ (fun v u => rotOf (normRow dims v u) (fun m => x8 (ix2 r m)) (fun m => x9 (ix2 r m)) d) (headproj0 x2 x3 x4 x5 r 2048 (by decide) _ _) (kgain x7 0 (by decide) _)) (hscale x0 0 _ _)

/-- The value codes' block. -/
theorem out_14 : out0_A_14 (F := Ideal) c i a1 w1 a2 w2 a3 w3 a4 w4 a5 w5 a6 w6 a7 w7 a8 w8 a9 w9 a10 w10 a11 w11 a12 w12 a13 w13 a14 w14 a15 w15 x0 x1 x2 x3 x4 x5 x6 x7 x8 x9
    = blkV x2 x3 x4 x5 x1 := by
  funext y
  obtain ⟨r, e, rfl⟩ : ∃ (r : Fin 256) (e : Fin 512), y = ix2 r e := ⟨y 0, y 1, by ext a; fin_cases a <;> rfl⟩
  frame_out
  rw [codes_read c i a1 w1 a2 w2 a3 w3 a4 w4 a5 w5 a6 w6 a7 w7 a8 w8 a9 w9 a10 w10 a11 w11 a12 w12 a13 w13 a14 w14 a15 w15 x2 x3, scales_read c i a1 w1 a2 w2 a3 w3 a4 w4 a5 w5 a6 w6 a7 w7 a8 w8 a9 w9 a10 w10 a11 w11 a12 w12 a13 w13 a14 w14 a15 w15 x2 x3]
  canon_tiles x h
  all_goals
    obtain ⟨p, d, rfl⟩ : ∃ (p : Fin 256) (d : Fin 128), x = ix2 p d := ⟨x 0, x 1, by ext a; fin_cases a <;> rfl⟩
    change r.val = p.val at h0
    obtain rfl := Fin.ext h0
  · change e.val = 384 + d.val at h1
    refine (congrFun (v3_eq _ _ _ _ _) _).trans ?_
    rw [codesAt_at, blkV_at x2 x3 x4 x5 x1 3 r d e (by show e.val = 128 * 3 + d.val; omega)]
    exact congrArg₂ codeOf (congrFun (headproj3 x2 x3 x4 x5 r 2560 (by decide) _ _) d) (hscale x1 3 _ _)
  · change e.val = 256 + d.val at h1
    refine (congrFun (v2_eq _ _ _ _ _) _).trans ?_
    rw [codesAt_at, blkV_at x2 x3 x4 x5 x1 2 r d e (by show e.val = 128 * 2 + d.val; omega)]
    exact congrArg₂ codeOf (congrFun (headproj2 x2 x3 x4 x5 r 2560 (by decide) _ _) d) (hscale x1 2 _ _)
  · change e.val = 128 + d.val at h1
    refine (congrFun (v1_eq _ _ _ _ _) _).trans ?_
    rw [codesAt_at, blkV_at x2 x3 x4 x5 x1 1 r d e (by show e.val = 128 * 1 + d.val; omega)]
    exact congrArg₂ codeOf (congrFun (headproj1 x2 x3 x4 x5 r 2560 (by decide) _ _) d) (hscale x1 1 _ _)
  · change e.val = d.val at h1
    refine (congrFun (v0_eq _ _ _ _ _) _).trans ?_
    rw [codesAt_at, blkV_at x2 x3 x4 x5 x1 0 r d e (by show e.val = 128 * 0 + d.val; omega)]
    exact congrArg₂ codeOf (congrFun (headproj0 x2 x3 x4 x5 r 2560 (by decide) _ _) d) (hscale x1 0 _ _)

end Cert.QkvIdeal.Blocks
end
-- ==== Proof.QkvWhole.lean ====
module

public import proofs.«01_k».proof.Proof.Gen.QkvIdeal.Value
public import Idealize.ShloMosaic.Lib.Pipeline.ValueKit
public import Idealize.ShloMosaic.Lib.Pipeline.ReadBack
public import proofs.«01_k».proof.Proof.QkvSpec

@[expose] public section

set_option maxRecDepth 16384

noncomputable section

namespace Cert.QkvIdeal.Blocks

open Cert.QkvIdeal Cert.QkvIdeal.Gen Idealize.ShloMosaic Idealize.ShloMosaic.TcCoe Idealize.SL.Sem
open Idealize.ShloMosaic.Pipeline (Dat)
open Cert.GateUpIdeal.Blocks (abs' abs'_nonneg scaleOf)

/-! ## The five results as functions of the arguments -/

variable (X : FVec Ideal S1280x4096 .bf16) (G : FVec Ideal S4096 .f32) (W : FVec Ideal S4096x17408 .fp8e4m3) (WS : FVec Ideal S17408 .f32)
variable (QG : FVec Ideal S16x128 .f32) (KG : FVec Ideal S4x128 .f32) (C S : FVec Ideal S1280x64 .f32) (KS VS : FVec Ideal S4 .f32)

/-- The token of row `r`. -/
abbrev tok (r : Fin 1280) : Fin 4096 → EReal := fun j => X (ix2 r j)

/-- The gains of the first layer norm. -/
abbrev gains : Fin 4096 → EReal := fun j => G (ix1 j)

/-- The codes of the tokens. -/
def codesW : FVec Ideal S1280x4096 .fp8e4m3 := fun y => tokCode (tok X (y 0)) (gains G) (y 1)

/-- The scales of the tokens. -/
def scalesW : FVec Ideal S1280x1 .f32 := fun y => tokScale (tok X (y 0)) (gains G)

/-- Column `n` of the input projection of row `r`. -/
def projW (r : Fin 1280) (n : Fin 3072) : EReal :=
  projOf (tok X r) (gains G) (fun k => W (ix2 k ⟨n.val, by omega⟩)) (WS (ix1 ⟨n.val, by omega⟩))

/-- The 128 columns of the projection of row `r` from column `n` on. -/
def fromW (r : Fin 1280) (n : ℕ) (e : Fin 128) : EReal := projW X G W WS r ⟨(n + e.val) % 3072, Nat.mod_lt _ (by decide)⟩

/-- A rotated head of row `r`: of the projection from column `n` on, with gains `v`. -/
def turnedW (r : Fin 1280) (n : ℕ) (v : Fin 128 → EReal) (d : Fin 128) : EReal :=
  rotOf (normRow dims (fromW X G W WS r n) v) (fun m => C (ix2 r m)) (fun m => S (ix2 r m)) d

/-- The queries. -/
def queriesW : FVec Ideal S1280x2048 .bf16 := fun y =>
  turnedW X G W WS C S (y 0) (128 * ((y 1).val / 128)) (fun e => QG (ix2 ⟨(y 1).val / 128 % 16, Nat.mod_lt _ (by decide)⟩ e))
    ⟨(y 1).val % 128, Nat.mod_lt _ (by decide)⟩

/-- The key codes. -/
def keysW : FVec Ideal S1280x512 .fp8e4m3 := fun y =>
  codeOf (turnedW X G W WS C S (y 0) (2048 + 128 * ((y 1).val / 128)) (fun e => KG (ix2 ⟨(y 1).val / 128 % 4, Nat.mod_lt _ (by decide)⟩ e))
    ⟨(y 1).val % 128, Nat.mod_lt _ (by decide)⟩) (KS (ix1 ⟨(y 1).val / 128 % 4, Nat.mod_lt _ (by decide)⟩))

/-- The value codes. -/
def valuesW : FVec Ideal S1280x512 .fp8e4m3 := fun y =>
  codeOf (fromW X G W WS (y 0) (2560 + 128 * ((y 1).val / 128)) ⟨(y 1).val % 128, Nat.mod_lt _ (by decide)⟩)
    (VS (ix1 ⟨(y 1).val / 128 % 4, Nat.mod_lt _ (by decide)⟩))

end Cert.QkvIdeal.Blocks
end
-- ==== Proof.QkvInputs.lean ====
module

public import proofs.«01_k».proof.Proof.Gen.QkvIdeal.Value
public import Idealize.ShloMosaic.Lib.Pipeline.ValueKit
public import Idealize.ShloMosaic.Lib.Pipeline.ReadBack
public import proofs.«01_k».proof.Proof.QkvRows
public import proofs.«01_k».proof.Proof.QkvWhole

@[expose] public section

set_option maxRecDepth 16384

noncomputable section

namespace Cert.QkvIdeal.Blocks

open Cert.QkvIdeal Cert.QkvIdeal.Gen Idealize.ShloMosaic Idealize.ShloMosaic.TcCoe Idealize.SL.Sem
open Idealize.ShloMosaic.Pipeline (Dat)
open Cert.GateUpIdeal.Blocks (abs' abs'_nonneg scaleOf)

variable (m : (ℓ : Loc nD τ sig) → Buf (Elt Ideal) ℓ) (ρ : Dev nD → PrngReg)

/-- Where each window's block of grid point `t` begins: rows from 256 `t` on, everything else at the start. -/
theorem idx : ∀ t : Fin grid0.N, win0_0.index t = ![0, 0] ∧ win0_1.index t = ![0, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] := by decide +kernel

/-- Where each result's block of grid point `t` begins. -/
theorem idxOut : ∀ t : Fin grid0.N, win0_10.index t = ![t.val, 0] ∧ win0_11.index t = ![t.val, 0] ∧ win0_12.index t = ![t.val, 0]
    ∧ win0_13.index t = ![t.val, 0] ∧ win0_14.index t = ![t.val, 0] := by decide +kernel

/-! ## The blocks of a grid point -/

/-- A point reads its 256 tokens, -/
theorem in_x (c : Dev nD) (t : Fin cfg0.N) (p : Fin 256) (r : Fin 1280) (hr : r.val = 256 * t.val + p.val) (j : Fin 4096) :
    iblk m c 2 t (ix2 p j) = (m ((c : Thread nD τ).loc main_arg0)) (ix2 r j) := by
  obtain ⟨e0, e1, e2, e3, e4, e5, e6, e7, e8, e9⟩ := idx t
  blk_point [iblk, V, e0, e1, e2, e3, e4, e5, e6, e7, e8, e9]

/-- their cosines, -/
theorem in_cos (c : Dev nD) (t : Fin cfg0.N) (p : Fin 256) (r : Fin 1280) (hr : r.val = 256 * t.val + p.val) (j : Fin 64) :
    iblk m c 8 t (ix2 p j) = (m ((c : Thread nD τ).loc main_arg6)) (ix2 r j) := by
  obtain ⟨e0, e1, e2, e3, e4, e5, e6, e7, e8, e9⟩ := idx t
  blk_point [iblk, V, e0, e1, e2, e3, e4, e5, e6, e7, e8, e9]

/-- their sines, -/
theorem in_sin (c : Dev nD) (t : Fin cfg0.N) (p : Fin 256) (r : Fin 1280) (hr : r.val = 256 * t.val + p.val) (j : Fin 64) :
    iblk m c 9 t (ix2 p j) = (m ((c : Thread nD τ).loc main_arg7)) (ix2 r j) := by
  obtain ⟨e0, e1, e2, e3, e4, e5, e6, e7, e8, e9⟩ := idx t
  blk_point [iblk, V, e0, e1, e2, e3, e4, e5, e6, e7, e8, e9]

/-- all gains of the first layer norm, -/
theorem in_g (c : Dev nD) (t : Fin cfg0.N) (j : Fin 4096) :
    iblk m c 3 t (ix2 0 j) = (m ((c : Thread nD τ).loc main_arg1)) (ix1 j) := by
  obtain ⟨e0, e1, e2, e3, e4, e5, e6, e7, e8, e9⟩ := idx t
  blk_point [iblk, V, e0, e1, e2, e3, e4, e5, e6, e7, e8, e9]

/-- the scales of the keys, -/
theorem in_ks (c : Dev nD) (t : Fin cfg0.N) (j : Fin 4) :
    iblk m c 0 t (ix2 0 j) = (m ((c : Thread nD τ).loc main_arg8)) (ix1 j) := by
  obtain ⟨e0, e1, e2, e3, e4, e5, e6, e7, e8, e9⟩ := idx t
  blk_point [iblk, V, e0, e1, e2, e3, e4, e5, e6, e7, e8, e9]

/-- the scales of the values, -/
theorem in_vs (c : Dev nD) (t : Fin cfg0.N) (j : Fin 4) :
    iblk m c 1 t (ix2 0 j) = (m ((c : Thread nD τ).loc main_arg9)) (ix1 j) := by
  obtain ⟨e0, e1, e2, e3, e4, e5, e6, e7, e8, e9⟩ := idx t
  blk_point [iblk, V, e0, e1, e2, e3, e4, e5, e6, e7, e8, e9]

/-- the gains of the queries, -/
theorem in_qg (c : Dev nD) (t : Fin cfg0.N) (h : Fin 16) (e : Fin 128) (j : Fin 2048) (hj : j.val = 128 * h.val + e.val) :
    iblk m c 6 t (ix2 0 j) = (m ((c : Thread nD τ).loc main_arg4)) (ix2 h e) := by
  obtain ⟨e0, e1, e2, e3, e4, e5, e6, e7, e8, e9⟩ := idx t
  blk_point [iblk, V, e0, e1, e2, e3, e4, e5, e6, e7, e8, e9]

/-- the gains of the keys, -/
theorem in_kg (c : Dev nD) (t : Fin cfg0.N) (h : Fin 4) (e : Fin 128) (j : Fin 512) (hj : j.val = 128 * h.val + e.val) :
    iblk m c 7 t (ix2 0 j) = (m ((c : Thread nD τ).loc main_arg5)) (ix2 h e) := by
  obtain ⟨e0, e1, e2, e3, e4, e5, e6, e7, e8, e9⟩ := idx t
  blk_point [iblk, V, e0, e1, e2, e3, e4, e5, e6, e7, e8, e9]

/-- the first 3072 columns of the weight -/
theorem in_w (c : Dev nD) (t : Fin cfg0.N) (k : Fin 4096) (n : Fin 3072) :
    X0_4 m c t (ix2 k n) = (m ((c : Thread nD τ).loc main_arg2)) (ix2 k ⟨n.val, by omega⟩) := by
  obtain ⟨e0, e1, e2, e3, e4, e5, e6, e7, e8, e9⟩ := idx t
  unfold X0_4 Pipeline.Window.fill
  rw [dif_pos (moved0_4 t _)]
  blk_point [iblk, V, e0, e1, e2, e3, e4, e5, e6, e7, e8, e9]

/-- and their scales. -/
theorem in_ws (c : Dev nD) (t : Fin cfg0.N) (n : Fin 3072) :
    X0_5 m c t (ix2 0 n) = (m ((c : Thread nD τ).loc main_arg3)) (ix1 ⟨n.val, by omega⟩) := by
  obtain ⟨e0, e1, e2, e3, e4, e5, e6, e7, e8, e9⟩ := idx t
  unfold X0_5 Pipeline.Window.fill
  rw [dif_pos (moved0_5 t _)]
  blk_point [iblk, V, e0, e1, e2, e3, e4, e5, e6, e7, e8, e9]

end Cert.QkvIdeal.Blocks
end
-- ==== Proof.QkvKernel.lean ====
module

public import proofs.«01_k».proof.Proof.Gen.QkvIdeal.Value
public import Idealize.ShloMosaic.Lib.Pipeline.ValueKit
public import Idealize.ShloMosaic.Lib.Pipeline.ReadBack
public import proofs.«01_k».proof.Proof.QkvOuts
public import proofs.«01_k».proof.Proof.QkvInputs

@[expose] public section

set_option maxRecDepth 16384

noncomputable section

namespace Cert.QkvIdeal.Blocks

open Cert.QkvIdeal Cert.QkvIdeal.Gen Idealize.ShloMosaic Idealize.ShloMosaic.TcCoe Idealize.SL.Sem
open Idealize.ShloMosaic.Pipeline (Dat)
open Cert.GateUpIdeal.Blocks (abs' abs'_nonneg scaleOf)

variable (m : (ℓ : Loc nD τ sig) → Buf (Elt Ideal) ℓ) (ρ : Dev nD → PrngReg)

/-! ## A point's block holds its 256 rows of the whole arrays -/

/-- A token of the block. -/
theorem tok_eq (c : Dev nD) (t : Fin cfg0.N) (p : Fin 256) (r : Fin 1280) (hr : r.val = 256 * t.val + p.val) :
    (fun j => iblk m c 2 t (ix2 p j)) = tok (m ((c : Thread nD τ).loc main_arg0)) r := funext fun j => in_x m c t p r hr j

/-- The gains of the first layer norm. -/
theorem gains_eq (c : Dev nD) (t : Fin cfg0.N) : gr (iblk m c 3 t) = gains (m ((c : Thread nD τ).loc main_arg1)) := funext fun j => in_g m c t j

/-- A column of the projection. -/
theorem proj_eq (c : Dev nD) (t : Fin cfg0.N) (p : Fin 256) (r : Fin 1280) (hr : r.val = 256 * t.val + p.val) (n : Fin 3072) :
    blkProj (iblk m c 2 t) (iblk m c 3 t) (X0_4 m c t) (X0_5 m c t) p n = projW (m ((c : Thread nD τ).loc main_arg0)) (m ((c : Thread nD τ).loc main_arg1)) (m ((c : Thread nD τ).loc main_arg2)) (m ((c : Thread nD τ).loc main_arg3)) r n := by
  unfold blkProj projW
  rw [tok_eq m c t p r hr, gains_eq, in_ws]
  exact congrArg (fun w => projOf _ _ w _) (funext fun k => in_w m c t k n)

/-- The 128 columns of the projection from one on. -/
theorem from_eq (c : Dev nD) (t : Fin cfg0.N) (p : Fin 256) (r : Fin 1280) (hr : r.val = 256 * t.val + p.val) (n : ℕ) :
    projFrom (iblk m c 2 t) (iblk m c 3 t) (X0_4 m c t) (X0_5 m c t) p n = fromW (m ((c : Thread nD τ).loc main_arg0)) (m ((c : Thread nD τ).loc main_arg1)) (m ((c : Thread nD τ).loc main_arg2)) (m ((c : Thread nD τ).loc main_arg3)) r n := funext fun e => proj_eq m c t p r hr _

/-- A rotated head. -/
theorem turned_eq (c : Dev nD) (t : Fin cfg0.N) (p : Fin 256) (r : Fin 1280) (hr : r.val = 256 * t.val + p.val) (n : ℕ) (v v' : Fin 128 → EReal) (hv : v = v') (d : Fin 128) :
    rotated (iblk m c 2 t) (iblk m c 3 t) (X0_4 m c t) (X0_5 m c t) (iblk m c 8 t) (iblk m c 9 t) p n v d = turnedW (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) r n v' d := by
  subst hv
  unfold rotated turnedW
  rw [from_eq m c t p r hr]
  exact congrArg₂ (fun a b => rotOf _ a b d) (funext fun j => in_cos m c t p r hr j) (funext fun j => in_sin m c t p r hr j)

/-- The gains of a query head. -/
theorem qgain_eq (c : Dev nD) (t : Fin cfg0.N) (h : Fin 16) : gainFrom (iblk m c 6 t) (128 * h.val) = fun e => (m ((c : Thread nD τ).loc main_arg4)) (ix2 h e) :=
  funext fun e => in_qg m c t h e _ (by show (128 * h.val + e.val) % 2048 = _; omega)

/-- The gains of a key head. -/
theorem kgain_eq (c : Dev nD) (t : Fin cfg0.N) (h : Fin 4) : gainFrom (iblk m c 7 t) (128 * h.val) = fun e => (m ((c : Thread nD τ).loc main_arg5)) (ix2 h e) :=
  funext fun e => in_kg m c t h e _ (by show (128 * h.val + e.val) % 512 = _; omega)

/-- A point's queries are its rows of the queries. -/
theorem queries_eq (c : Dev nD) (t : Fin cfg0.N) (p : Fin 256) (r : Fin 1280) (hr : r.val = 256 * t.val + p.val) (e : Fin 2048) :
    blkQ (iblk m c 2 t) (iblk m c 3 t) (X0_4 m c t) (X0_5 m c t) (iblk m c 6 t) (iblk m c 8 t) (iblk m c 9 t) (ix2 p e) = queriesW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (ix2 r e) := by
  refine (blkQ_at _ _ _ _ _ _ _ (e.val / 128 % 16) p ⟨e.val % 128, Nat.mod_lt _ (by decide)⟩ e
    (by show e.val = 128 * (e.val / 128 % 16) + e.val % 128; omega)).trans ?_
  have hn : 128 * (e.val / 128 % 16) = 128 * (e.val / 128) := by omega
  refine (turned_eq m c t p r hr _ _ _ (qgain_eq m c t ⟨e.val / 128 % 16, Nat.mod_lt _ (by decide)⟩) _).trans ?_
  show turnedW _ _ _ _ _ _ r (128 * (e.val / 128 % 16)) _ _ = turnedW _ _ _ _ _ _ r (128 * (e.val / 128)) _ _
  rw [hn]
  rfl

/-- A point's key codes are its rows of the key codes. -/
theorem keys_eq (c : Dev nD) (t : Fin cfg0.N) (p : Fin 256) (r : Fin 1280) (hr : r.val = 256 * t.val + p.val) (e : Fin 512) :
    blkK (iblk m c 2 t) (iblk m c 3 t) (X0_4 m c t) (X0_5 m c t) (iblk m c 7 t) (iblk m c 8 t) (iblk m c 9 t) (iblk m c 0 t) (ix2 p e) = keysW (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (ix2 r e) := by
  refine (blkK_at _ _ _ _ _ _ _ _ ⟨e.val / 128 % 4, Nat.mod_lt _ (by decide)⟩ p ⟨e.val % 128, Nat.mod_lt _ (by decide)⟩ e
    (by show e.val = 128 * (e.val / 128 % 4) + e.val % 128; omega)).trans ?_
  have hn : 128 * (e.val / 128 % 4) = 128 * (e.val / 128) := by omega
  refine (congrArg₂ codeOf (turned_eq m c t p r hr _ _ _ (kgain_eq m c t ⟨e.val / 128 % 4, Nat.mod_lt _ (by decide)⟩) _) (in_ks m c t _)).trans ?_
  show codeOf (turnedW _ _ _ _ _ _ r (2048 + 128 * (e.val / 128 % 4)) _ _) _ = codeOf (turnedW _ _ _ _ _ _ r (2048 + 128 * (e.val / 128)) _ _) _
  rw [hn]
  rfl

/-- A point's value codes are its rows of the value codes. -/
theorem values_eq (c : Dev nD) (t : Fin cfg0.N) (p : Fin 256) (r : Fin 1280) (hr : r.val = 256 * t.val + p.val) (e : Fin 512) :
    blkV (iblk m c 2 t) (iblk m c 3 t) (X0_4 m c t) (X0_5 m c t) (iblk m c 1 t) (ix2 p e) = valuesW (m ((c : Thread nD τ).loc main_arg0)) (m ((c : Thread nD τ).loc main_arg1)) (m ((c : Thread nD τ).loc main_arg2)) (m ((c : Thread nD τ).loc main_arg3)) (m ((c : Thread nD τ).loc main_arg9)) (ix2 r e) := by
  refine (blkV_at _ _ _ _ _ ⟨e.val / 128 % 4, Nat.mod_lt _ (by decide)⟩ p ⟨e.val % 128, Nat.mod_lt _ (by decide)⟩ e
    (by show e.val = 128 * (e.val / 128 % 4) + e.val % 128; omega)).trans ?_
  have hn : 128 * (e.val / 128 % 4) = 128 * (e.val / 128) := by omega
  rw [from_eq m c t p r hr, in_vs]
  show codeOf (fromW _ _ _ _ r (2560 + 128 * (e.val / 128 % 4)) _) _ = codeOf (fromW _ _ _ _ r (2560 + 128 * (e.val / 128)) _) _
  rw [hn]
  rfl

/-- A point's token codes are its rows of the token codes. -/
theorem codes_eq (c : Dev nD) (t : Fin cfg0.N) (p : Fin 256) (r : Fin 1280) (hr : r.val = 256 * t.val + p.val) (e : Fin 4096) :
    blkCode (iblk m c 2 t) (iblk m c 3 t) (ix2 p e) = codesW (m ((c : Thread nD τ).loc main_arg0)) (m ((c : Thread nD τ).loc main_arg1)) (ix2 r e) :=
  congrArg₂ (fun a b => tokCode a b e) (tok_eq m c t p r hr) (gains_eq m c t)

/-- A point's token scales are its rows of the token scales. -/
theorem scales_eq (c : Dev nD) (t : Fin cfg0.N) (p : Fin 256) (r : Fin 1280) (hr : r.val = 256 * t.val + p.val) (e : Fin 1) :
    blkScale (iblk m c 2 t) (iblk m c 3 t) (ix2 p e) = scalesW (m ((c : Thread nD τ).loc main_arg0)) (m ((c : Thread nD τ).loc main_arg1)) (ix2 r e) :=
  congrArg₂ tokScale (tok_eq m c t p r hr) (gains_eq m c t)

/-! ## The arrays after the run -/

/-- The token codes after the run. -/
theorem arr10_eq (c : Dev nD) : (dats m 0 c).arrAt 10 cfg0.N = codesW (m ((c : Thread nD τ).loc main_arg0)) (m ((c : Thread nD τ).loc main_arg1)) := by
  refine (dats m 0 c).arrAt_eq_of_covers 10 _ (by decide +kernel) fun t hf y => ?_
  obtain ⟨e0, e1, e2, e3, e4⟩ := idxOut t
  blk_simp
  rw [after0_10]
  unfold outsAt0
  dsimp only
  rw [out_10]
  obtain ⟨p, e, rfl⟩ : ∃ (p : Fin 256) (e : Fin 4096), y = ix2 p e := ⟨y 0, y 1, by ext a; fin_cases a <;> rfl⟩
  have hN : t.val < 5 := lt_of_lt_of_eq t.isLt N_0
  refine (codes_eq m c t p ⟨256 * t.val + p.val, by omega⟩ rfl e).trans (congrArg (codesW (m ((c : Thread nD τ).loc main_arg0)) (m ((c : Thread nD τ).loc main_arg1))) ?_)
  ext a; fin_cases a <;> (blk_simp [e0]; try simp; try omega)

/-- The token scales after the run. -/
theorem arr11_eq (c : Dev nD) : (dats m 0 c).arrAt 11 cfg0.N = scalesW (m ((c : Thread nD τ).loc main_arg0)) (m ((c : Thread nD τ).loc main_arg1)) := by
  refine (dats m 0 c).arrAt_eq_of_covers 11 _ (by decide +kernel) fun t hf y => ?_
  obtain ⟨e0, e1, e2, e3, e4⟩ := idxOut t
  blk_simp
  rw [after0_11]
  unfold outsAt0
  dsimp only
  rw [out_11]
  obtain ⟨p, e, rfl⟩ : ∃ (p : Fin 256) (e : Fin 1), y = ix2 p e := ⟨y 0, y 1, by ext a; fin_cases a <;> rfl⟩
  have hN : t.val < 5 := lt_of_lt_of_eq t.isLt N_0
  refine (scales_eq m c t p ⟨256 * t.val + p.val, by omega⟩ rfl e).trans (congrArg (scalesW (m ((c : Thread nD τ).loc main_arg0)) (m ((c : Thread nD τ).loc main_arg1))) ?_)
  ext a; fin_cases a <;> (blk_simp [e1]; try simp; try omega)

/-- The queries after the run. -/
theorem arr12_eq (c : Dev nD) : (dats m 0 c).arrAt 12 cfg0.N = queriesW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_covers 12 _ (by decide +kernel) fun t hf y => ?_
  obtain ⟨e0, e1, e2, e3, e4⟩ := idxOut t
  blk_simp
  rw [after0_12]
  unfold outsAt0
  dsimp only
  rw [out_12]
  obtain ⟨p, e, rfl⟩ : ∃ (p : Fin 256) (e : Fin 2048), y = ix2 p e := ⟨y 0, y 1, by ext a; fin_cases a <;> rfl⟩
  have hN : t.val < 5 := lt_of_lt_of_eq t.isLt N_0
  refine (queries_eq m c t p ⟨256 * t.val + p.val, by omega⟩ rfl e).trans (congrArg (queriesW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))) ?_)
  ext a; fin_cases a <;> (blk_simp [e2]; try simp; try omega)

/-- The key codes after the run. -/
theorem arr13_eq (c : Dev nD) : (dats m 0 c).arrAt 13 cfg0.N = keysW (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  obtain ⟨e0, e1, e2, e3, e4⟩ := idxOut t
  blk_simp
  rw [after0_13]
  unfold outsAt0
  dsimp only
  rw [out_13]
  obtain ⟨p, e, rfl⟩ : ∃ (p : Fin 256) (e : Fin 512), y = ix2 p e := ⟨y 0, y 1, by ext a; fin_cases a <;> rfl⟩
  have hN : t.val < 5 := lt_of_lt_of_eq t.isLt N_0
  refine (keys_eq m c t p ⟨256 * t.val + p.val, by omega⟩ rfl e).trans (congrArg (keysW (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) ?_)
  ext a; fin_cases a <;> (blk_simp [e3]; try simp; try omega)

/-- The value codes after the run. -/
theorem arr14_eq (c : Dev nD) : (dats m 0 c).arrAt 14 cfg0.N = valuesW (m ((c : Thread nD τ).loc main_arg0)) (m ((c : Thread nD τ).loc main_arg1)) (m ((c : Thread nD τ).loc main_arg2)) (m ((c : Thread nD τ).loc main_arg3)) (m ((c : Thread nD τ).loc main_arg9)) := by
  refine (dats m 0 c).arrAt_eq_of_covers 14 _ (by decide +kernel) fun t hf y => ?_
  obtain ⟨e0, e1, e2, e3, e4⟩ := idxOut t
  blk_simp
  rw [after0_14]
  unfold outsAt0
  dsimp only
  rw [out_14]
  obtain ⟨p, e, rfl⟩ : ∃ (p : Fin 256) (e : Fin 512), y = ix2 p e := ⟨y 0, y 1, by ext a; fin_cases a <;> rfl⟩
  have hN : t.val < 5 := lt_of_lt_of_eq t.isLt N_0
  refine (values_eq m c t p ⟨256 * t.val + p.val, by omega⟩ rfl e).trans (congrArg (valuesW (m ((c : Thread nD τ).loc main_arg0)) (m ((c : Thread nD τ).loc main_arg1)) (m ((c : Thread nD τ).loc main_arg2)) (m ((c : Thread nD τ).loc main_arg3)) (m ((c : Thread nD τ).loc main_arg9))) ?_)
  ext a; fin_cases a <;> (blk_simp [e4]; try simp; try omega)

end Cert.QkvIdeal.Blocks
end
-- ==== Proof.QkvRefToken.lean ====
module

public import proofs.«01_k».proof.Proof.QkvWhole
public import proofs.«01_k».proof.Proof.Gen.QkvRefIdeal.Value
public import Idealize.ShloMosaic.Lib.Pipeline.ReadBack

@[expose] public section

set_option maxRecDepth 16384

noncomputable section

namespace Cert.QkvRefIdeal.Whole

open Cert.QkvRefIdeal Cert.QkvRefIdeal.Gen Idealize.ShloMosaic Idealize.ShloMosaic.TcCoe Idealize.SL.Sem
open Cert.QkvIdeal.Blocks (mean cols dims eps top bot normRow codeOf rowTop tokScale tokCode projOf rotOf tok gains codesW scalesW projW fromW turnedW queriesW keysW valuesW)
open Cert.GateUpIdeal.Blocks (abs' scaleOf)

/-! ## The token codes, their scales and the projection -/

variable (X : Vec Ideal S1280x4096 .bf16) (G : Vec Ideal S4096 .f32) (W : Vec Ideal S4096x17408 .fp8e4m3) (WS : Vec Ideal S17408 .f32)

/-- The layer norm, read at an entry. -/
theorem norm_at (p : Fin 1280) (j : Fin 4096) : k0_pay2 (F := Ideal) X G (ix2 p j) = normRow cols (tok X p) (gains G) j := by
  unfold k0_pay2
  pointwise
  rfl

/-- Row maxima of absolute values. -/
def absMax (h : FVec Ideal S1280x4096 .f32) : FVec Ideal S1280 .f32 :=
  multiReduction .maximumf [1] S1280 (absf h) 0xFF800000#32 reduces_S1280x4096_S1280 (.inl rfl) rfl

/-- A row's maximum of absolute values, as a fold over the row. -/
theorem absMax_at (h : FVec Ideal S1280x4096 .f32) (p : Fin 1280) : absMax h (ix1 p) = rowTop (fun j => h (ix2 p j)) := by
  unfold absMax rowTop
  refine (Ideal.multiReduction_maximumf_single (absf h) 0xFF800000#32 reduces_S1280x4096_S1280 (.inl rfl) rfl (ix1 p)).trans ?_
  refine congrArg (fun f => Finset.fold max _ f Finset.univ) (funext fun x => ?_)
  have e : reduces_S1280x4096_S1280.lift (ix1 p) x = ix2 p x := by ext a; fin_cases a <;> rfl
  exact congrArg (fun i => abs' (h i)) e

/-- A column of scales from row maxima. -/
def scaleCol (v : FVec Ideal S1280 .f32) : FVec Ideal S1280x1 .f32 :=
  shapeCast S1280x1 (select (cmpf .oeq v (broadcast S1280 (Scalar.ofBits .f32 0x00000000#32 : Ideal .f32)))
    (broadcast S1280 (Scalar.ofBits .f32 0x3F800000#32 : Ideal .f32))
    (divf v (broadcast S1280 (Scalar.ofBits .f32 0x43E00000#32 : Ideal .f32)))) shapeCasts_S1280_S1280x1

/-- The scale column, element by element. -/
theorem scaleCol_at (v : FVec Ideal S1280 .f32) (p : Fin 1280) (q : Fin 1) : scaleCol v (ix2 p q) = scaleOf (v (ix1 p)) := by
  unfold scaleCol scaleOf
  pointwise

/-- The scale column is made of the row maxima of the layer norm. -/
theorem pay3_of : k0_pay3 (F := Ideal) X G = scaleCol (absMax (k0_pay2 (F := Ideal) X G)) := rfl

/-- The token scales, read at an entry. -/
theorem scale_at (p : Fin 1280) (q : Fin 1) : k0_pay3 (F := Ideal) X G (ix2 p q) = tokScale (tok X p) (gains G) := by
  rw [pay3_of, scaleCol_at, absMax_at]
  exact congrArg (fun v => scaleOf (rowTop v)) (funext fun j => norm_at X G p j)

/-- The codes of an array, given its column of scales. -/
def codesCol (a : FVec Ideal S1280x4096 .f32) (s : FVec Ideal S1280x1 .f32) : FVec Ideal S1280x4096 .fp8e4m3 :=
  truncf .fp8e4m3 (minimumf (broadcast S1280x4096 (Scalar.ofBits .f32 0x43E00000#32 : Ideal .f32))
    (maximumf (broadcast S1280x4096 (Scalar.ofBits .f32 0xC3E00000#32 : Ideal .f32))
      (divf a (broadcastTo S1280x4096 s broadcasts_S1280x1_S1280x4096)))) bitsLt_fp8e4m3_f32

/-- The codes, element by element. -/
theorem codesCol_at (a s) (p : Fin 1280) (e : Fin 4096) : codesCol a s (ix2 p e) = codeOf (a (ix2 p e)) (s (ix2 p 0)) := by
  unfold codesCol
  pointwise
  rfl

/-- The codes are those of the layer norm at the token scales. -/
theorem pay4_of : k0_pay4 (F := Ideal) X G = codesCol (k0_pay2 (F := Ideal) X G) (k0_pay3 (F := Ideal) X G) := rfl

/-- The token codes, read at an entry. -/
theorem code_at (p : Fin 1280) (j : Fin 4096) : k0_pay4 (F := Ideal) X G (ix2 p j) = tokCode (tok X p) (gains G) j := by
  rw [pay4_of, codesCol_at, norm_at, scale_at]
  unfold tokCode
  rfl

/-- The projection, read at an entry. -/
theorem dot_at (c : FVec Ideal S1280x4096 .fp8e4m3) (s : FVec Ideal S1280x1 .f32) (p : Fin 1280) (n : Fin 17408) :
    k0_pay5 (F := Ideal) s c W WS (ix2 p n) = (∑ k : Fin 4096, c (ix2 p k) * W (ix2 k n)) * s (ix2 p 0) * WS (ix1 n) := by
  unfold k0_pay5
  pointwise

/-- The projection of the token codes, read at one of the first 3072 columns. -/
theorem proj_at (p : Fin 1280) (n : Fin 17408) (r : Fin 3072) (h : n.val = r.val) :
    k0_pay5 (F := Ideal) (k0_pay3 X G) (k0_pay4 X G) W WS (ix2 p n) = projW X G W WS p r := by
  have hn : n = ⟨r.val, by omega⟩ := Fin.ext h
  refine (dot_at W WS _ _ p n).trans ?_
  rw [scale_at, hn]
  simp only [code_at]
  unfold projW projOf
  rfl

/-- The query columns. -/
theorem queryCols_at (p : Fin 1280) (n : Fin 2048) (r : Fin 3072) (h : r.val = n.val) :
    k0_pay6 (F := Ideal) (k0_pay3 X G) (k0_pay4 X G) W WS (ix2 p n) = projW X G W WS p r := by
  unfold k0_pay6
  pointwise
  exact proj_at X G W WS p _ r (by simp; omega)

/-- The key columns. -/
theorem keyCols_at (p : Fin 1280) (n : Fin 512) (r : Fin 3072) (h : r.val = 2048 + n.val) :
    k0_pay7 (F := Ideal) (k0_pay3 X G) (k0_pay4 X G) W WS (ix2 p n) = projW X G W WS p r := by
  unfold k0_pay7
  pointwise
  exact proj_at X G W WS p _ r (by simp; omega)

/-- The value columns. -/
theorem valueCols_at (p : Fin 1280) (n : Fin 512) (r : Fin 3072) (h : r.val = 2560 + n.val) :
    k0_pay8 (F := Ideal) (k0_pay3 X G) (k0_pay4 X G) W WS (ix2 p n) = projW X G W WS p r := by
  unfold k0_pay8
  pointwise
  exact proj_at X G W WS p _ r (by simp; omega)

/-! ## Reading whole arrays -/

/-- Reading the whole of an array of this shape. -/
theorem ld_x (a : Vec Ideal S1280x4096 .bf16) : View.ld a r0_0 = a := by
  funext y
  exact View.ld_unit_apply_of _ _ _ _ _ _ fun a => by fin_cases a <;> simp

/-- Reading the whole of an array of this shape. -/
theorem ld_g (a : Vec Ideal S4096 .f32) : View.ld a r0_1 = a := by
  funext y
  exact View.ld_unit_apply_of _ _ _ _ _ _ fun a => by fin_cases a <;> simp

/-- Reading the whole of an array of this shape. -/
theorem ld_w (a : Vec Ideal S4096x17408 .fp8e4m3) : View.ld a r0_3 = a := by
  funext y
  exact View.ld_unit_apply_of _ _ _ _ _ _ fun a => by fin_cases a <;> simp

/-- Reading the whole of an array of this shape. -/
theorem ld_ws (a : Vec Ideal S17408 .f32) : View.ld a r0_4 = a := by
  funext y
  exact View.ld_unit_apply_of _ _ _ _ _ _ fun a => by fin_cases a <;> simp

/-- Reading the whole of an array of this shape. -/
theorem ld_hs (a : Vec Ideal S4 .f32) : View.ld a r0_7 = a := by
  funext y
  exact View.ld_unit_apply_of _ _ _ _ _ _ fun a => by fin_cases a <;> simp

end Cert.QkvRefIdeal.Whole
end
-- ==== Proof.QkvRefHead.lean ====
module

public import proofs.«01_k».proof.Proof.QkvWhole
public import proofs.«01_k».proof.Proof.Gen.QkvRefIdeal.Value
public import Idealize.ShloMosaic.Lib.Pipeline.ReadBack

@[expose] public section

set_option maxRecDepth 16384

noncomputable section

namespace Cert.QkvRefIdeal.Whole

open Cert.QkvRefIdeal Cert.QkvRefIdeal.Gen Idealize.ShloMosaic Idealize.ShloMosaic.TcCoe Idealize.SL.Sem
open Cert.QkvIdeal.Blocks (mean cols dims eps top bot normRow codeOf rowTop tokScale tokCode projOf rotOf tok gains codesW scalesW projW fromW turnedW queriesW keysW valuesW)
open Cert.GateUpIdeal.Blocks (abs' scaleOf)

/-! ## The stages of one head -/

/-- The layer norm of a head. -/
def headNorm (H : FVec Ideal S1280x128 .f32) (g : FVec Ideal S1x128 .f32) : FVec Ideal S1280x128 .f32 :=
  have v96 : FVec Ideal S1280 .f32 := multiReduction .add [1] S1280 H 0x00000000#32 reduces_S1280x128_S1280 (.inl rfl) rfl
  have v97 : FVec Ideal S1280x1 .f32 := shapeCast S1280x1 v96 shapeCasts_S1280_S1280x1
  have cst_36 : Ideal .f32 := Scalar.ofBits .f32 0x43000000#32
  have v98 : FVec Ideal S1280x1 .f32 := broadcast S1280x1 cst_36
  have v99 : FVec Ideal S1280x1 .f32 := divf v97 v98
  have v100 : FVec Ideal S1280x128 .f32 := broadcastTo S1280x128 v99 broadcasts_S1280x1_S1280x128
  have v101 : FVec Ideal S1280x128 .f32 := subf H v100
  have v102 : FVec Ideal S1280x128 .f32 := mulf v101 v101
  have v103 : FVec Ideal S1280 .f32 := multiReduction .add [1] S1280 v102 0x00000000#32 reduces_S1280x128_S1280 (.inl rfl) rfl
  have v104 : FVec Ideal S1280x1 .f32 := shapeCast S1280x1 v103 shapeCasts_S1280_S1280x1
  have cst_38 : Ideal .f32 := Scalar.ofBits .f32 0x43000000#32
  have v105 : FVec Ideal S1280x1 .f32 := broadcast S1280x1 cst_38
  have v106 : FVec Ideal S1280x1 .f32 := divf v104 v105
  have cst_39 : Ideal .f32 := Scalar.ofBits .f32 0x3727C5AC#32
  have v107 : FVec Ideal S1280x1 .f32 := broadcast S1280x1 cst_39
  have v108 : FVec Ideal S1280x1 .f32 := addf v106 v107
  have v109 : FVec Ideal S1280x1 .f32 := sqrt v108
  have v110 : FVec Ideal S1280x128 .f32 := broadcastTo S1280x128 v109 broadcasts_S1280x1_S1280x128
  have v111 : FVec Ideal S1280x128 .f32 := divf v101 v110
  have v112 : FVec Ideal S1280x128 .f32 := broadcastTo S1280x128 g broadcasts_S1x128_S1280x128
  have v113 : FVec Ideal S1280x128 .f32 := mulf v111 v112
  v113

/-- The rotation by position of a head. -/
def headTurn (T : FVec Ideal S1280x128 .f32) (c s : FVec Ideal S1280x64 .f32) : FVec Ideal S1280x128 .f32 :=
  have v114 : FVec Ideal S1280x64x2 .f32 := shapeCast S1280x64x2 T shapeCasts_S1280x128_S1280x64x2
  have v115 : FVec Ideal S1280x64x1 .f32 := extractStridedSlice S1280x64x1 ![0, 0, 0] v114 slices_S1280x64x2_o0_0_0_S1280x64x1
  have v116 : FVec Ideal S1280x64 .f32 := shapeCast S1280x64 v115 shapeCasts_S1280x64x1_S1280x64
  have v117 : FVec Ideal S1280x64x1 .f32 := extractStridedSlice S1280x64x1 ![0, 0, 1] v114 slices_S1280x64x2_o0_0_1_S1280x64x1
  have v118 : FVec Ideal S1280x64 .f32 := shapeCast S1280x64 v117 shapeCasts_S1280x64x1_S1280x64
  have v121 : FVec Ideal S1280x64 .f32 := mulf v116 c
  have v122 : FVec Ideal S1280x64 .f32 := mulf v118 s
  have v123 : FVec Ideal S1280x64 .f32 := subf v121 v122
  have v124 : FVec Ideal S1280x64 .f32 := mulf v116 s
  have v125 : FVec Ideal S1280x64 .f32 := mulf v118 c
  have v126 : FVec Ideal S1280x64 .f32 := addf v124 v125
  have v127 : FVec Ideal S1280x64x1 .f32 := shapeCast S1280x64x1 v123 shapeCasts_S1280x64_S1280x64x1
  have v128 : FVec Ideal S1280x64x1 .f32 := shapeCast S1280x64x1 v126 shapeCasts_S1280x64_S1280x64x1
  have v129 : FVec Ideal S1280x64x2 .f32 := concatenate S1280x64x2 2 [⟨S1280x64x1, v127⟩, ⟨S1280x64x1, v128⟩] concatenates_S1280x64x1_S1280x64x1_S1280x64x2_d2
  have v130 : FVec Ideal S1280x128 .f32 := shapeCast S1280x128 v129 shapeCasts_S1280x64x2_S1280x128
  v130

/-- A head: normalised and rotated. -/
def head (H : FVec Ideal S1280x128 .f32) (g : FVec Ideal S1x128 .f32) (c s : FVec Ideal S1280x64 .f32) : FVec Ideal S1280x128 .f32 :=
  headTurn (headNorm H g) c s

/-- Codes at one scale of a head. -/
def headCode (T : FVec Ideal S1280x128 .f32) (s : FVec Ideal S1x1 .f32) : FVec Ideal S1280x128 .fp8e4m3 :=
  truncf .fp8e4m3 (minimumf (broadcast S1280x128 (Scalar.ofBits (F := Ideal) .f32 0x43E00000#32))
    (maximumf (broadcast S1280x128 (Scalar.ofBits (F := Ideal) .f32 0xC3E00000#32))
      (divf T (broadcastTo S1280x128 s broadcasts_S1x1_S1280x128)))) bitsLt_fp8e4m3_f32

/-- The layer norm of a head, read at an entry. -/
theorem headNorm_at (H : FVec Ideal S1280x128 .f32) (g : FVec Ideal S1x128 .f32) (p : Fin 1280) (d : Fin 128) :
    headNorm H g (ix2 p d) = normRow dims (fun e => H (ix2 p e)) (fun e => g (ix2 0 e)) d := by
  unfold headNorm
  pointwise
  rfl

/-- A code, read at an entry. -/
theorem headCode_at (T : FVec Ideal S1280x128 .f32) (s : FVec Ideal S1x1 .f32) (p : Fin 1280) (d : Fin 128) :
    headCode T s (ix2 p d) = codeOf (T (ix2 p d)) (s (ix2 0 0)) := by
  unfold headCode
  pointwise
  rfl

/-- The rotation, read at a lane. -/
theorem headTurn_at (T : FVec Ideal S1280x128 .f32) (c s : FVec Ideal S1280x64 .f32) (p : Fin 1280) (d : Fin 128) :
    headTurn T c s (ix2 p d) = rotOf (fun e => T (ix2 p e)) (fun m => c (ix2 p m)) (fun m => s (ix2 p m)) d := by
  unfold headTurn rotOf
  pointwise
  have at' : ∀ (a b : Fin 128) (_ : a.val = b.val), T (ix2 p a) = T (ix2 p b) := fun a b h => congrArg (fun x => T (ix2 p x)) (Fin.ext h)
  by_cases h : d.val % 2 = 0
  · rw [dif_pos (by omega), if_pos h]
    rw [at' ⟨d.val / 2 * 2, _⟩ d (by show d.val / 2 * 2 = d.val; omega),
      at' ⟨d.val / 2 * 2 + 1, _⟩ ⟨(d.val + 1) % 128, Nat.mod_lt _ (by decide)⟩ (by show d.val / 2 * 2 + 1 = (d.val + 1) % 128; omega)]
  · rw [dif_neg (by omega), if_neg h]
    rw [at' ⟨d.val / 2 * 2, _⟩ ⟨(d.val + 127) % 128, Nat.mod_lt _ (by decide)⟩ (by show d.val / 2 * 2 = (d.val + 127) % 128; omega),
      at' ⟨d.val / 2 * 2 + 1, _⟩ d (by show d.val / 2 * 2 + 1 = d.val; omega)]

/-- A head, read at an entry. -/
theorem head_at (H : FVec Ideal S1280x128 .f32) (g : FVec Ideal S1x128 .f32) (c s : FVec Ideal S1280x64 .f32) (p : Fin 1280) (d : Fin 128) :
    head H g c s (ix2 p d)
      = rotOf (normRow dims (fun e => H (ix2 p e)) (fun e => g (ix2 0 e))) (fun m => c (ix2 p m)) (fun m => s (ix2 p m)) d := by
  refine (headTurn_at (headNorm H g) c s p d).trans ?_
  exact congrArg (fun v => rotOf v _ _ d) (funext fun e => headNorm_at H g p e)

end Cert.QkvRefIdeal.Whole
end
-- ==== Proof.QkvRefQueries.lean ====
module

public import proofs.«01_k».proof.Proof.QkvRefHead
public import proofs.«01_k».proof.Proof.Gen.QkvRefIdeal.Value
public import Idealize.ShloMosaic.Lib.Pipeline.ReadBack

@[expose] public section

set_option maxRecDepth 16384

noncomputable section

namespace Cert.QkvRefIdeal.Whole

open Cert.QkvRefIdeal Cert.QkvRefIdeal.Gen Idealize.ShloMosaic Idealize.ShloMosaic.TcCoe Idealize.SL.Sem
open Cert.QkvIdeal.Blocks (mean cols dims eps top bot normRow codeOf rowTop tokScale tokCode projOf rotOf tok gains codesW scalesW projW fromW turnedW queriesW keysW valuesW)
open Cert.GateUpIdeal.Blocks (abs' scaleOf)

/-! ## The sixteen query heads -/

variable (Q : FVec Ideal S1280x2048 .f32) (QG : Vec Ideal S16x128 .f32) (c s : Vec Ideal S1280x64 .f32)

/-- Query head `0`. -/
theorem q0_eq (t : FVec Ideal S1280x1 .f32) (C : FVec Ideal S1280x4096 .fp8e4m3) (W : Vec Ideal S4096x17408 .fp8e4m3) (WS : Vec Ideal S17408 .f32) :
    k0_pay14 (F := Ideal) (k0_pay12 t C W WS QG) (k0_pay13 t C W WS QG) c s
      = head (extractStridedSlice S1280x128 ![0, 0] (k0_pay6 (F := Ideal) t C W WS) slices_S1280x2048_o0_0_S1280x128) (extractStridedSlice S1x128 ![0, 0] QG slices_S16x128_o0_0_S1x128) c s := rfl

/-- Query head `1`. -/
theorem q1_eq : k0_pay15 (F := Ideal) Q QG c s
      = head (extractStridedSlice S1280x128 ![0, 128] Q slices_S1280x2048_o0_128_S1280x128) (extractStridedSlice S1x128 ![1, 0] QG slices_S16x128_o1_0_S1x128) c s := rfl

/-- Query head `2`. -/
theorem q2_eq : k0_pay17 (F := Ideal) QG (k0_pay16 Q) c s
      = head (extractStridedSlice S1280x128 ![0, 256] Q slices_S1280x2048_o0_256_S1280x128) (extractStridedSlice S1x128 ![2, 0] QG slices_S16x128_o2_0_S1x128) c s := rfl

/-- Query head `3`. -/
theorem q3_eq : k0_pay21 (F := Ideal) (k0_pay18 QG) (k0_pay19 Q) (k0_pay20 Q) (Scalar.ofBits (F := Ideal) .f32 0x43000000#32) c s
      = head (extractStridedSlice S1280x128 ![0, 384] Q slices_S1280x2048_o0_384_S1280x128) (extractStridedSlice S1x128 ![3, 0] QG slices_S16x128_o3_0_S1x128) c s := rfl

/-- Query head `4`. -/
theorem q4_eq : k0_pay25 (F := Ideal) (k0_pay23 Q QG) (k0_pay24 Q QG) c s
      = head (extractStridedSlice S1280x128 ![0, 512] Q slices_S1280x2048_o0_512_S1280x128) (extractStridedSlice S1x128 ![4, 0] QG slices_S16x128_o4_0_S1x128) c s := rfl

/-- Query head `5`. -/
theorem q5_eq : k0_pay31 (F := Ideal) (k0_pay29 Q QG c s) (k0_pay30 Q QG c s)
      = head (extractStridedSlice S1280x128 ![0, 640] Q slices_S1280x2048_o0_640_S1280x128) (extractStridedSlice S1x128 ![5, 0] QG slices_S16x128_o5_0_S1x128) c s := rfl

/-- Query head `6`. -/
theorem q6_eq : k0_pay32 (F := Ideal) Q QG c s
      = head (extractStridedSlice S1280x128 ![0, 768] Q slices_S1280x2048_o0_768_S1280x128) (extractStridedSlice S1x128 ![6, 0] QG slices_S16x128_o6_0_S1x128) c s := rfl

/-- Query head `7`. -/
theorem q7_eq : k0_pay36 (F := Ideal) (k0_pay33 QG) (k0_pay34 Q) (k0_pay35 Q) c s
      = head (extractStridedSlice S1280x128 ![0, 896] Q slices_S1280x2048_o0_896_S1280x128) (extractStridedSlice S1x128 ![7, 0] QG slices_S16x128_o7_0_S1x128) c s := rfl

/-- Query head `8`. -/
theorem q8_eq : k0_pay38 (F := Ideal) (k0_pay37 Q QG) c s
      = head (extractStridedSlice S1280x128 ![0, 1024] Q slices_S1280x2048_o0_1024_S1280x128) (extractStridedSlice S1x128 ![8, 0] QG slices_S16x128_o8_0_S1x128) c s := rfl

/-- Query head `9`. -/
theorem q9_eq : k0_pay43 (F := Ideal) (k0_pay40 Q QG) (k0_pay41 Q QG) c s (k0_pay42 Q QG c s)
      = head (extractStridedSlice S1280x128 ![0, 1152] Q slices_S1280x2048_o0_1152_S1280x128) (extractStridedSlice S1x128 ![9, 0] QG slices_S16x128_o9_0_S1x128) c s := rfl

/-- Query head `10`. -/
theorem q10_eq : k0_pay44 (F := Ideal) Q QG c s
      = head (extractStridedSlice S1280x128 ![0, 1280] Q slices_S1280x2048_o0_1280_S1280x128) (extractStridedSlice S1x128 ![10, 0] QG slices_S16x128_o10_0_S1x128) c s := rfl

/-- Query head `11`. -/
theorem q11_eq : k0_pay49 (F := Ideal) (k0_pay45 Q) (k0_pay46 QG) (k0_pay47 Q) (k0_pay48 (F := Ideal)) c s
      = head (extractStridedSlice S1280x128 ![0, 1408] Q slices_S1280x2048_o0_1408_S1280x128) (extractStridedSlice S1x128 ![11, 0] QG slices_S16x128_o11_0_S1x128) c s := rfl

/-- Query head `12`. -/
theorem q12_eq : k0_pay53 (F := Ideal) (k0_pay50 QG) (k0_pay51 Q) (k0_pay52 Q) c s
      = head (extractStridedSlice S1280x128 ![0, 1536] Q slices_S1280x2048_o0_1536_S1280x128) (extractStridedSlice S1x128 ![12, 0] QG slices_S16x128_o12_0_S1x128) c s := rfl

/-- Query head `13`. -/
theorem q13_eq : k0_pay57 (F := Ideal) (k0_pay55 Q QG) (k0_pay56 Q QG) c s
      = head (extractStridedSlice S1280x128 ![0, 1664] Q slices_S1280x2048_o0_1664_S1280x128) (extractStridedSlice S1x128 ![13, 0] QG slices_S16x128_o13_0_S1x128) c s := rfl

/-- Query head `14`. -/
theorem q14_eq : k0_pay58 (F := Ideal) Q QG c s
      = head (extractStridedSlice S1280x128 ![0, 1792] Q slices_S1280x2048_o0_1792_S1280x128) (extractStridedSlice S1x128 ![14, 0] QG slices_S16x128_o14_0_S1x128) c s := rfl

/-- Sixteen heads side by side. -/
def join16 (h0 h1 h2 h3 h4 h5 h6 h7 h8 h9 h10 h11 h12 h13 h14 h15 : FVec Ideal S1280x128 .f32) : FVec Ideal S1280x2048 .f32 :=
  concatenate S1280x2048 1 [⟨S1280x128, h0⟩, ⟨S1280x128, h1⟩, ⟨S1280x128, h2⟩, ⟨S1280x128, h3⟩, ⟨S1280x128, h4⟩, ⟨S1280x128, h5⟩, ⟨S1280x128, h6⟩, ⟨S1280x128, h7⟩, ⟨S1280x128, h8⟩, ⟨S1280x128, h9⟩, ⟨S1280x128, h10⟩, ⟨S1280x128, h11⟩, ⟨S1280x128, h12⟩, ⟨S1280x128, h13⟩, ⟨S1280x128, h14⟩, ⟨S1280x128, h15⟩]
    concatenates_S1280x128_S1280x128_S1280x128_S1280x128_S1280x128_S1280x128_S1280x128_S1280x128_S1280x128_S1280x128_S1280x128_S1280x128_S1280x128_S1280x128_S1280x128_S1280x128_S1280x2048_d1

/-- The last query head, and the sixteen side by side. -/
theorem pay61_eq (h0 h1 h2 h3 h4 h5 h6 h7 h8 h9 h10 h11 h12 h13 h14 : FVec Ideal S1280x128 .f32) :
    k0_pay61 (F := Ideal) h0 h1 h2 h3 h4 h5 h6 h7 h8 h9 h10 h11 h12 h13 h14 (k0_pay59 (F := Ideal) Q) (k0_pay60 (F := Ideal) QG) c s
      = truncf .bf16 (join16 h0 h1 h2 h3 h4 h5 h6 h7 h8 h9 h10 h11 h12 h13 h14 (head (extractStridedSlice S1280x128 ![0, 1920] Q slices_S1280x2048_o0_1920_S1280x128) (extractStridedSlice S1x128 ![15, 0] QG slices_S16x128_o15_0_S1x128) c s)) bitsLt_bf16_f32 := rfl

/-- Sixteen heads side by side, read at a lane of head `j`. -/
theorem join16_at (o : Fin 16 → FVec Ideal S1280x128 .f32) (p : Fin 1280) (j : Fin 16) (d : Fin 128) :
    join16 (o 0) (o 1) (o 2) (o 3) (o 4) (o 5) (o 6) (o 7) (o 8) (o 9) (o 10) (o 11) (o 12) (o 13) (o 14) (o 15) (ix2 p ⟨128 * j.val + d.val, by omega⟩) = o j (ix2 p d) := by
  unfold join16
  exact concatenate_ofFn_apply (t := S1280x2048) (s₁ := S1280x128) 1 o
    concatenates_S1280x128_S1280x128_S1280x128_S1280x128_S1280x128_S1280x128_S1280x128_S1280x128_S1280x128_S1280x128_S1280x128_S1280x128_S1280x128_S1280x128_S1280x128_S1280x128_S1280x2048_d1 rfl 128 rfl (ix2 p ⟨128 * j.val + d.val, by omega⟩) j
    (by show (128 * j.val + d.val) / 128 = j.val; omega) (ix2 p d) (by show d.val = (128 * j.val + d.val) % 128; omega)
    (fun b hb => by fin_cases b <;> first | rfl | exact absurd rfl hb)

/-- A head at head `h`'s places, read at an entry. -/
theorem qHead_at (h b a : ℕ) (hb : b = 128 * h) (ha : a = h) (hh : h < 16) (s1 : S1280x2048.Slices ![0, b] S1280x128) (s2 : S16x128.Slices ![a, 0] S1x128)
    (p : Fin 1280) (d : Fin 128) :
    head (extractStridedSlice S1280x128 ![0, b] Q s1) (extractStridedSlice S1x128 ![a, 0] QG s2) c s (ix2 p d)
      = rotOf (normRow dims (fun e => Q (ix2 p ⟨128 * h + e.val, by omega⟩)) (fun e => QG (ix2 ⟨h, hh⟩ e))) (fun m => c (ix2 p m)) (fun m => s (ix2 p m)) d := by
  subst hb ha
  rw [head_at]
  refine congrArg₂ (fun v u => rotOf (normRow dims v u) _ _ d) (funext fun e => ?_) (funext fun e => ?_)
  · refine congrArg Q ?_
    ext a; fin_cases a <;> simp [ix2]
  · refine congrArg QG ?_
    ext a; fin_cases a <;> simp [ix2]

/-- The sixteen query heads, read at a lane of head `j`. -/
theorem queryHeads_at (p : Fin 1280) (j : Fin 16) (d : Fin 128) :
    join16 (head (extractStridedSlice S1280x128 ![0, 0] Q slices_S1280x2048_o0_0_S1280x128) (extractStridedSlice S1x128 ![0, 0] QG slices_S16x128_o0_0_S1x128) c s) (head (extractStridedSlice S1280x128 ![0, 128] Q slices_S1280x2048_o0_128_S1280x128) (extractStridedSlice S1x128 ![1, 0] QG slices_S16x128_o1_0_S1x128) c s) (head (extractStridedSlice S1280x128 ![0, 256] Q slices_S1280x2048_o0_256_S1280x128) (extractStridedSlice S1x128 ![2, 0] QG slices_S16x128_o2_0_S1x128) c s) (head (extractStridedSlice S1280x128 ![0, 384] Q slices_S1280x2048_o0_384_S1280x128) (extractStridedSlice S1x128 ![3, 0] QG slices_S16x128_o3_0_S1x128) c s) (head (extractStridedSlice S1280x128 ![0, 512] Q slices_S1280x2048_o0_512_S1280x128) (extractStridedSlice S1x128 ![4, 0] QG slices_S16x128_o4_0_S1x128) c s) (head (extractStridedSlice S1280x128 ![0, 640] Q slices_S1280x2048_o0_640_S1280x128) (extractStridedSlice S1x128 ![5, 0] QG slices_S16x128_o5_0_S1x128) c s) (head (extractStridedSlice S1280x128 ![0, 768] Q slices_S1280x2048_o0_768_S1280x128) (extractStridedSlice S1x128 ![6, 0] QG slices_S16x128_o6_0_S1x128) c s) (head (extractStridedSlice S1280x128 ![0, 896] Q slices_S1280x2048_o0_896_S1280x128) (extractStridedSlice S1x128 ![7, 0] QG slices_S16x128_o7_0_S1x128) c s) (head (extractStridedSlice S1280x128 ![0, 1024] Q slices_S1280x2048_o0_1024_S1280x128) (extractStridedSlice S1x128 ![8, 0] QG slices_S16x128_o8_0_S1x128) c s) (head (extractStridedSlice S1280x128 ![0, 1152] Q slices_S1280x2048_o0_1152_S1280x128) (extractStridedSlice S1x128 ![9, 0] QG slices_S16x128_o9_0_S1x128) c s) (head (extractStridedSlice S1280x128 ![0, 1280] Q slices_S1280x2048_o0_1280_S1280x128) (extractStridedSlice S1x128 ![10, 0] QG slices_S16x128_o10_0_S1x128) c s) (head (extractStridedSlice S1280x128 ![0, 1408] Q slices_S1280x2048_o0_1408_S1280x128) (extractStridedSlice S1x128 ![11, 0] QG slices_S16x128_o11_0_S1x128) c s) (head (extractStridedSlice S1280x128 ![0, 1536] Q slices_S1280x2048_o0_1536_S1280x128) (extractStridedSlice S1x128 ![12, 0] QG slices_S16x128_o12_0_S1x128) c s) (head (extractStridedSlice S1280x128 ![0, 1664] Q slices_S1280x2048_o0_1664_S1280x128) (extractStridedSlice S1x128 ![13, 0] QG slices_S16x128_o13_0_S1x128) c s) (head (extractStridedSlice S1280x128 ![0, 1792] Q slices_S1280x2048_o0_1792_S1280x128) (extractStridedSlice S1x128 ![14, 0] QG slices_S16x128_o14_0_S1x128) c s) (head (extractStridedSlice S1280x128 ![0, 1920] Q slices_S1280x2048_o0_1920_S1280x128) (extractStridedSlice S1x128 ![15, 0] QG slices_S16x128_o15_0_S1x128) c s) (ix2 p ⟨128 * j.val + d.val, by omega⟩)
      = rotOf (normRow dims (fun e => Q (ix2 p ⟨128 * j.val + e.val, by omega⟩)) (fun e => QG (ix2 j e))) (fun m => c (ix2 p m)) (fun m => s (ix2 p m)) d := by
  refine (join16_at ![_, _, _, _, _, _, _, _, _, _, _, _, _, _, _, _] p j d).trans ?_
  fin_cases j
  · exact qHead_at Q QG c s 0 _ _ (by norm_num) rfl (by norm_num) _ _ p d
  · exact qHead_at Q QG c s 1 _ _ (by norm_num) rfl (by norm_num) _ _ p d
  · exact qHead_at Q QG c s 2 _ _ (by norm_num) rfl (by norm_num) _ _ p d
  · exact qHead_at Q QG c s 3 _ _ (by norm_num) rfl (by norm_num) _ _ p d
  · exact qHead_at Q QG c s 4 _ _ (by norm_num) rfl (by norm_num) _ _ p d
  · exact qHead_at Q QG c s 5 _ _ (by norm_num) rfl (by norm_num) _ _ p d
  · exact qHead_at Q QG c s 6 _ _ (by norm_num) rfl (by norm_num) _ _ p d
  · exact qHead_at Q QG c s 7 _ _ (by norm_num) rfl (by norm_num) _ _ p d
  · exact qHead_at Q QG c s 8 _ _ (by norm_num) rfl (by norm_num) _ _ p d
  · exact qHead_at Q QG c s 9 _ _ (by norm_num) rfl (by norm_num) _ _ p d
  · exact qHead_at Q QG c s 10 _ _ (by norm_num) rfl (by norm_num) _ _ p d
  · exact qHead_at Q QG c s 11 _ _ (by norm_num) rfl (by norm_num) _ _ p d
  · exact qHead_at Q QG c s 12 _ _ (by norm_num) rfl (by norm_num) _ _ p d
  · exact qHead_at Q QG c s 13 _ _ (by norm_num) rfl (by norm_num) _ _ p d
  · exact qHead_at Q QG c s 14 _ _ (by norm_num) rfl (by norm_num) _ _ p d
  · exact qHead_at Q QG c s 15 _ _ (by norm_num) rfl (by norm_num) _ _ p d

end Cert.QkvRefIdeal.Whole
end
-- ==== Proof.QkvRefKeys.lean ====
module

public import proofs.«01_k».proof.Proof.QkvRefHead
public import proofs.«01_k».proof.Proof.Gen.QkvRefIdeal.Value
public import Idealize.ShloMosaic.Lib.Pipeline.ReadBack

@[expose] public section

set_option maxRecDepth 16384

noncomputable section

namespace Cert.QkvRefIdeal.Whole

open Cert.QkvRefIdeal Cert.QkvRefIdeal.Gen Idealize.ShloMosaic Idealize.ShloMosaic.TcCoe Idealize.SL.Sem
open Cert.QkvIdeal.Blocks (mean cols dims eps top bot normRow codeOf rowTop tokScale tokCode projOf rotOf tok gains codesW scalesW projW fromW turnedW queriesW keysW valuesW)
open Cert.GateUpIdeal.Blocks (abs' scaleOf)

/-! ## The four key heads and the four value heads -/

variable (K V : FVec Ideal S1280x512 .f32) (KG : Vec Ideal S4x128 .f32) (c s : Vec Ideal S1280x64 .f32) (ks vs : FVec Ideal S1x4 .f32)

/-- Key head `0`. -/
theorem k0_eq : k0_pay65 (F := Ideal) ks (k0_pay62 KG) (k0_pay63 K) (k0_pay64 K) c s
      = headCode (head (extractStridedSlice S1280x128 ![0, 0] K slices_S1280x512_o0_0_S1280x128) (extractStridedSlice S1x128 ![0, 0] KG slices_S4x128_o0_0_S1x128) c s) (extractStridedSlice S1x1 ![0, 0] ks slices_S1x4_o0_0_S1x1) := rfl

/-- Key head `1`. -/
theorem k1_eq : k0_pay69 (F := Ideal) ks (k0_pay66 KG) (k0_pay67 K) (k0_pay68 K) (Scalar.ofBits (F := Ideal) .f32 0x43000000#32) c s
      = headCode (head (extractStridedSlice S1280x128 ![0, 128] K slices_S1280x512_o0_128_S1280x128) (extractStridedSlice S1x128 ![1, 0] KG slices_S4x128_o1_0_S1x128) c s) (extractStridedSlice S1x1 ![0, 1] ks slices_S1x4_o0_1_S1x1) := rfl

/-- Key head `2`. -/
theorem k2_eq : k0_pay74 (F := Ideal) ks (k0_pay70 KG) (k0_pay71 K) (k0_pay72 K) (k0_pay73 (F := Ideal)) c s
      = headCode (head (extractStridedSlice S1280x128 ![0, 256] K slices_S1280x512_o0_256_S1280x128) (extractStridedSlice S1x128 ![2, 0] KG slices_S4x128_o2_0_S1x128) c s) (extractStridedSlice S1x1 ![0, 2] ks slices_S1x4_o0_2_S1x1) := rfl

/-- Four heads of codes side by side. -/
def join4 (h0 h1 h2 h3 : FVec Ideal S1280x128 .fp8e4m3) : FVec Ideal S1280x512 .fp8e4m3 :=
  concatenate S1280x512 1 [⟨S1280x128, h0⟩, ⟨S1280x128, h1⟩, ⟨S1280x128, h2⟩, ⟨S1280x128, h3⟩]
    concatenates_S1280x128_S1280x128_S1280x128_S1280x128_S1280x512_d1

/-- The last key head, and the four side by side. -/
theorem pay77_eq (h0 h1 h2 : FVec Ideal S1280x128 .fp8e4m3) :
    k0_pay77 (F := Ideal) ks h0 h1 h2 (k0_pay75 KG) (k0_pay76 K) c s
      = join4 h0 h1 h2 (headCode (head (extractStridedSlice S1280x128 ![0, 384] K slices_S1280x512_o0_384_S1280x128) (extractStridedSlice S1x128 ![3, 0] KG slices_S4x128_o3_0_S1x128) c s) (extractStridedSlice S1x1 ![0, 3] ks slices_S1x4_o0_3_S1x1)) := rfl

/-- Value head `0`. -/
theorem v0_eq : k0_pay78 (F := Ideal) V vs = headCode (extractStridedSlice S1280x128 ![0, 0] V slices_S1280x512_o0_0_S1280x128) (extractStridedSlice S1x1 ![0, 0] vs slices_S1x4_o0_0_S1x1) := rfl

/-- Value head `1`. -/
theorem v1_eq : k0_pay79 (F := Ideal) V vs = headCode (extractStridedSlice S1280x128 ![0, 128] V slices_S1280x512_o0_128_S1280x128) (extractStridedSlice S1x1 ![0, 1] vs slices_S1x4_o0_1_S1x1) := rfl

/-- The last two value heads, and the four side by side. -/
theorem pay1_eq (h0 h1 : FVec Ideal S1280x128 .fp8e4m3) : k0_pay1 (F := Ideal) V vs h0 h1
      = join4 h0 h1 (headCode (extractStridedSlice S1280x128 ![0, 256] V slices_S1280x512_o0_256_S1280x128) (extractStridedSlice S1x1 ![0, 2] vs slices_S1x4_o0_2_S1x1)) (headCode (extractStridedSlice S1280x128 ![0, 384] V slices_S1280x512_o0_384_S1280x128) (extractStridedSlice S1x1 ![0, 3] vs slices_S1x4_o0_3_S1x1)) := rfl

/-- Four heads of codes side by side, read at a lane of head `j`. -/
theorem join4_at (o : Fin 4 → FVec Ideal S1280x128 .fp8e4m3) (p : Fin 1280) (j : Fin 4) (d : Fin 128) :
    join4 (o 0) (o 1) (o 2) (o 3) (ix2 p ⟨j.val * 128 + d.val, by omega⟩) = o j (ix2 p d) := by
  unfold join4
  fin_cases j
  all_goals pointwise
  · rw [dif_neg (by omega), dif_neg (by omega), dif_pos (by omega)]
    exact congrArg (fun x => o 2 (ix2 p x)) (Fin.ext (by show 256 + d.val - 128 - 128 = d.val; omega))
  · rw [dif_neg (by omega), dif_neg (by omega), dif_neg (by omega)]
    exact congrArg (fun x => o 3 (ix2 p x)) (Fin.ext (by show 384 + d.val - 128 - 128 - 128 = d.val; omega))

/-- A key head at head `h`'s places, read at an entry. -/
theorem kHead_at (h b a g : ℕ) (hb : b = 128 * h) (ha : a = h) (hg : g = h) (hh : h < 4) (s1 : S1280x512.Slices ![0, b] S1280x128) (s2 : S4x128.Slices ![a, 0] S1x128)
    (s3 : S1x4.Slices ![0, g] S1x1) (p : Fin 1280) (d : Fin 128) :
    headCode (head (extractStridedSlice S1280x128 ![0, b] K s1) (extractStridedSlice S1x128 ![a, 0] KG s2) c s) (extractStridedSlice S1x1 ![0, g] ks s3) (ix2 p d)
      = codeOf (rotOf (normRow dims (fun e => K (ix2 p ⟨128 * h + e.val, by omega⟩)) (fun e => KG (ix2 ⟨h, hh⟩ e))) (fun m => c (ix2 p m)) (fun m => s (ix2 p m)) d)
        (ks (ix2 0 ⟨h, hh⟩)) := by
  subst hb ha hg
  rw [headCode_at, head_at]
  refine congrArg₂ codeOf (congrArg₂ (fun v u => rotOf (normRow dims v u) _ _ d) (funext fun e => ?_) (funext fun e => ?_)) ?_
  · refine congrArg K ?_
    ext a; fin_cases a <;> simp [ix2]
  · refine congrArg KG ?_
    ext a; fin_cases a <;> simp [ix2]
  · refine congrArg ks ?_
    ext a; fin_cases a <;> simp [ix2]

/-- A value head at head `h`'s places, read at an entry. -/
theorem vHead_at (h b g : ℕ) (hb : b = 128 * h) (hg : g = h) (hh : h < 4) (s1 : S1280x512.Slices ![0, b] S1280x128)
    (s3 : S1x4.Slices ![0, g] S1x1) (p : Fin 1280) (d : Fin 128) :
    headCode (extractStridedSlice S1280x128 ![0, b] V s1) (extractStridedSlice S1x1 ![0, g] vs s3) (ix2 p d)
      = codeOf (V (ix2 p ⟨128 * h + d.val, by omega⟩)) (vs (ix2 0 ⟨h, hh⟩)) := by
  subst hb hg
  rw [headCode_at]
  refine congrArg₂ codeOf (congrArg V ?_) (congrArg vs ?_)
  · ext a; fin_cases a <;> simp [ix2]
  · ext a; fin_cases a <;> simp [ix2]

/-- The four key heads, read at a lane of head `j`. -/
theorem keyHeads_at (p : Fin 1280) (j : Fin 4) (d : Fin 128) :
    join4 (headCode (head (extractStridedSlice S1280x128 ![0, 0] K slices_S1280x512_o0_0_S1280x128) (extractStridedSlice S1x128 ![0, 0] KG slices_S4x128_o0_0_S1x128) c s) (extractStridedSlice S1x1 ![0, 0] ks slices_S1x4_o0_0_S1x1)) (headCode (head (extractStridedSlice S1280x128 ![0, 128] K slices_S1280x512_o0_128_S1280x128) (extractStridedSlice S1x128 ![1, 0] KG slices_S4x128_o1_0_S1x128) c s) (extractStridedSlice S1x1 ![0, 1] ks slices_S1x4_o0_1_S1x1)) (headCode (head (extractStridedSlice S1280x128 ![0, 256] K slices_S1280x512_o0_256_S1280x128) (extractStridedSlice S1x128 ![2, 0] KG slices_S4x128_o2_0_S1x128) c s) (extractStridedSlice S1x1 ![0, 2] ks slices_S1x4_o0_2_S1x1)) (headCode (head (extractStridedSlice S1280x128 ![0, 384] K slices_S1280x512_o0_384_S1280x128) (extractStridedSlice S1x128 ![3, 0] KG slices_S4x128_o3_0_S1x128) c s) (extractStridedSlice S1x1 ![0, 3] ks slices_S1x4_o0_3_S1x1)) (ix2 p ⟨j.val * 128 + d.val, by omega⟩)
      = codeOf (rotOf (normRow dims (fun e => K (ix2 p ⟨128 * j.val + e.val, by omega⟩)) (fun e => KG (ix2 j e))) (fun m => c (ix2 p m)) (fun m => s (ix2 p m)) d)
        (ks (ix2 0 j)) := by
  refine (join4_at ![_, _, _, _] p j d).trans ?_
  fin_cases j
  · exact kHead_at K KG c s ks 0 _ _ _ (by norm_num) rfl rfl (by norm_num) _ _ _ p d
  · exact kHead_at K KG c s ks 1 _ _ _ (by norm_num) rfl rfl (by norm_num) _ _ _ p d
  · exact kHead_at K KG c s ks 2 _ _ _ (by norm_num) rfl rfl (by norm_num) _ _ _ p d
  · exact kHead_at K KG c s ks 3 _ _ _ (by norm_num) rfl rfl (by norm_num) _ _ _ p d

/-- The four value heads, read at a lane of head `j`. -/
theorem valueHeads_at (p : Fin 1280) (j : Fin 4) (d : Fin 128) :
    join4 (headCode (extractStridedSlice S1280x128 ![0, 0] V slices_S1280x512_o0_0_S1280x128) (extractStridedSlice S1x1 ![0, 0] vs slices_S1x4_o0_0_S1x1)) (headCode (extractStridedSlice S1280x128 ![0, 128] V slices_S1280x512_o0_128_S1280x128) (extractStridedSlice S1x1 ![0, 1] vs slices_S1x4_o0_1_S1x1)) (headCode (extractStridedSlice S1280x128 ![0, 256] V slices_S1280x512_o0_256_S1280x128) (extractStridedSlice S1x1 ![0, 2] vs slices_S1x4_o0_2_S1x1)) (headCode (extractStridedSlice S1280x128 ![0, 384] V slices_S1280x512_o0_384_S1280x128) (extractStridedSlice S1x1 ![0, 3] vs slices_S1x4_o0_3_S1x1)) (ix2 p ⟨j.val * 128 + d.val, by omega⟩)
      = codeOf (V (ix2 p ⟨128 * j.val + d.val, by omega⟩)) (vs (ix2 0 j)) := by
  refine (join4_at ![_, _, _, _] p j d).trans ?_
  fin_cases j
  · exact vHead_at V vs 0 _ _ (by norm_num) rfl (by norm_num) _ _ p d
  · exact vHead_at V vs 1 _ _ (by norm_num) rfl (by norm_num) _ _ p d
  · exact vHead_at V vs 2 _ _ (by norm_num) rfl (by norm_num) _ _ p d
  · exact vHead_at V vs 3 _ _ (by norm_num) rfl (by norm_num) _ _ p d

end Cert.QkvRefIdeal.Whole
end
-- ==== Proof.QkvReference.lean ====
module

public import proofs.«01_k».proof.Proof.QkvRefToken
public import proofs.«01_k».proof.Proof.QkvRefQueries
public import proofs.«01_k».proof.Proof.QkvRefKeys
public import proofs.«01_k».proof.Proof.Gen.QkvRefIdeal.Value
public import Idealize.ShloMosaic.Lib.Pipeline.ReadBack

@[expose] public section

set_option maxRecDepth 16384

noncomputable section

namespace Cert.QkvRefIdeal.Whole

open Cert.QkvRefIdeal Cert.QkvRefIdeal.Gen Idealize.ShloMosaic Idealize.ShloMosaic.TcCoe Idealize.SL.Sem
open Cert.QkvIdeal.Blocks (mean cols dims eps top bot normRow codeOf rowTop tokScale tokCode projOf rotOf tok gains codesW scalesW projW fromW turnedW queriesW keysW valuesW)
open Cert.GateUpIdeal.Blocks (abs' scaleOf)

/-! ## The reference's results -/

variable (a0 : Vec Ideal S1280x4096 .bf16) (a1 : Vec Ideal S4096 .f32) (a2 : Vec Ideal S4096x17408 .fp8e4m3) (a3 : Vec Ideal S17408 .f32) (a4 : Vec Ideal S16x128 .f32) (a5 : Vec Ideal S4x128 .f32) (a6 a7 : Vec Ideal S1280x64 .f32) (a8 a9 : Vec Ideal S4 .f32)

/-- The scales the projection reads. -/
theorem pay80_eq : k0_pay80 (F := Ideal) a0 a1 a2 a3 a4 a5 a6 a7 a8 a9 = k0_pay3 a0 a1 := by
  unfold k0_pay80
  rw [ld_x, ld_g]

/-- The codes the projection reads. -/
theorem pay81_eq : k0_pay81 (F := Ideal) a0 a1 a2 a3 a4 a5 a6 a7 a8 a9 = k0_pay4 a0 a1 := by
  unfold k0_pay81
  rw [ld_x, ld_g]

/-- The query columns. -/
theorem pay82_eq : k0_pay82 (F := Ideal) a0 a1 a2 a3 a4 a5 a6 a7 a8 a9 = k0_pay6 (k0_pay3 a0 a1) (k0_pay4 a0 a1) a2 a3 := by
  unfold k0_pay82
  rw [pay80_eq, pay81_eq, ld_w, ld_ws]

/-- The key columns. -/
theorem pay83_eq : k0_pay83 (F := Ideal) a0 a1 a2 a3 a4 a5 a6 a7 a8 a9 = k0_pay7 (k0_pay3 a0 a1) (k0_pay4 a0 a1) a2 a3 := by
  unfold k0_pay83
  rw [pay80_eq, pay81_eq, ld_w, ld_ws]

/-- The value columns. -/
theorem pay84_eq : k0_pay84 (F := Ideal) a0 a1 a2 a3 a4 a5 a6 a7 a8 a9 = k0_pay8 (k0_pay3 a0 a1) (k0_pay4 a0 a1) a2 a3 := by
  unfold k0_pay84
  rw [pay80_eq, pay81_eq, ld_w, ld_ws]

/-- The key scales. -/
theorem pay85_at (g : Fin 4) : k0_pay85 (F := Ideal) a0 a1 a2 a3 a4 a5 a6 a7 a8 a9 (ix2 0 g) = a8 (ix1 g) := by
  unfold k0_pay85 k0_pay9
  rw [ld_hs]
  pointwise

/-- The value scales. -/
theorem pay86_at (g : Fin 4) : k0_pay86 (F := Ideal) a0 a1 a2 a3 a4 a5 a6 a7 a8 a9 (ix2 0 g) = a9 (ix1 g) := by
  unfold k0_pay86 k0_pay10
  rw [ld_hs]
  pointwise

/-- The reference's token codes. -/
theorem G10_eq : Value.G10 (F := Ideal) a0 a1 a2 a3 a4 a5 a6 a7 a8 a9 = codesW a0 a1 := by
  funext y
  obtain ⟨p, q, rfl⟩ : ∃ (p : Fin 1280) (q : Fin 4096), y = ix2 p q := ⟨y 0, y 1, by ext a; fin_cases a <;> rfl⟩
  exact code_at a0 a1 p q

/-- The reference's token scales. -/
theorem G11_eq : Value.G11 (F := Ideal) a0 a1 a2 a3 a4 a5 a6 a7 a8 a9 = scalesW a0 a1 := by
  funext y
  obtain ⟨p, q, rfl⟩ : ∃ (p : Fin 1280) (q : Fin 1), y = ix2 p q := ⟨y 0, y 1, by ext a; fin_cases a <;> rfl⟩
  exact scale_at a0 a1 p q

/-- The reference's queries are its sixteen heads side by side, rounded. -/
theorem G12_of (Q : FVec Ideal S1280x2048 .f32) (hQ : k0_pay6 (k0_pay3 a0 a1) (k0_pay4 a0 a1) a2 a3 = Q) :
    Value.G12 (F := Ideal) a0 a1 a2 a3 a4 a5 a6 a7 a8 a9 = truncf .bf16 (join16
      (head (extractStridedSlice S1280x128 ![0, 0] Q slices_S1280x2048_o0_0_S1280x128) (extractStridedSlice S1x128 ![0, 0] a4 slices_S16x128_o0_0_S1x128) a6 a7)
      (head (extractStridedSlice S1280x128 ![0, 128] Q slices_S1280x2048_o0_128_S1280x128) (extractStridedSlice S1x128 ![1, 0] a4 slices_S16x128_o1_0_S1x128) a6 a7)
      (head (extractStridedSlice S1280x128 ![0, 256] Q slices_S1280x2048_o0_256_S1280x128) (extractStridedSlice S1x128 ![2, 0] a4 slices_S16x128_o2_0_S1x128) a6 a7)
      (head (extractStridedSlice S1280x128 ![0, 384] Q slices_S1280x2048_o0_384_S1280x128) (extractStridedSlice S1x128 ![3, 0] a4 slices_S16x128_o3_0_S1x128) a6 a7)
      (head (extractStridedSlice S1280x128 ![0, 512] Q slices_S1280x2048_o0_512_S1280x128) (extractStridedSlice S1x128 ![4, 0] a4 slices_S16x128_o4_0_S1x128) a6 a7)
      (head (extractStridedSlice S1280x128 ![0, 640] Q slices_S1280x2048_o0_640_S1280x128) (extractStridedSlice S1x128 ![5, 0] a4 slices_S16x128_o5_0_S1x128) a6 a7)
      (head (extractStridedSlice S1280x128 ![0, 768] Q slices_S1280x2048_o0_768_S1280x128) (extractStridedSlice S1x128 ![6, 0] a4 slices_S16x128_o6_0_S1x128) a6 a7)
      (head (extractStridedSlice S1280x128 ![0, 896] Q slices_S1280x2048_o0_896_S1280x128) (extractStridedSlice S1x128 ![7, 0] a4 slices_S16x128_o7_0_S1x128) a6 a7)
      (head (extractStridedSlice S1280x128 ![0, 1024] Q slices_S1280x2048_o0_1024_S1280x128) (extractStridedSlice S1x128 ![8, 0] a4 slices_S16x128_o8_0_S1x128) a6 a7)
      (head (extractStridedSlice S1280x128 ![0, 1152] Q slices_S1280x2048_o0_1152_S1280x128) (extractStridedSlice S1x128 ![9, 0] a4 slices_S16x128_o9_0_S1x128) a6 a7)
      (head (extractStridedSlice S1280x128 ![0, 1280] Q slices_S1280x2048_o0_1280_S1280x128) (extractStridedSlice S1x128 ![10, 0] a4 slices_S16x128_o10_0_S1x128) a6 a7)
      (head (extractStridedSlice S1280x128 ![0, 1408] Q slices_S1280x2048_o0_1408_S1280x128) (extractStridedSlice S1x128 ![11, 0] a4 slices_S16x128_o11_0_S1x128) a6 a7)
      (head (extractStridedSlice S1280x128 ![0, 1536] Q slices_S1280x2048_o0_1536_S1280x128) (extractStridedSlice S1x128 ![12, 0] a4 slices_S16x128_o12_0_S1x128) a6 a7)
      (head (extractStridedSlice S1280x128 ![0, 1664] Q slices_S1280x2048_o0_1664_S1280x128) (extractStridedSlice S1x128 ![13, 0] a4 slices_S16x128_o13_0_S1x128) a6 a7)
      (head (extractStridedSlice S1280x128 ![0, 1792] Q slices_S1280x2048_o0_1792_S1280x128) (extractStridedSlice S1x128 ![14, 0] a4 slices_S16x128_o14_0_S1x128) a6 a7)
      (head (extractStridedSlice S1280x128 ![0, 1920] Q slices_S1280x2048_o0_1920_S1280x128) (extractStridedSlice S1x128 ![15, 0] a4 slices_S16x128_o15_0_S1x128) a6 a7)) bitsLt_bf16_f32 := by
  unfold Value.G12
  rw [pay82_eq, pay80_eq, pay81_eq, pay61_eq, q0_eq, hQ]
  rw [q1_eq, q2_eq, q3_eq, q4_eq, q5_eq, q6_eq, q7_eq, q8_eq, q9_eq, q10_eq, q11_eq, q12_eq, q13_eq, q14_eq]

/-- The reference's queries. -/
theorem G12_eq : Value.G12 (F := Ideal) a0 a1 a2 a3 a4 a5 a6 a7 a8 a9 = queriesW a0 a1 a2 a3 a4 a6 a7 := by
  rw [G12_of a0 a1 a2 a3 a4 a5 a6 a7 a8 a9 _ rfl]
  funext y
  obtain ⟨p, e, rfl⟩ : ∃ (p : Fin 1280) (e : Fin 2048), y = ix2 p e := ⟨y 0, y 1, by ext a; fin_cases a <;> rfl⟩
  have he : e = ⟨128 * (e.val / 128 % 16) + e.val % 128, by omega⟩ :=
    Fin.ext (by show e.val = 128 * (e.val / 128 % 16) + e.val % 128; omega)
  have hn : 128 * (e.val / 128) = 128 * (e.val / 128 % 16) := by omega
  refine (congrArg (fun x => join16 _ _ _ _ _ _ _ _ _ _ _ _ _ _ _ _ (ix2 p x)) he).trans ?_
  refine (queryHeads_at _ a4 a6 a7 p ⟨e.val / 128 % 16, Nat.mod_lt _ (by decide)⟩ ⟨e.val % 128, Nat.mod_lt _ (by decide)⟩).trans ?_
  refine congrArg (fun v => rotOf (normRow dims v _) _ _ _) (funext fun i => ?_)
  exact queryCols_at a0 a1 a2 a3 p _ _ (by show (128 * (e.val / 128) + i.val) % 3072 = 128 * (e.val / 128 % 16) + i.val; omega)

/-- The reference's key codes are its four heads side by side. -/
theorem G13_of (K : FVec Ideal S1280x512 .f32) (hK : k0_pay7 (k0_pay3 a0 a1) (k0_pay4 a0 a1) a2 a3 = K)
    (ks : FVec Ideal S1x4 .f32) (hk : k0_pay85 (F := Ideal) a0 a1 a2 a3 a4 a5 a6 a7 a8 a9 = ks) :
    Value.G13 (F := Ideal) a0 a1 a2 a3 a4 a5 a6 a7 a8 a9 = join4
      (headCode (head (extractStridedSlice S1280x128 ![0, 0] K slices_S1280x512_o0_0_S1280x128) (extractStridedSlice S1x128 ![0, 0] a5 slices_S4x128_o0_0_S1x128) a6 a7) (extractStridedSlice S1x1 ![0, 0] ks slices_S1x4_o0_0_S1x1))
      (headCode (head (extractStridedSlice S1280x128 ![0, 128] K slices_S1280x512_o0_128_S1280x128) (extractStridedSlice S1x128 ![1, 0] a5 slices_S4x128_o1_0_S1x128) a6 a7) (extractStridedSlice S1x1 ![0, 1] ks slices_S1x4_o0_1_S1x1))
      (headCode (head (extractStridedSlice S1280x128 ![0, 256] K slices_S1280x512_o0_256_S1280x128) (extractStridedSlice S1x128 ![2, 0] a5 slices_S4x128_o2_0_S1x128) a6 a7) (extractStridedSlice S1x1 ![0, 2] ks slices_S1x4_o0_2_S1x1))
      (headCode (head (extractStridedSlice S1280x128 ![0, 384] K slices_S1280x512_o0_384_S1280x128) (extractStridedSlice S1x128 ![3, 0] a5 slices_S4x128_o3_0_S1x128) a6 a7) (extractStridedSlice S1x1 ![0, 3] ks slices_S1x4_o0_3_S1x1)) := by
  unfold Value.G13
  rw [pay83_eq, hK, hk, pay77_eq, k0_eq, k1_eq, k2_eq]

/-- The reference's key codes. -/
theorem G13_eq : Value.G13 (F := Ideal) a0 a1 a2 a3 a4 a5 a6 a7 a8 a9 = keysW a0 a1 a2 a3 a5 a6 a7 a8 := by
  rw [G13_of a0 a1 a2 a3 a4 a5 a6 a7 a8 a9 _ rfl _ rfl]
  funext y
  obtain ⟨p, e, rfl⟩ : ∃ (p : Fin 1280) (e : Fin 512), y = ix2 p e := ⟨y 0, y 1, by ext a; fin_cases a <;> rfl⟩
  have he : e = ⟨(e.val / 128 % 4) * 128 + e.val % 128, by omega⟩ :=
    Fin.ext (by show e.val = (e.val / 128 % 4) * 128 + e.val % 128; omega)
  refine (congrArg (fun x => join4 _ _ _ _ (ix2 p x)) he).trans ?_
  refine (keyHeads_at _ a5 a6 a7 _ p ⟨e.val / 128 % 4, Nat.mod_lt _ (by decide)⟩ ⟨e.val % 128, Nat.mod_lt _ (by decide)⟩).trans ?_
  refine congrArg₂ codeOf (congrArg (fun v => rotOf (normRow dims v _) _ _ _) (funext fun i => ?_)) (pay85_at a0 a1 a2 a3 a4 a5 a6 a7 a8 a9 _)
  exact keyCols_at a0 a1 a2 a3 p _ _ (by show (2048 + 128 * (e.val / 128) + i.val) % 3072 = 2048 + (128 * (e.val / 128 % 4) + i.val); omega)

/-- The reference's value codes are its four heads side by side. -/
theorem G14_of (V : FVec Ideal S1280x512 .f32) (hV : k0_pay8 (k0_pay3 a0 a1) (k0_pay4 a0 a1) a2 a3 = V)
    (vs : FVec Ideal S1x4 .f32) (hv : k0_pay86 (F := Ideal) a0 a1 a2 a3 a4 a5 a6 a7 a8 a9 = vs) :
    Value.G14 (F := Ideal) a0 a1 a2 a3 a4 a5 a6 a7 a8 a9 = join4
      (headCode (extractStridedSlice S1280x128 ![0, 0] V slices_S1280x512_o0_0_S1280x128) (extractStridedSlice S1x1 ![0, 0] vs slices_S1x4_o0_0_S1x1))
      (headCode (extractStridedSlice S1280x128 ![0, 128] V slices_S1280x512_o0_128_S1280x128) (extractStridedSlice S1x1 ![0, 1] vs slices_S1x4_o0_1_S1x1))
      (headCode (extractStridedSlice S1280x128 ![0, 256] V slices_S1280x512_o0_256_S1280x128) (extractStridedSlice S1x1 ![0, 2] vs slices_S1x4_o0_2_S1x1))
      (headCode (extractStridedSlice S1280x128 ![0, 384] V slices_S1280x512_o0_384_S1280x128) (extractStridedSlice S1x1 ![0, 3] vs slices_S1x4_o0_3_S1x1)) := by
  unfold Value.G14
  rw [pay84_eq, hV, hv, pay1_eq, v0_eq, v1_eq]

/-- The reference's value codes. -/
theorem G14_eq : Value.G14 (F := Ideal) a0 a1 a2 a3 a4 a5 a6 a7 a8 a9 = valuesW a0 a1 a2 a3 a9 := by
  rw [G14_of a0 a1 a2 a3 a4 a5 a6 a7 a8 a9 _ rfl _ rfl]
  funext y
  obtain ⟨p, e, rfl⟩ : ∃ (p : Fin 1280) (e : Fin 512), y = ix2 p e := ⟨y 0, y 1, by ext a; fin_cases a <;> rfl⟩
  have he : e = ⟨(e.val / 128 % 4) * 128 + e.val % 128, by omega⟩ :=
    Fin.ext (by show e.val = (e.val / 128 % 4) * 128 + e.val % 128; omega)
  refine (congrArg (fun x => join4 _ _ _ _ (ix2 p x)) he).trans ?_
  refine (valueHeads_at _ _ p ⟨e.val / 128 % 4, Nat.mod_lt _ (by decide)⟩ ⟨e.val % 128, Nat.mod_lt _ (by decide)⟩).trans ?_
  refine congrArg₂ codeOf ?_ (pay86_at a0 a1 a2 a3 a4 a5 a6 a7 a8 a9 _)
  exact valueCols_at a0 a1 a2 a3 p _ _ (by show (2560 + 128 * (e.val / 128) + e.val % 128) % 3072 = 2560 + (128 * (e.val / 128 % 4) + e.val % 128); omega)

end Cert.QkvRefIdeal.Whole
end
-- ==== Proof.QkvEq.lean ====
module

public import proofs.«01_k».proof.Defs
public import proofs.«01_k».proof.Proof.QkvKernel
public import proofs.«01_k».proof.Proof.QkvReference

@[expose] public section

set_option maxRecDepth 16384

noncomputable section

namespace Cert.Proof

open Idealize.ShloMosaic Idealize.ShloMosaic.TcCoe Idealize.SL.Sem

/-- From equal arguments, the first call and its reference leave the same token codes and scales, the same queries and the
    same key and value codes over the reals. -/
theorem algebraic_Qkv : algebraic_QkvIdeal_QkvRefIdeal := fun m ρ m' ρ' _ hag =>
  ⟨fun c => _, fun c => _, fun c => _, fun c => _, fun c => _,
    (θ_run _ _ _).mono (fun _ h c => ⟨(h c).1.trans (QkvIdeal.Blocks.arr10_eq m c),
        (h c).2.1.trans (QkvIdeal.Blocks.arr11_eq m c), (h c).2.2.1.trans (QkvIdeal.Blocks.arr12_eq m c),
        (h c).2.2.2.1.trans (QkvIdeal.Blocks.arr13_eq m c), (h c).2.2.2.2.1.trans (QkvIdeal.Blocks.arr14_eq m c), (h c).2.2.2.2.2⟩)
      (QkvIdeal.Value.run_blocks m ρ),
    (θ_run _ _ _).mono (fun _ h c => by
      obtain ⟨h0, h1, h2, h3, h4, h5, h6, h7, h8, h9⟩ := hag c
      refine ⟨((h c).1.trans (QkvRefIdeal.Whole.G10_eq _ _ _ _ _ _ _ _ _ _)).trans ?_,
        ((h c).2.1.trans (QkvRefIdeal.Whole.G11_eq _ _ _ _ _ _ _ _ _ _)).trans ?_,
        ((h c).2.2.1.trans (QkvRefIdeal.Whole.G12_eq _ _ _ _ _ _ _ _ _ _)).trans ?_,
        ((h c).2.2.2.1.trans (QkvRefIdeal.Whole.G13_eq _ _ _ _ _ _ _ _ _ _)).trans ?_,
        ((h c).2.2.2.2.1.trans (QkvRefIdeal.Whole.G14_eq _ _ _ _ _ _ _ _ _ _)).trans ?_, (h c).2.2.2.2.2⟩
      · rw [h0, h1]
      · rw [h0, h1]
      · rw [h0, h1, h2, h3, h4, h6, h7]
      · rw [h0, h1, h2, h3, h5, h6, h7, h8]
      · rw [h0, h1, h2, h3, h9]) (QkvRefIdeal.Value.run m' ρ')⟩

end Cert.Proof
end
-- ==== Proof.lean ====
module

public import proofs.«01_k».proof.Proof.Gen.OutIdeal.Value
public import proofs.«01_k».proof.Proof.Gen.OutRefIdeal.Value
public import proofs.«01_k».proof.Proof.Gen.GateUpIdeal.Value
public import proofs.«01_k».proof.Proof.Gen.GateUpRefIdeal.Value
public import proofs.«01_k».proof.Proof.Gen.HQuantIdeal.Value
public import proofs.«01_k».proof.Proof.Gen.HQuantRefIdeal.Value
public import proofs.«01_k».proof.Defs
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Skeleton
public import proofs.«01_k».proof.Proof.Gen.OutRefIdeal.Launch
public import proofs.«01_k».proof.Proof.Gen.OutRefIdeal.Points
public import proofs.«01_k».proof.Proof.Gen.OutRefIdeal.Frame
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.HQuant
public import proofs.«01_k».proof.Proof.Gen.HQuant.Skeleton
public import proofs.«01_k».proof.Proof.Gen.HQuant.Launch
public import proofs.«01_k».proof.Proof.Gen.HQuant.Points
public import proofs.«01_k».proof.Proof.Gen.HQuant.Frame
public import proofs.«01_k».proof.Proof.Gen.HQuantIdeal
public import proofs.«01_k».proof.Proof.Gen.HQuantIdeal.Skeleton
public import proofs.«01_k».proof.Proof.Gen.HQuantIdeal.Launch
public import proofs.«01_k».proof.Proof.Gen.HQuantIdeal.Points
public import proofs.«01_k».proof.Proof.Gen.HQuantIdeal.Frame
public import proofs.«01_k».proof.Proof.Gen.HQuantRefIdeal
public import proofs.«01_k».proof.Proof.Gen.HQuantRefIdeal.Skeleton
public import proofs.«01_k».proof.Proof.Gen.HQuantRefIdeal.Launch
public import proofs.«01_k».proof.Proof.Gen.HQuantRefIdeal.Points
public import proofs.«01_k».proof.Proof.Gen.HQuantRefIdeal.Frame
public import proofs.«01_k».proof.Proof.OutEq
public import proofs.«01_k».proof.Proof.GateUpEq
public import proofs.«01_k».proof.Proof.HQuantEq
public import proofs.«01_k».proof.Proof.AttnEq
public import proofs.«01_k».proof.Proof.QkvEq
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Skeleton
public import proofs.«01_k».proof.Proof.Gen.AttnRefIdeal.Launch
public import proofs.«01_k».proof.Proof.Gen.AttnRefIdeal.Points
public import proofs.«01_k».proof.Proof.Gen.AttnRefIdeal.Frame
public import proofs.«01_k».proof.Proof.Gen.AttnRefIdeal.Value
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.QkvRefIdeal.Value
public import Idealize.ShloMosaic.Adequacy
public import Idealize.ShloMosaic.Init

@[expose] public section

noncomputable section

namespace Cert.Proof

open Idealize.ShloMosaic Idealize.SL.Sem Cert.Out

/-- Every claim: each program runs and leaves what its frame says, and each kernel call equals its reference over the reals. -/
theorem claim : Cert.Claim := ⟨Cert.Out.Gen.facts, Cert.OutIdeal.Gen.facts, Cert.OutRefIdeal.Gen.facts, Cert.GateUp.Gen.facts, Cert.GateUpIdeal.Gen.facts, Cert.GateUpRefIdeal.Gen.facts, Cert.HQuant.Gen.facts, Cert.HQuantIdeal.Gen.facts, Cert.HQuantRefIdeal.Gen.facts, Cert.Attn.Gen.facts, Cert.AttnIdeal.Gen.facts, Cert.AttnRefIdeal.Gen.facts, Cert.Qkv.Gen.facts, Cert.QkvIdeal.Gen.facts, Cert.QkvRefIdeal.Gen.facts,
    fun m ρ _ => Cert.Out.Gen.frame m ρ,
    fun m ρ _ => Cert.OutIdeal.Gen.frame m ρ,
    fun m ρ _ => Cert.OutRefIdeal.Gen.frame m ρ,
    fun m ρ _ => Cert.GateUp.Gen.frame m ρ,
    fun m ρ _ => Cert.GateUpIdeal.Gen.frame m ρ,
    fun m ρ _ => Cert.GateUpRefIdeal.Gen.frame m ρ,
    fun m ρ _ => Cert.HQuant.Gen.frame m ρ,
    fun m ρ _ => Cert.HQuantIdeal.Gen.frame m ρ,
    fun m ρ _ => Cert.HQuantRefIdeal.Gen.frame m ρ,
    fun m ρ _ => Cert.Attn.Gen.frame m ρ,
    fun m ρ _ => Cert.AttnIdeal.Gen.frame m ρ,
    fun m ρ _ => Cert.AttnRefIdeal.Gen.frame m ρ,
    fun m ρ _ => Cert.Qkv.Gen.frame m ρ,
    fun m ρ _ => Cert.QkvIdeal.Gen.frame m ρ,
    fun m ρ _ => Cert.QkvRefIdeal.Gen.frame m ρ,
    trivial, algebraic_Out, trivial, algebraic_GateUp, trivial, algebraic_HQuant, trivial, algebraic_Attn, trivial, algebraic_Qkv⟩

end Cert.Proof

end
